-- ==== Defs.lean ====
def Pre_Kernel [hPre_tables_sorted : Cert.Pre_tables_sorted.Facts] (m : (ℓ : Loc Cert.Kernel.nD Cert.Kernel.τ Cert.Kernel.sig) → Buf (Elt Bits) ℓ) : Prop :=
  ∀ c : Dev Cert.Kernel.nD,
    (Cert.Pre_tables_sorted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_tables_sorted : Cert.Pre_tables_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_tables_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_sorted [hPre_tables_sorted : Cert.Pre_tables_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_tables_sorted : Cert.Pre_tables_sorted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tables_sorted : Cert.Pre_tables_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tables_sorted [hReferenceIdeal : Cert.ReferenceIdeal.Facts] [hPre_tables_sorted : Cert.Pre_tables_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_sorted : Cert.Pre_tables_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23_0) = v0 c
          ∧ r.2.mem ((c.tc : Thread Cert.ReferenceIdeal.nD Cert.ReferenceIdeal.τ).loc Cert.ReferenceIdeal.main_v23_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tables_sorted : Cert.Pre_tables_sorted.Facts),
    quiescent_Kernel (hKernel := hKernel) (hPre_tables_sorted := hPre_tables_sorted)
    ∧ quiescent_KernelIdeal (hKernelIdeal := hKernelIdeal) (hPre_tables_sorted := hPre_tables_sorted)
    ∧ quiescent_ReferenceIdeal (hReferenceIdeal := hReferenceIdeal)
    ∧ quiescent_ReferenceIdeal_pre_tables_sorted (hReferenceIdeal := hReferenceIdeal) (hPre_tables_sorted := hPre_tables_sorted)
    ∧ preserves_Kernel_KernelIdeal
    ∧ algebraic_KernelIdeal_ReferenceIdeal (hKernelIdeal := hKernelIdeal) (hReferenceIdeal := hReferenceIdeal) (hPre_tables_sorted := hPre_tables_sorted)
-- ==== Pre_tables_sorted.lean ====
abbrev S26 : Shape := ⟨1, ![26]⟩
abbrev S17x128 : Shape := ⟨2, ![17, 128]⟩
abbrev S2048x32000 : Shape := ⟨2, ![2048, 32000]⟩
abbrev S2048x25 : Shape := ⟨2, ![2048, 25]⟩
abbrev S3584x2048 : Shape := ⟨2, ![3584, 2048]⟩
abbrev S2240x3584 : Shape := ⟨2, ![2240, 3584]⟩
abbrev S2176 : Shape := ⟨1, ![2176]⟩
abbrev S25x2176 : Shape := ⟨2, ![25, 2176]⟩
abbrev S25 : Shape := ⟨1, ![25]⟩
abbrev S25x1 : Shape := ⟨2, ![25, 1]⟩
abbrev S1x2176 : Shape := ⟨2, ![1, 2176]⟩
abbrev S2175 : Shape := ⟨1, ![2175]⟩
abbrev S1 : Shape := ⟨1, ![1]⟩
abbrev S_ : Shape := ⟨0, ![]⟩

class Facts : Prop where
  shapeCasts_S17x128_S2176 : S17x128.ShapeCasts S2176
  slices_S26_S25_0 : S26.Slices ![0] S25
  bcast_S25_S25x1_0 : S25.BroadcastsInDim S25x1 (![0] : Fin 1 → Fin S25x1.rank)
  bcast_S25x1_S25x2176_0_1 : S25x1.BroadcastsInDim S25x2176 (![0, 1] : Fin 2 → Fin S25x2176.rank)
  slices_S26_S25_1 : S26.Slices ![1] S25
  bcast_S2176_S1x2176_1 : S2176.BroadcastsInDim S1x2176 (![1] : Fin 1 → Fin S1x2176.rank)
  bcast_S1x2176_S25x2176_0_1 : S1x2176.BroadcastsInDim S25x2176 (![0, 1] : Fin 2 → Fin S25x2176.rank)
  slices_S2176_S2175_1 : S2176.Slices ![1] S2175
  slices_S2176_S1_2175 : S2176.Slices ![2175] S1
  concatenates_S2175_S1_S2176_d0 : Shape.Concatenates [S2175, S1] S2176 0
  bcast_S_S25x2176 : S_.BroadcastsInDim S25x2176 (![] : Fin 0 → Fin S25x2176.rank)

variable [Facts]

def fn_part2 {F : FTy → Type} [FloatOps F] (main_v39 : IVec S25x2176 1) (main_v40 : IVec S25x2176 1) (main_v41 : IVec S25x2176 1) : IVec S25x2176 1 :=
  let main_v42 : IVec S25x2176 1 := ori main_v40 main_v41
  let main_v43 : IVec S25x2176 1 := andi main_v39 main_v42
  main_v43

def fn_part1 {F : FTy → Type} [FloatOps F] (main_v1 : IVec S25x2176 32) (main_v2 : IVec S25x2176 32) (main_v5 : IVec S25x2176 32) (main_v8 : IVec S25x2176 32) (main_v10 : IVec S25x2176 32) (main_v15 : IVec S25x2176 32) (main_v18 : IVec S25x2176 1) (main_v21 : IVec S25x2176 1) (main_c_0 : IVec S_ 32) : IVec S25x2176 1 :=
  let main_v22 : IVec S25x2176 32 := broadcastInDim S25x2176 ![] bcast_S_S25x2176 main_c_0
  let main_v23 : IVec S25x2176 32 := muli main_v2 main_v22
  let main_c_1 : IVec S_ 32 := constantI S_ 32 1280#32
  let main_v24 : IVec S25x2176 32 := broadcastInDim S25x2176 ![] bcast_S_S25x2176 main_c_1
  let main_v25 : IVec S25x2176 32 := addi main_v23 main_v24
  let main_v26 : IVec S25x2176 1 := cmpi .slt main_v10 main_v25
  let main_v27 : IVec S25x2176 1 := andi main_v21 main_v26
  let main_c_2 : IVec S_ 32 := constantI S_ 32 1#32
  let main_v28 : IVec S25x2176 32 := broadcastInDim S25x2176 ![] bcast_S_S25x2176 main_c_2
  let main_v29 : IVec S25x2176 32 := addi main_v1 main_v28
  let main_v30 : IVec S25x2176 1 := cmpi .sge main_v29 main_v8
  let main_v31 : IVec S25x2176 1 := cmpi .slt main_v10 main_v15
  let main_v32 : IVec S25x2176 1 := ori main_v30 main_v31
  let main_c_3 : IVec S_ 32 := constantI S_ 32 0#32
  let main_v33 : IVec S25x2176 32 := broadcastInDim S25x2176 ![] bcast_S_S25x2176 main_c_3
  let main_v34 : IVec S25x2176 1 := cmpi .sge main_v5 main_v33
  let main_v35 : IVec S25x2176 1 := cmpi .sle main_v5 main_v8
  let main_v36 : IVec S25x2176 1 := andi main_v34 main_v35
  let main_c_4 : IVec S_ 32 := constantI S_ 32 2176#32
  let main_v37 : IVec S25x2176 32 := broadcastInDim S25x2176 ![] bcast_S_S25x2176 main_c_4
  let main_v38 : IVec S25x2176 1 := cmpi .sle main_v8 main_v37
  let main_v39 : IVec S25x2176 1 := andi main_v36 main_v38
  let main_v40 : IVec S25x2176 1 := noti main_v18
  let main_v41 : IVec S25x2176 1 := andi main_v27 main_v32
  fn_part2 (F := F) main_v39 main_v40 main_v41

def fn {F : FTy → Type} [FloatOps F] (main_arg0 : IVec S26 32) (main_arg1 : IVec S17x128 32) (main_arg2 : FVec F S2048x32000 .fp8e5m2) (main_arg3 : FVec F S2048x25 .f32) (main_arg4 : FVec F S3584x2048 .bf16) (main_arg5 : FVec F S2240x3584 .f32) : IVec S25x2176 1 :=
  let main_v0 : IVec S2176 32 := shapeCast S2176 main_arg1 shapeCasts_S17x128_S2176
  let main_v1 : IVec S25x2176 32 := iotaInDim S25x2176 32 1
  let main_v2 : IVec S25x2176 32 := iotaInDim S25x2176 32 0
  let main_v3 : IVec S25 32 := (extractStridedSlice S25 ![0] · slices_S26_S25_0) main_arg0
  let main_v4 : IVec S25x1 32 := broadcastInDim S25x1 ![0] bcast_S25_S25x1_0 main_v3
  let main_v5 : IVec S25x2176 32 := broadcastInDim S25x2176 ![0, 1] bcast_S25x1_S25x2176_0_1 main_v4
  let main_v6 : IVec S25 32 := (extractStridedSlice S25 ![1] · slices_S26_S25_1) main_arg0
  let main_v7 : IVec S25x1 32 := broadcastInDim S25x1 ![0] bcast_S25_S25x1_0 main_v6
  let main_v8 : IVec S25x2176 32 := broadcastInDim S25x2176 ![0, 1] bcast_S25x1_S25x2176_0_1 main_v7
  let main_v9 : IVec S1x2176 32 := broadcastInDim S1x2176 ![1] bcast_S2176_S1x2176_1 main_v0
  let main_v10 : IVec S25x2176 32 := broadcastInDim S25x2176 ![0, 1] bcast_S1x2176_S25x2176_0_1 main_v9
  let main_v11 : IVec S2175 32 := (extractStridedSlice S2175 ![1] · slices_S2176_S2175_1) main_v0
  let main_v12 : IVec S1 32 := (extractStridedSlice S1 ![2175] · slices_S2176_S1_2175) main_v0
  let main_v13 : IVec S2176 32 := (fun a b => concatenate S2176 0 [⟨S2175, a⟩, ⟨S1, b⟩] concatenates_S2175_S1_S2176_d0) main_v11 main_v12
  let main_v14 : IVec S1x2176 32 := broadcastInDim S1x2176 ![1] bcast_S2176_S1x2176_1 main_v13
  let main_v15 : IVec S25x2176 32 := broadcastInDim S25x2176 ![0, 1] bcast_S1x2176_S25x2176_0_1 main_v14
  let main_v16 : IVec S25x2176 1 := cmpi .sle main_v5 main_v1
  let main_v17 : IVec S25x2176 1 := cmpi .slt main_v1 main_v8
  let main_v18 : IVec S25x2176 1 := andi main_v16 main_v17
  let main_c : IVec S_ 32 := constantI S_ 32 1280#32
  let main_v19 : IVec S25x2176 32 := broadcastInDim S25x2176 ![] bcast_S_S25x2176 main_c
  let main_v20 : IVec S25x2176 32 := muli main_v2 main_v19
  let main_v21 : IVec S25x2176 1 := cmpi .sle main_v20 main_v10
  let main_c_0 : IVec S_ 32 := constantI S_ 32 1280#32
  fn_part1 (F := F) main_v1 main_v2 main_v5 main_v8 main_v10 main_v15 main_v18 main_v21 main_c_0
-- ==== Kernel.lean ====
abbrev S26 : Shape := ⟨1, ![26]⟩
abbrev S17x128 : Shape := ⟨2, ![17, 128]⟩
abbrev S2048x32000 : Shape := ⟨2, ![2048, 32000]⟩
abbrev S2048x25 : Shape := ⟨2, ![2048, 25]⟩
abbrev S3584x2048 : Shape := ⟨2, ![3584, 2048]⟩
abbrev S2240x3584 : Shape := ⟨2, ![2240, 3584]⟩
abbrev S32000x3584 : Shape := ⟨2, ![32000, 3584]⟩
abbrev S32000x56 : Shape := ⟨2, ![32000, 56]⟩
abbrev S2048x1280 : Shape := ⟨2, ![2048, 1280]⟩
abbrev S1280x3584 : Shape := ⟨2, ![1280, 3584]⟩
abbrev S1280x56 : Shape := ⟨2, ![1280, 56]⟩
abbrev S5x2048x256 : Shape := ⟨3, ![5, 2048, 256]⟩
abbrev S2x512x256 : Shape := ⟨3, ![2, 512, 256]⟩
abbrev S56x256 : Shape := ⟨2, ![56, 256]⟩
abbrev S_ : Shape := ⟨0, ![]⟩
abbrev S1 : Shape := ⟨1, ![1]⟩
abbrev S1x1 : Shape := ⟨2, ![1, 1]⟩
abbrev S1x3584 : Shape := ⟨2, ![1, 3584]⟩
abbrev S2048 : Shape := ⟨1, ![2048]⟩
abbrev S2048x1 : Shape := ⟨2, ![2048, 1]⟩
abbrev S2048x128 : Shape := ⟨2, ![2048, 128]⟩
abbrev S1x2048x128 : Shape := ⟨3, ![1, 2048, 128]⟩
abbrev S512x2048 : Shape := ⟨2, ![512, 2048]⟩
abbrev S1x2048x256 : Shape := ⟨3, ![1, 2048, 256]⟩
abbrev S2048x256 : Shape := ⟨2, ![2048, 256]⟩
abbrev S512x256 : Shape := ⟨2, ![512, 256]⟩
abbrev S1x512x256 : Shape := ⟨3, ![1, 512, 256]⟩
abbrev S256x512 : Shape := ⟨2, ![256, 512]⟩
abbrev S8x64x256 : Shape := ⟨3, ![8, 64, 256]⟩
abbrev S8x256 : Shape := ⟨2, ![8, 256]⟩
abbrev S8x1x256 : Shape := ⟨3, ![8, 1, 256]⟩
abbrev S8x255x256 : Shape := ⟨3, ![8, 255, 256]⟩
abbrev S256x56 : Shape := ⟨2, ![256, 56]⟩

abbrev nBuf : Space → Nat
  | .hbm => 6
  | .vmem => 12
  | .smem => 2
  | _ => 0

abbrev bufTy : (tb : Table) → Fin (tcTables nBuf tb) → BufTy
  | .hbm, ⟨0, _⟩ => ⟨S2048x32000, .fp8e5m2⟩
  | .hbm, ⟨1, _⟩ => ⟨S2048x25, .f32⟩
  | .hbm, ⟨2, _⟩ => ⟨S3584x2048, .bf16⟩
  | .hbm, ⟨3, _⟩ => ⟨S2240x3584, .f32⟩
  | .hbm, ⟨4, _⟩ => ⟨S32000x3584, .fp8e4m3⟩
  | .hbm, ⟨5, _⟩ => ⟨S32000x56, .f32⟩
  | .local _ .vmem, ⟨0, _⟩ => ⟨S2048x1280, .fp8e5m2⟩
  | .local _ .vmem, ⟨1, _⟩ => ⟨S2048x1280, .fp8e5m2⟩
  | .local _ .vmem, ⟨2, _⟩ => ⟨S2048x25, .f32⟩
  | .local _ .vmem, ⟨3, _⟩ => ⟨S3584x2048, .bf16⟩
  | .local _ .vmem, ⟨4, _⟩ => ⟨S1280x3584, .fp8e4m3⟩
  | .local _ .vmem, ⟨5, _⟩ => ⟨S1280x3584, .fp8e4m3⟩
  | .local _ .vmem, ⟨6, _⟩ => ⟨S1280x56, .f32⟩
  | .local _ .vmem, ⟨7, _⟩ => ⟨S1280x56, .f32⟩
  | .local _ .vmem, ⟨8, _⟩ => ⟨S5x2048x256, .bf16⟩
  | .local _ .vmem, ⟨9, _⟩ => ⟨S1280x3584, .f32⟩
  | .local _ .vmem, ⟨10, _⟩ => ⟨S2x512x256, .f32⟩
  | .local _ .vmem, ⟨11, _⟩ => ⟨S56x256, .f32⟩
  | .local _ .smem, ⟨0, _⟩ => ⟨S26, .i32⟩
  | .local _ .smem, ⟨1, _⟩ => ⟨S17x128, .i32⟩
  | _, _ => ⟨S2048x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0_0 : Ref sig .tc := ⟨.hbm, 4, rfl⟩
abbrev main_v0_1 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.addi arg0 c1_i32
  let v3 : Index := Scalar.indexCast v2
  ![v3.toNat]
@[reducible] def k0_t1_loop (v1 : BitVec 32) (v4 : BitVec 32) : Scf.Loop 32 :=
  let v8 : BitVec 32 := Scalar.subi v4 v1
  let c1_i32_2 : BitVec 32 := 1#32
  let v10 : BitVec 32 := Scalar.divsi v8 c1_i32_2
  let v11 : BitVec 32 := Scalar.muli v10 c1_i32_2
  let v12 : BitVec 32 := Scalar.addi v1 v11
  let c1_i32_3 : BitVec 32 := 1#32
  ⟨v1, v12, c1_i32_3⟩

def k0_off3 (v1 : BitVec 32) (v4 : BitVec 32) (k0_t1 : Fin (k0_t1_loop v1 v4).trips) : Fin 2 → Nat :=
  let c1_i32_3 : BitVec 32 := 1#32
  let arg14 : BitVec 32 := Scf.iv v1 c1_i32_3 k0_t1
  let c0_i32_51 : BitVec 32 := 0#32
  let v91 : BitVec 1 := Scalar.cmpi .sgt arg14 c0_i32_51
  let v92 : BitVec 32 := Scalar.extui v91
  let c0_i32_52 : BitVec 32 := 0#32
  let v93 : BitVec 1 := Scalar.cmpi .slt arg14 c0_i32_52
  let v94 : BitVec 32 := Scalar.extui v93
  let v95 : BitVec 32 := Scalar.subi v92 v94
  let c128_i32 : BitVec 32 := 128#32
  let c0_i32_53 : BitVec 32 := 0#32
  let v96 : BitVec 1 := Scalar.cmpi .sgt c128_i32 c0_i32_53
  let v97 : BitVec 32 := Scalar.extui v96
  let c0_i32_54 : BitVec 32 := 0#32
  let v98 : BitVec 1 := Scalar.cmpi .slt c128_i32 c0_i32_54
  let v99 : BitVec 32 := Scalar.extui v98
  let v100 : BitVec 32 := Scalar.subi v97 v99
  let v101 : BitVec 1 := Scalar.cmpi .ne v95 v100
  let v102 : BitVec 32 := Scalar.remsi arg14 c128_i32
  let c0_i32_55 : BitVec 32 := 0#32
  let v103 : BitVec 1 := Scalar.cmpi .ne v102 c0_i32_55
  let v104 : BitVec 1 := Scalar.andi v101 v103
  let v90 : BitVec 32 := Scalar.divsi arg14 c128_i32
  let c1_i32_56 : BitVec 32 := 1#32
  let v105 : BitVec 32 := Scalar.subi v90 c1_i32_56
  let v106 : BitVec 32 := Scalar.select v104 v105 v90
  let v117 : Index := Scalar.indexCast v106
  let c128_i32_57 : BitVec 32 := 128#32
  let c0_i32_58 : BitVec 32 := 0#32
  let v107 : BitVec 1 := Scalar.cmpi .eq c128_i32_57 c0_i32_58
  let c1_i32_59 : BitVec 32 := 1#32
  let v108 : BitVec 32 := Scalar.select v107 c1_i32_59 c128_i32_57
  let v109 : BitVec 32 := Scalar.remsi arg14 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let v118 : Index := Scalar.indexCast v116
  ![v117.toNat, v118.toNat]
def k0_off4 (i : grid0.Coords) (v119 : BitVec 32) : Fin 2 → Nat :=
  let arg0 : BitVec 32 := BitVec.ofNat 32 (i 0).val
  let c1280_i32 : BitVec 32 := 1280#32
  let v120 : BitVec 32 := Scalar.muli arg0 c1280_i32
  let v121 : BitVec 32 := Scalar.subi v119 v120
  let c0_i32_63 : BitVec 32 := 0#32
  ![v121.toNat, 0]

def k0_chk2 (i : grid0.Coords) (v119 : BitVec 32) : Prop :=
  (∀ a, (k0_off4 i v119) a + S1x3584.size a ≤ S1280x3584.size a)
theorem k0_off4_inb : ∀ (i : grid0.Coords) (v119 : BitVec 32) (k0_hw2 : k0_chk2 i v119), ∀ a, (k0_off4 i v119) a + S1x3584.size a ≤ S1280x3584.size a := fun i v119 k0_hw2 => k0_hw2

def k0_off5 (v1 : BitVec 32) (v4 : BitVec 32) (k0_t1 : Fin (k0_t1_loop v1 v4).trips) : Fin 2 → Nat :=
  let c1_i32_3 : BitVec 32 := 1#32
  let arg14 : BitVec 32 := Scf.iv v1 c1_i32_3 k0_t1
  let c0_i32_64 : BitVec 32 := 0#32
  ![arg14.toNat, 0]
@[reducible] def k0_t2_loop (v1 : BitVec 32) (v4 : BitVec 32) : Scf.Loop 32 :=
  let v8 : BitVec 32 := Scalar.subi v4 v1
  let c1_i32_2 : BitVec 32 := 1#32
  let v10 : BitVec 32 := Scalar.divsi v8 c1_i32_2
  let v11 : BitVec 32 := Scalar.muli v10 c1_i32_2
  let v12 : BitVec 32 := Scalar.addi v1 v11
  let v9 : BitVec 32 := Scalar.addi v1 v8
  let c1_i32_4 : BitVec 32 := 1#32
  ⟨v12, v9, c1_i32_4⟩
def k0_off6 (v1 : BitVec 32) (v4 : BitVec 32) (k0_t2 : Fin (k0_t2_loop v1 v4).trips) : Fin 2 → Nat :=
  let v8 : BitVec 32 := Scalar.subi v4 v1
  let c1_i32_2 : BitVec 32 := 1#32
  let v10 : BitVec 32 := Scalar.divsi v8 c1_i32_2
  let v11 : BitVec 32 := Scalar.muli v10 c1_i32_2
  let v12 : BitVec 32 := Scalar.addi v1 v11
  let c1_i32_4 : BitVec 32 := 1#32
  let arg14 : BitVec 32 := Scf.iv v12 c1_i32_4 k0_t2
  let c0_i32_51 : BitVec 32 := 0#32
  let v91 : BitVec 1 := Scalar.cmpi .sgt arg14 c0_i32_51
  let v92 : BitVec 32 := Scalar.extui v91
  let c0_i32_52 : BitVec 32 := 0#32
  let v93 : BitVec 1 := Scalar.cmpi .slt arg14 c0_i32_52
  let v94 : BitVec 32 := Scalar.extui v93
  let v95 : BitVec 32 := Scalar.subi v92 v94
  let c128_i32 : BitVec 32 := 128#32
  let c0_i32_53 : BitVec 32 := 0#32
  let v96 : BitVec 1 := Scalar.cmpi .sgt c128_i32 c0_i32_53
  let v97 : BitVec 32 := Scalar.extui v96
  let c0_i32_54 : BitVec 32 := 0#32
  let v98 : BitVec 1 := Scalar.cmpi .slt c128_i32 c0_i32_54
  let v99 : BitVec 32 := Scalar.extui v98
  let v100 : BitVec 32 := Scalar.subi v97 v99
  let v101 : BitVec 1 := Scalar.cmpi .ne v95 v100
  let v102 : BitVec 32 := Scalar.remsi arg14 c128_i32
  let c0_i32_55 : BitVec 32 := 0#32
  let v103 : BitVec 1 := Scalar.cmpi .ne v102 c0_i32_55
  let v104 : BitVec 1 := Scalar.andi v101 v103
  let v90 : BitVec 32 := Scalar.divsi arg14 c128_i32
  let c1_i32_56 : BitVec 32 := 1#32
  let v105 : BitVec 32 := Scalar.subi v90 c1_i32_56
  let v106 : BitVec 32 := Scalar.select v104 v105 v90
  let v117 : Index := Scalar.indexCast v106
  let c128_i32_57 : BitVec 32 := 128#32
  let c0_i32_58 : BitVec 32 := 0#32
  let v107 : BitVec 1 := Scalar.cmpi .eq c128_i32_57 c0_i32_58
  let c1_i32_59 : BitVec 32 := 1#32
  let v108 : BitVec 32 := Scalar.select v107 c1_i32_59 c128_i32_57
  let v109 : BitVec 32 := Scalar.remsi arg14 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let v118 : Index := Scalar.indexCast v116
  ![v117.toNat, v118.toNat]
def k0_off7 (i : grid0.Coords) (v119 : BitVec 32) : Fin 2 → Nat :=
  let arg0 : BitVec 32 := BitVec.ofNat 32 (i 0).val
  let c1280_i32 : BitVec 32 := 1280#32
  let v120 : BitVec 32 := Scalar.muli arg0 c1280_i32
  let v121 : BitVec 32 := Scalar.subi v119 v120
  let c0_i32_63 : BitVec 32 := 0#32
  ![v121.toNat, 0]

def k0_chk3 (i : grid0.Coords) (v119 : BitVec 32) : Prop :=
  (∀ a, (k0_off7 i v119) a + S1x3584.size a ≤ S1280x3584.size a)
theorem k0_off7_inb : ∀ (i : grid0.Coords) (v119 : BitVec 32) (k0_hw3 : k0_chk3 i v119), ∀ a, (k0_off7 i v119) a + S1x3584.size a ≤ S1280x3584.size a := fun i v119 k0_hw3 => k0_hw3

def k0_off8 (v1 : BitVec 32) (v4 : BitVec 32) (k0_t2 : Fin (k0_t2_loop v1 v4).trips) : Fin 2 → Nat :=
  let v8 : BitVec 32 := Scalar.subi v4 v1
  let c1_i32_2 : BitVec 32 := 1#32
  let v10 : BitVec 32 := Scalar.divsi v8 c1_i32_2
  let v11 : BitVec 32 := Scalar.muli v10 c1_i32_2
  let v12 : BitVec 32 := Scalar.addi v1 v11
  let c1_i32_4 : BitVec 32 := 1#32
  let arg14 : BitVec 32 := Scf.iv v12 c1_i32_4 k0_t2
  let c0_i32_64 : BitVec 32 := 0#32
  ![arg14.toNat, 0]
@[reducible] def k0_t3_loop (v1 : BitVec 32) (v4 : BitVec 32) : Scf.Loop 32 :=
  let v84 : BitVec 32 := Scalar.subi v4 v1
  let c1_i32_45 : BitVec 32 := 1#32
  let v86 : BitVec 32 := Scalar.divsi v84 c1_i32_45
  let v87 : BitVec 32 := Scalar.muli v86 c1_i32_45
  let v88 : BitVec 32 := Scalar.addi v1 v87
  let c1_i32_46 : BitVec 32 := 1#32
  ⟨v1, v88, c1_i32_46⟩
def k0_off9 (v1 : BitVec 32) (v4 : BitVec 32) (k0_t3 : Fin (k0_t3_loop v1 v4).trips) : Fin 2 → Nat :=
  let c1_i32_46 : BitVec 32 := 1#32
  let arg14 : BitVec 32 := Scf.iv v1 c1_i32_46 k0_t3
  let c0_i32_51 : BitVec 32 := 0#32
  let v91 : BitVec 1 := Scalar.cmpi .sgt arg14 c0_i32_51
  let v92 : BitVec 32 := Scalar.extui v91
  let c0_i32_52 : BitVec 32 := 0#32
  let v93 : BitVec 1 := Scalar.cmpi .slt arg14 c0_i32_52
  let v94 : BitVec 32 := Scalar.extui v93
  let v95 : BitVec 32 := Scalar.subi v92 v94
  let c128_i32 : BitVec 32 := 128#32
  let c0_i32_53 : BitVec 32 := 0#32
  let v96 : BitVec 1 := Scalar.cmpi .sgt c128_i32 c0_i32_53
  let v97 : BitVec 32 := Scalar.extui v96
  let c0_i32_54 : BitVec 32 := 0#32
  let v98 : BitVec 1 := Scalar.cmpi .slt c128_i32 c0_i32_54
  let v99 : BitVec 32 := Scalar.extui v98
  let v100 : BitVec 32 := Scalar.subi v97 v99
  let v101 : BitVec 1 := Scalar.cmpi .ne v95 v100
  let v102 : BitVec 32 := Scalar.remsi arg14 c128_i32
  let c0_i32_55 : BitVec 32 := 0#32
  let v103 : BitVec 1 := Scalar.cmpi .ne v102 c0_i32_55
  let v104 : BitVec 1 := Scalar.andi v101 v103
  let v90 : BitVec 32 := Scalar.divsi arg14 c128_i32
  let c1_i32_56 : BitVec 32 := 1#32
  let v105 : BitVec 32 := Scalar.subi v90 c1_i32_56
  let v106 : BitVec 32 := Scalar.select v104 v105 v90
  let v117 : Index := Scalar.indexCast v106
  let c128_i32_57 : BitVec 32 := 128#32
  let c0_i32_58 : BitVec 32 := 0#32
  let v107 : BitVec 1 := Scalar.cmpi .eq c128_i32_57 c0_i32_58
  let c1_i32_59 : BitVec 32 := 1#32
  let v108 : BitVec 32 := Scalar.select v107 c1_i32_59 c128_i32_57
  let v109 : BitVec 32 := Scalar.remsi arg14 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let v118 : Index := Scalar.indexCast v116
  ![v117.toNat, v118.toNat]
def k0_off10 (i : grid0.Coords) (v119 : BitVec 32) : Fin 2 → Nat :=
  let arg0 : BitVec 32 := BitVec.ofNat 32 (i 0).val
  let c1280_i32 : BitVec 32 := 1280#32
  let v120 : BitVec 32 := Scalar.muli arg0 c1280_i32
  let v121 : BitVec 32 := Scalar.subi v119 v120
  let c0_i32_63 : BitVec 32 := 0#32
  ![v121.toNat, 0]

def k0_chk4 (i : grid0.Coords) (v119 : BitVec 32) : Prop :=
  (∀ a, (k0_off10 i v119) a + S1x3584.size a ≤ S1280x3584.size a)
theorem k0_off10_inb : ∀ (i : grid0.Coords) (v119 : BitVec 32) (k0_hw4 : k0_chk4 i v119), ∀ a, (k0_off10 i v119) a + S1x3584.size a ≤ S1280x3584.size a := fun i v119 k0_hw4 => k0_hw4

def k0_off11 (v1 : BitVec 32) (v4 : BitVec 32) (k0_t3 : Fin (k0_t3_loop v1 v4).trips) : Fin 2 → Nat :=
  let c1_i32_46 : BitVec 32 := 1#32
  let arg14 : BitVec 32 := Scf.iv v1 c1_i32_46 k0_t3
  let c0_i32_64 : BitVec 32 := 0#32
  ![arg14.toNat, 0]
@[reducible] def k0_t4_loop (v1 : BitVec 32) (v4 : BitVec 32) : Scf.Loop 32 :=
  let v84 : BitVec 32 := Scalar.subi v4 v1
  let c1_i32_45 : BitVec 32 := 1#32
  let v86 : BitVec 32 := Scalar.divsi v84 c1_i32_45
  let v87 : BitVec 32 := Scalar.muli v86 c1_i32_45
  let v88 : BitVec 32 := Scalar.addi v1 v87
  let v85 : BitVec 32 := Scalar.addi v1 v84
  let c1_i32_47 : BitVec 32 := 1#32
  ⟨v88, v85, c1_i32_47⟩
def k0_off12 (v1 : BitVec 32) (v4 : BitVec 32) (k0_t4 : Fin (k0_t4_loop v1 v4).trips) : Fin 2 → Nat :=
  let v84 : BitVec 32 := Scalar.subi v4 v1
  let c1_i32_45 : BitVec 32 := 1#32
  let v86 : BitVec 32 := Scalar.divsi v84 c1_i32_45
  let v87 : BitVec 32 := Scalar.muli v86 c1_i32_45
  let v88 : BitVec 32 := Scalar.addi v1 v87
  let c1_i32_47 : BitVec 32 := 1#32
  let arg14 : BitVec 32 := Scf.iv v88 c1_i32_47 k0_t4
  let c0_i32_51 : BitVec 32 := 0#32
  let v91 : BitVec 1 := Scalar.cmpi .sgt arg14 c0_i32_51
  let v92 : BitVec 32 := Scalar.extui v91
  let c0_i32_52 : BitVec 32 := 0#32
  let v93 : BitVec 1 := Scalar.cmpi .slt arg14 c0_i32_52
  let v94 : BitVec 32 := Scalar.extui v93
  let v95 : BitVec 32 := Scalar.subi v92 v94
  let c128_i32 : BitVec 32 := 128#32
  let c0_i32_53 : BitVec 32 := 0#32
  let v96 : BitVec 1 := Scalar.cmpi .sgt c128_i32 c0_i32_53
  let v97 : BitVec 32 := Scalar.extui v96
  let c0_i32_54 : BitVec 32 := 0#32
  let v98 : BitVec 1 := Scalar.cmpi .slt c128_i32 c0_i32_54
  let v99 : BitVec 32 := Scalar.extui v98
  let v100 : BitVec 32 := Scalar.subi v97 v99
  let v101 : BitVec 1 := Scalar.cmpi .ne v95 v100
  let v102 : BitVec 32 := Scalar.remsi arg14 c128_i32
  let c0_i32_55 : BitVec 32 := 0#32
  let v103 : BitVec 1 := Scalar.cmpi .ne v102 c0_i32_55
  let v104 : BitVec 1 := Scalar.andi v101 v103
  let v90 : BitVec 32 := Scalar.divsi arg14 c128_i32
  let c1_i32_56 : BitVec 32 := 1#32
  let v105 : BitVec 32 := Scalar.subi v90 c1_i32_56
  let v106 : BitVec 32 := Scalar.select v104 v105 v90
  let v117 : Index := Scalar.indexCast v106
  let c128_i32_57 : BitVec 32 := 128#32
  let c0_i32_58 : BitVec 32 := 0#32
  let v107 : BitVec 1 := Scalar.cmpi .eq c128_i32_57 c0_i32_58
  let c1_i32_59 : BitVec 32 := 1#32
  let v108 : BitVec 32 := Scalar.select v107 c1_i32_59 c128_i32_57
  let v109 : BitVec 32 := Scalar.remsi arg14 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let v118 : Index := Scalar.indexCast v116
  ![v117.toNat, v118.toNat]
def k0_off13 (i : grid0.Coords) (v119 : BitVec 32) : Fin 2 → Nat :=
  let arg0 : BitVec 32 := BitVec.ofNat 32 (i 0).val
  let c1280_i32 : BitVec 32 := 1280#32
  let v120 : BitVec 32 := Scalar.muli arg0 c1280_i32
  let v121 : BitVec 32 := Scalar.subi v119 v120
  let c0_i32_63 : BitVec 32 := 0#32
  ![v121.toNat, 0]

def k0_chk5 (i : grid0.Coords) (v119 : BitVec 32) : Prop :=
  (∀ a, (k0_off13 i v119) a + S1x3584.size a ≤ S1280x3584.size a)
theorem k0_off13_inb : ∀ (i : grid0.Coords) (v119 : BitVec 32) (k0_hw5 : k0_chk5 i v119), ∀ a, (k0_off13 i v119) a + S1x3584.size a ≤ S1280x3584.size a := fun i v119 k0_hw5 => k0_hw5

def k0_off14 (v1 : BitVec 32) (v4 : BitVec 32) (k0_t4 : Fin (k0_t4_loop v1 v4).trips) : Fin 2 → Nat :=
  let v84 : BitVec 32 := Scalar.subi v4 v1
  let c1_i32_45 : BitVec 32 := 1#32
  let v86 : BitVec 32 := Scalar.divsi v84 c1_i32_45
  let v87 : BitVec 32 := Scalar.muli v86 c1_i32_45
  let v88 : BitVec 32 := Scalar.addi v1 v87
  let c1_i32_47 : BitVec 32 := 1#32
  let arg14 : BitVec 32 := Scf.iv v88 c1_i32_47 k0_t4
  let c0_i32_64 : BitVec 32 := 0#32
  ![arg14.toNat, 0]

def k0_chk1 (v1 : BitVec 32) (v4 : BitVec 32) : Prop :=
  ((k0_t1_loop v1 v4).OK) ∧
  (∀ k0_t1 : Fin (k0_t1_loop v1 v4).trips, ∀ a, (k0_off3 v1 v4 k0_t1) a + S1x1.size a ≤ S17x128.size a) ∧
  (∀ k0_t1 : Fin (k0_t1_loop v1 v4).trips, ∀ a, (k0_off5 v1 v4 k0_t1) a + S1x3584.size a ≤ S2240x3584.size a) ∧
  ((k0_t2_loop v1 v4).OK) ∧
  (∀ k0_t2 : Fin (k0_t2_loop v1 v4).trips, ∀ a, (k0_off6 v1 v4 k0_t2) a + S1x1.size a ≤ S17x128.size a) ∧
  (∀ k0_t2 : Fin (k0_t2_loop v1 v4).trips, ∀ a, (k0_off8 v1 v4 k0_t2) a + S1x3584.size a ≤ S2240x3584.size a) ∧
  ((k0_t3_loop v1 v4).OK) ∧
  (∀ k0_t3 : Fin (k0_t3_loop v1 v4).trips, ∀ a, (k0_off9 v1 v4 k0_t3) a + S1x1.size a ≤ S17x128.size a) ∧
  (∀ k0_t3 : Fin (k0_t3_loop v1 v4).trips, ∀ a, (k0_off11 v1 v4 k0_t3) a + S1x3584.size a ≤ S2240x3584.size a) ∧
  ((k0_t4_loop v1 v4).OK) ∧
  (∀ k0_t4 : Fin (k0_t4_loop v1 v4).trips, ∀ a, (k0_off12 v1 v4 k0_t4) a + S1x1.size a ≤ S17x128.size a) ∧
  (∀ k0_t4 : Fin (k0_t4_loop v1 v4).trips, ∀ a, (k0_off14 v1 v4 k0_t4) a + S1x3584.size a ≤ S2240x3584.size a)
theorem k0_t1_ok : ∀ (v1 : BitVec 32) (v4 : BitVec 32) (k0_hw1 : k0_chk1 v1 v4), (k0_t1_loop v1 v4).OK := fun v1 v4 k0_hw1 => k0_hw1.1
theorem k0_off3_inb : ∀ (v1 : BitVec 32) (v4 : BitVec 32) (k0_hw1 : k0_chk1 v1 v4) (k0_t1 : Fin (k0_t1_loop v1 v4).trips), ∀ a, (k0_off3 v1 v4 k0_t1) a + S1x1.size a ≤ S17x128.size a := fun v1 v4 k0_hw1 k0_t1 => k0_hw1.2.1 k0_t1
theorem k0_off5_inb : ∀ (v1 : BitVec 32) (v4 : BitVec 32) (k0_hw1 : k0_chk1 v1 v4) (k0_t1 : Fin (k0_t1_loop v1 v4).trips), ∀ a, (k0_off5 v1 v4 k0_t1) a + S1x3584.size a ≤ S2240x3584.size a := fun v1 v4 k0_hw1 k0_t1 => k0_hw1.2.2.1 k0_t1
theorem k0_t2_ok : ∀ (v1 : BitVec 32) (v4 : BitVec 32) (k0_hw1 : k0_chk1 v1 v4), (k0_t2_loop v1 v4).OK := fun v1 v4 k0_hw1 => k0_hw1.2.2.2.1
theorem k0_off6_inb : ∀ (v1 : BitVec 32) (v4 : BitVec 32) (k0_hw1 : k0_chk1 v1 v4) (k0_t2 : Fin (k0_t2_loop v1 v4).trips), ∀ a, (k0_off6 v1 v4 k0_t2) a + S1x1.size a ≤ S17x128.size a := fun v1 v4 k0_hw1 k0_t2 => k0_hw1.2.2.2.2.1 k0_t2
theorem k0_off8_inb : ∀ (v1 : BitVec 32) (v4 : BitVec 32) (k0_hw1 : k0_chk1 v1 v4) (k0_t2 : Fin (k0_t2_loop v1 v4).trips), ∀ a, (k0_off8 v1 v4 k0_t2) a + S1x3584.size a ≤ S2240x3584.size a := fun v1 v4 k0_hw1 k0_t2 => k0_hw1.2.2.2.2.2.1 k0_t2
theorem k0_t3_ok : ∀ (v1 : BitVec 32) (v4 : BitVec 32) (k0_hw1 : k0_chk1 v1 v4), (k0_t3_loop v1 v4).OK := fun v1 v4 k0_hw1 => k0_hw1.2.2.2.2.2.2.1
theorem k0_off9_inb : ∀ (v1 : BitVec 32) (v4 : BitVec 32) (k0_hw1 : k0_chk1 v1 v4) (k0_t3 : Fin (k0_t3_loop v1 v4).trips), ∀ a, (k0_off9 v1 v4 k0_t3) a + S1x1.size a ≤ S17x128.size a := fun v1 v4 k0_hw1 k0_t3 => k0_hw1.2.2.2.2.2.2.2.1 k0_t3
theorem k0_off11_inb : ∀ (v1 : BitVec 32) (v4 : BitVec 32) (k0_hw1 : k0_chk1 v1 v4) (k0_t3 : Fin (k0_t3_loop v1 v4).trips), ∀ a, (k0_off11 v1 v4 k0_t3) a + S1x3584.size a ≤ S2240x3584.size a := fun v1 v4 k0_hw1 k0_t3 => k0_hw1.2.2.2.2.2.2.2.2.1 k0_t3
theorem k0_t4_ok : ∀ (v1 : BitVec 32) (v4 : BitVec 32) (k0_hw1 : k0_chk1 v1 v4), (k0_t4_loop v1 v4).OK := fun v1 v4 k0_hw1 => k0_hw1.2.2.2.2.2.2.2.2.2.1
theorem k0_off12_inb : ∀ (v1 : BitVec 32) (v4 : BitVec 32) (k0_hw1 : k0_chk1 v1 v4) (k0_t4 : Fin (k0_t4_loop v1 v4).trips), ∀ a, (k0_off12 v1 v4 k0_t4) a + S1x1.size a ≤ S17x128.size a := fun v1 v4 k0_hw1 k0_t4 => k0_hw1.2.2.2.2.2.2.2.2.2.2.1 k0_t4
theorem k0_off14_inb : ∀ (v1 : BitVec 32) (v4 : BitVec 32) (k0_hw1 : k0_chk1 v1 v4) (k0_t4 : Fin (k0_t4_loop v1 v4).trips), ∀ a, (k0_off14 v1 v4 k0_t4) a + S1x3584.size a ≤ S2240x3584.size a := fun v1 v4 k0_hw1 k0_t4 => k0_hw1.2.2.2.2.2.2.2.2.2.2.2 k0_t4

@[reducible] def k0_t5_loop : Scf.Loop 32 :=
  let c0_i32_48 : BitVec 32 := 0#32
  let c5_i32 : BitVec 32 := 5#32
  let v89 : BitVec 32 := Scalar.addi c0_i32_48 c5_i32
  let c1_i32_49 : BitVec 32 := 1#32
  ⟨c0_i32_48, v89, c1_i32_49⟩
def k0_off15 (k0_t5 : Fin k0_t5_loop.trips) : Fin 3 → Nat :=
  let c0_i32_48 : BitVec 32 := 0#32
  let c1_i32_49 : BitVec 32 := 1#32
  let arg14 : BitVec 32 := Scf.iv c0_i32_48 c1_i32_49 k0_t5
  let v91 : Index := Scalar.indexCast arg14
  let c0_53 : Index := 0#32
  let c0_54 : Index := 0#32
  ![v91.toNat, 0, 0]
def k0_mult1 (k0_t5 : Fin k0_t5_loop.trips) : BitVec 32 :=
  let c0_i32_48 : BitVec 32 := 0#32
  let c1_i32_49 : BitVec 32 := 1#32
  let arg14 : BitVec 32 := Scf.iv c0_i32_48 c1_i32_49 k0_t5
  let c256_i32 : BitVec 32 := 256#32
  let v106 : BitVec 32 := Scalar.muli arg14 c256_i32
  v106
def k0_off16 (k0_t5 : Fin k0_t5_loop.trips) : Fin 2 → Nat :=
  let c0_i32_48 : BitVec 32 := 0#32
  let c1_i32_49 : BitVec 32 := 1#32
  let arg14 : BitVec 32 := Scf.iv c0_i32_48 c1_i32_49 k0_t5
  let c256_i32 : BitVec 32 := 256#32
  let v106 : BitVec 32 := Scalar.muli arg14 c256_i32
  let v107 : BitVec 32 := v106
  let v110 : Index := Scalar.indexCast v107
  let c0_70 : Index := 0#32
  ![v110.toNat, 0]
def k0_mult2 (k0_t5 : Fin k0_t5_loop.trips) : BitVec 32 :=
  let c0_i32_48 : BitVec 32 := 0#32
  let c1_i32_49 : BitVec 32 := 1#32
  let arg14 : BitVec 32 := Scf.iv c0_i32_48 c1_i32_49 k0_t5
  let c256_i32_94 : BitVec 32 := 256#32
  let v177 : BitVec 32 := Scalar.muli arg14 c256_i32_94
  v177
def k0_off17 (k0_t5 : Fin k0_t5_loop.trips) : Fin 2 → Nat :=
  let c0_i32_48 : BitVec 32 := 0#32
  let c1_i32_49 : BitVec 32 := 1#32
  let arg14 : BitVec 32 := Scf.iv c0_i32_48 c1_i32_49 k0_t5
  let c256_i32_94 : BitVec 32 := 256#32
  let v177 : BitVec 32 := Scalar.muli arg14 c256_i32_94
  let v178 : BitVec 32 := v177
  let v181 : Index := Scalar.indexCast v178
  let c512_98 : Index := 512#32
  ![v181.toNat, 512]
def k0_mult3 (k0_t5 : Fin k0_t5_loop.trips) : BitVec 32 :=
  let c0_i32_48 : BitVec 32 := 0#32
  let c1_i32_49 : BitVec 32 := 1#32
  let arg14 : BitVec 32 := Scf.iv c0_i32_48 c1_i32_49 k0_t5
  let c256_i32_125 : BitVec 32 := 256#32
  let v248 : BitVec 32 := Scalar.muli arg14 c256_i32_125
  v248
def k0_off18 (k0_t5 : Fin k0_t5_loop.trips) : Fin 2 → Nat :=
  let c0_i32_48 : BitVec 32 := 0#32
  let c1_i32_49 : BitVec 32 := 1#32
  let arg14 : BitVec 32 := Scf.iv c0_i32_48 c1_i32_49 k0_t5
  let c256_i32_125 : BitVec 32 := 256#32
  let v248 : BitVec 32 := Scalar.muli arg14 c256_i32_125
  let v249 : BitVec 32 := v248
  let v252 : Index := Scalar.indexCast v249
  let c1024_129 : Index := 1024#32
  ![v252.toNat, 1024]
def k0_mult4 (k0_t5 : Fin k0_t5_loop.trips) : BitVec 32 :=
  let c0_i32_48 : BitVec 32 := 0#32
  let c1_i32_49 : BitVec 32 := 1#32
  let arg14 : BitVec 32 := Scf.iv c0_i32_48 c1_i32_49 k0_t5
  let c256_i32_156 : BitVec 32 := 256#32
  let v319 : BitVec 32 := Scalar.muli arg14 c256_i32_156
  v319
def k0_off19 (k0_t5 : Fin k0_t5_loop.trips) : Fin 2 → Nat :=
  let c0_i32_48 : BitVec 32 := 0#32
  let c1_i32_49 : BitVec 32 := 1#32
  let arg14 : BitVec 32 := Scf.iv c0_i32_48 c1_i32_49 k0_t5
  let c256_i32_156 : BitVec 32 := 256#32
  let v319 : BitVec 32 := Scalar.muli arg14 c256_i32_156
  let v320 : BitVec 32 := v319
  let v323 : Index := Scalar.indexCast v320
  let c1536_160 : Index := 1536#32
  ![v323.toNat, 1536]
def k0_mult5 (k0_t5 : Fin k0_t5_loop.trips) : BitVec 32 :=
  let c0_i32_48 : BitVec 32 := 0#32
  let c1_i32_49 : BitVec 32 := 1#32
  let arg14 : BitVec 32 := Scf.iv c0_i32_48 c1_i32_49 k0_t5
  let c256_i32_187 : BitVec 32 := 256#32
  let v390 : BitVec 32 := Scalar.muli arg14 c256_i32_187
  v390
def k0_off20 (k0_t5 : Fin k0_t5_loop.trips) : Fin 2 → Nat :=
  let c0_i32_48 : BitVec 32 := 0#32
  let c1_i32_49 : BitVec 32 := 1#32
  let arg14 : BitVec 32 := Scf.iv c0_i32_48 c1_i32_49 k0_t5
  let c256_i32_187 : BitVec 32 := 256#32
  let v390 : BitVec 32 := Scalar.muli arg14 c256_i32_187
  let v391 : BitVec 32 := v390
  let v394 : Index := Scalar.indexCast v391
  let c2048_191 : Index := 2048#32
  ![v394.toNat, 2048]
def k0_mult6 (k0_t5 : Fin k0_t5_loop.trips) : BitVec 32 :=
  let c0_i32_48 : BitVec 32 := 0#32
  let c1_i32_49 : BitVec 32 := 1#32
  let arg14 : BitVec 32 := Scf.iv c0_i32_48 c1_i32_49 k0_t5
  let c256_i32_218 : BitVec 32 := 256#32
  let v461 : BitVec 32 := Scalar.muli arg14 c256_i32_218
  v461
def k0_off21 (k0_t5 : Fin k0_t5_loop.trips) : Fin 2 → Nat :=
  let c0_i32_48 : BitVec 32 := 0#32
  let c1_i32_49 : BitVec 32 := 1#32
  let arg14 : BitVec 32 := Scf.iv c0_i32_48 c1_i32_49 k0_t5
  let c256_i32_218 : BitVec 32 := 256#32
  let v461 : BitVec 32 := Scalar.muli arg14 c256_i32_218
  let v462 : BitVec 32 := v461
  let v465 : Index := Scalar.indexCast v462
  let c2560_222 : Index := 2560#32
  ![v465.toNat, 2560]
def k0_mult7 (k0_t5 : Fin k0_t5_loop.trips) : BitVec 32 :=
  let c0_i32_48 : BitVec 32 := 0#32
  let c1_i32_49 : BitVec 32 := 1#32
  let arg14 : BitVec 32 := Scf.iv c0_i32_48 c1_i32_49 k0_t5
  let c256_i32_242 : BitVec 32 := 256#32
  let v524 : BitVec 32 := Scalar.muli arg14 c256_i32_242
  v524
def k0_off22 (k0_t5 : Fin k0_t5_loop.trips) : Fin 2 → Nat :=
  let c0_i32_48 : BitVec 32 := 0#32
  let c1_i32_49 : BitVec 32 := 1#32
  let arg14 : BitVec 32 := Scf.iv c0_i32_48 c1_i32_49 k0_t5
  let c256_i32_242 : BitVec 32 := 256#32
  let v524 : BitVec 32 := Scalar.muli arg14 c256_i32_242
  let v525 : BitVec 32 := v524
  let v528 : Index := Scalar.indexCast v525
  let c3072_246 : Index := 3072#32
  ![v528.toNat, 3072]
def k0_off23 (k0_t5 : Fin k0_t5_loop.trips) : Fin 2 → Nat :=
  let c0_i32_48 : BitVec 32 := 0#32
  let c1_i32_49 : BitVec 32 := 1#32
  let arg14 : BitVec 32 := Scf.iv c0_i32_48 c1_i32_49 k0_t5
  let c256_i32_242 : BitVec 32 := 256#32
  let v524 : BitVec 32 := Scalar.muli arg14 c256_i32_242
  let v525 : BitVec 32 := v524
  let v589 : Index := Scalar.indexCast v525
  let c0_268 : Index := 0#32
  ![v589.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1280 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x25 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x56 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S26 : Shape := ⟨1, ![26]⟩
abbrev S17x128 : Shape := ⟨2, ![17, 128]⟩
abbrev S2048x32000 : Shape := ⟨2, ![2048, 32000]⟩
abbrev S2048x25 : Shape := ⟨2, ![2048, 25]⟩
abbrev S3584x2048 : Shape := ⟨2, ![3584, 2048]⟩
abbrev S2240x3584 : Shape := ⟨2, ![2240, 3584]⟩
abbrev S2048x25x1 : Shape := ⟨3, ![2048, 25, 1]⟩
abbrev S2048x25x1280 : Shape := ⟨3, ![2048, 25, 1280]⟩
abbrev S2176 : Shape := ⟨1, ![2176]⟩
abbrev S32000x2176 : Shape := ⟨2, ![32000, 2176]⟩
abbrev S1x2176 : Shape := ⟨2, ![1, 2176]⟩
abbrev S1 : Shape := ⟨1, ![1]⟩
abbrev S_ : Shape := ⟨0, ![]⟩
abbrev S2176x3584 : Shape := ⟨2, ![2176, 3584]⟩
abbrev S32000x3584 : Shape := ⟨2, ![32000, 3584]⟩
abbrev S32000x56 : Shape := ⟨2, ![32000, 56]⟩
abbrev S32000x56x64 : Shape := ⟨3, ![32000, 56, 64]⟩
abbrev S32000x56x1 : Shape := ⟨3, ![32000, 56, 1]⟩
abbrev S32000x56x253 : Shape := ⟨3, ![32000, 56, 253]⟩

abbrev nBuf : Space → Nat
  | .hbm => 35
  | .vmem => 6
  | .smem => 0
  | _ => 0

abbrev bufTy : (tb : Table) → Fin (tcTables nBuf tb) → BufTy
  | .hbm, ⟨0, _⟩ => ⟨S26, .i32⟩
  | .hbm, ⟨1, _⟩ => ⟨S17x128, .i32⟩
  | .hbm, ⟨2, _⟩ => ⟨S2048x32000, .fp8e5m2⟩
  | .hbm, ⟨3, _⟩ => ⟨S2048x25, .f32⟩
  | .hbm, ⟨4, _⟩ => ⟨S3584x2048, .bf16⟩
  | .hbm, ⟨5, _⟩ => ⟨S2240x3584, .f32⟩
  | .hbm, ⟨6, _⟩ => ⟨S2048x25x1, .f32⟩
  | .hbm, ⟨7, _⟩ => ⟨S2048x25x1280, .f32⟩
  | .hbm, ⟨8, _⟩ => ⟨S2048x32000, .f32⟩
  | .hbm, ⟨9, _⟩ => ⟨S2048x32000, .bf16⟩
  | .hbm, ⟨10, _⟩ => ⟨S2176, .i32⟩
  | .hbm, ⟨11, _⟩ => ⟨S32000x2176, .i32⟩
  | .hbm, ⟨12, _⟩ => ⟨S32000x2176, .i32⟩
  | .hbm, ⟨13, _⟩ => ⟨S1x2176, .i32⟩
  | .hbm, ⟨14, _⟩ => ⟨S32000x2176, .i32⟩
  | .hbm, ⟨15, _⟩ => ⟨S32000x2176, .i1⟩
  | .hbm, ⟨16, _⟩ => ⟨S1, .i32⟩
  | .hbm, ⟨17, _⟩ => ⟨S_, .i32⟩
  | .hbm, ⟨18, _⟩ => ⟨S32000x2176, .i32⟩
  | .hbm, ⟨19, _⟩ => ⟨S32000x2176, .i1⟩
  | .hbm, ⟨20, _⟩ => ⟨S32000x2176, .i1⟩
  | .hbm, ⟨21, _⟩ => ⟨S1, .i32⟩
  | .hbm, ⟨22, _⟩ => ⟨S_, .i32⟩
  | .hbm, ⟨23, _⟩ => ⟨S32000x2176, .i32⟩
  | .hbm, ⟨24, _⟩ => ⟨S32000x2176, .i1⟩
  | .hbm, ⟨25, _⟩ => ⟨S32000x2176, .i1⟩
  | .hbm, ⟨26, _⟩ => ⟨S_, .f32⟩
  | .hbm, ⟨27, _⟩ => ⟨S_, .f32⟩
  | .hbm, ⟨28, _⟩ => ⟨S32000x2176, .f32⟩
  | .hbm, ⟨29, _⟩ => ⟨S32000x2176, .f32⟩
  | .hbm, ⟨30, _⟩ => ⟨S32000x2176, .f32⟩
  | .hbm, ⟨31, _⟩ => ⟨S2176x3584, .f32⟩
  | .hbm, ⟨32, _⟩ => ⟨S32000x3584, .f32⟩
  | .hbm, ⟨33, _⟩ => ⟨S32000x3584, .fp8e4m3⟩
  | .hbm, ⟨34, _⟩ => ⟨S32000x56, .f32⟩
  | .local _ .vmem, ⟨0, _⟩ => ⟨S2048x32000, .fp8e5m2⟩
  | .local _ .vmem, ⟨1, _⟩ => ⟨S2048x32000, .bf16⟩
  | .local _ .vmem, ⟨2, _⟩ => ⟨S3584x2048, .bf16⟩
  | .local _ .vmem, ⟨3, _⟩ => ⟨S32000x3584, .f32⟩
  | .local _ .vmem, ⟨4, _⟩ => ⟨S32000x3584, .fp8e4m3⟩
  | .local _ .vmem, ⟨5, _⟩ => ⟨S32000x56, .f32⟩
  | _, _ => ⟨S26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x32000 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x32000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32000x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32000x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32000x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tables.lean ====
/-
  THE TWO TABLES OF TOKEN ROWS, read as natural numbers. `ust` holds the 26 boundaries of the vocabulary blocks' runs in
  the sorted list of token ids, `uid` the list itself, as 17 rows of 128. Here: the precondition `tables_sorted` decoded
  (`Sorted`), two ids of one run are distinct (`Sorted.lt`, `Sorted.ne`), and the word arithmetic by which the kernel
  finds row and lane of an entry.
-/
module

public import proofs.«01_k».proof.Defs
public import Idealize.ShloMosaic.Lib.WordCmp
public import Idealize.ShloMosaic.Lib.WordArith
public import Idealize.ShloMosaic.Lib.Pointwise

@[expose] public section

noncomputable section

namespace Cert.Tables

open Idealize.ShloMosaic

/-- The shapes of the two tables. -/
abbrev SU : Shape := ⟨1, ![26]⟩
abbrev SD : Shape := ⟨2, ![17, 128]⟩

/-- The index of boundary `c`. -/
abbrev ixU (c : Fin 26) : SU.Idx := ix1 c

/-- The index of entry `u` of the list. -/
abbrev ixD (u : Fin 2176) : SD.Idx :=
  ix2 (⟨u.val / 128, by have := u.isLt; omega⟩ : Fin 17) (⟨u.val % 128, by omega⟩ : Fin 128)

/-- Boundary `c` as a natural number. -/
def lo (ust : IVec SU 32) (c : Fin 26) : ℕ := (ust (ixU c)).toNat

/-- Entry `u` of the list as a natural number. -/
def idAt (uid : IVec SD 32) (u : Fin 2176) : ℕ := (uid (ixD u)).toNat

/-- What the precondition says of the tables: the boundaries rise from 0 to at most 2176; run `c`'s ids belong to
    vocabulary block `c` and rise strictly. -/
structure Sorted (ust : IVec SU 32) (uid : IVec SD 32) : Prop where
  mono : ∀ c : Fin 25, lo ust c.castSucc ≤ lo ust c.succ
  le : ∀ c : Fin 25, lo ust c.succ ≤ 2176
  block : ∀ (c : Fin 25) (u : Fin 2176), lo ust c.castSucc ≤ u.val → u.val < lo ust c.succ →
    c.val * 1280 ≤ idAt uid u ∧ idAt uid u < c.val * 1280 + 1280
  rising : ∀ (c : Fin 25) (u : Fin 2176) (h : u.val + 1 < 2176), lo ust c.castSucc ≤ u.val → u.val + 1 < lo ust c.succ →
    idAt uid u < idAt uid ⟨u.val + 1, h⟩

/-- Within a run ids rise. -/
theorem Sorted.lt {ust : IVec SU 32} {uid : IVec SD 32} (h : Sorted ust uid) (c : Fin 25) (u : Fin 2176)
    (hu : lo ust c.castSucc ≤ u.val) : ∀ (d : ℕ) (hd : u.val + d + 1 < 2176), u.val + d + 1 < lo ust c.succ →
      idAt uid u < idAt uid ⟨u.val + d + 1, hd⟩
  | 0, hd, hl => h.rising c u hd hu hl
  | d + 1, hd, hl =>
    Nat.lt_trans (h.lt c u hu d (by omega) (by omega))
      (h.rising c ⟨u.val + d + 1, by omega⟩ hd (by show lo ust c.castSucc ≤ u.val + d + 1; omega) hl)

/-- Two different entries of one run hold different ids. -/
theorem Sorted.ne {ust : IVec SU 32} {uid : IVec SD 32} (h : Sorted ust uid) (c : Fin 25) (u u' : Fin 2176)
    (hu : lo ust c.castSucc ≤ u.val) (hul : u.val < lo ust c.succ)
    (hu' : lo ust c.castSucc ≤ u'.val) (hul' : u'.val < lo ust c.succ) (hne : u ≠ u') : idAt uid u ≠ idAt uid u' := by
  rcases Nat.lt_or_gt_of_ne (fun e => hne (Fin.ext e)) with hlt | hlt
  · have hd : u.val + (u'.val - u.val - 1) + 1 = u'.val := by omega
    have := h.lt c u hu (u'.val - u.val - 1) (by have := u'.isLt; omega) (by omega)
    simp only [hd] at this; exact Nat.ne_of_lt this
  · have hd : u'.val + (u.val - u'.val - 1) + 1 = u.val := by omega
    have := h.lt c u' hu' (u.val - u'.val - 1) (by have := u.isLt; omega) (by omega)
    simp only [hd] at this; exact Nat.ne_of_gt this

/-- The row word the kernel computes of an entry's number: its floor quotient by 128. -/
def rowWord (w : BitVec 32) : BitVec 32 :=
  Scalar.select (Scalar.andi (Scalar.cmpi .ne (Scalar.subi (Scalar.extui (Scalar.cmpi .sgt w 0#32) : BitVec 32) (Scalar.extui (Scalar.cmpi .slt w 0#32)))
    (Scalar.subi (Scalar.extui (Scalar.cmpi .sgt 128#32 0#32)) (Scalar.extui (Scalar.cmpi .slt 128#32 0#32)))) (Scalar.cmpi .ne (Scalar.remsi w 128#32) 0#32))
    (Scalar.subi (Scalar.divsi w 128#32) 1#32) (Scalar.divsi w 128#32)

/-- The lane word the kernel computes of an entry's number: its floor remainder by 128. -/
def laneWord (w : BitVec 32) : BitVec 32 :=
  let d := Scalar.select (Scalar.cmpi .eq 128#32 0#32) 1#32 128#32
  let r := Scalar.remsi w d
  Scalar.select (Scalar.andi (Scalar.xori (Scalar.cmpi .slt r 0#32) (Scalar.cmpi .slt d 0#32)) (Scalar.cmpi .ne r 0#32)) (Scalar.addi r d) r

theorem rowWord_fin : ∀ n : Fin 2176, rowWord (BitVec.ofNat 32 n.val) = BitVec.ofNat 32 (n.val / 128) := by decide +kernel

theorem laneWord_fin : ∀ n : Fin 2176, laneWord (BitVec.ofNat 32 n.val) = BitVec.ofNat 32 (n.val % 128) := by decide +kernel

/-- A word below 2176 is the index word of its natural. -/
theorem ofNat_toNat (w : BitVec 32) : BitVec.ofNat 32 w.toNat = w := by simp

theorem rowWord_toNat (w : BitVec 32) (h : w.toNat < 2176) : (rowWord w).toNat = w.toNat / 128 := by
  have := rowWord_fin ⟨w.toNat, h⟩
  simp only [ofNat_toNat] at this
  rw [this, BitVec.toNat_ofNat]; omega

theorem laneWord_toNat (w : BitVec 32) (h : w.toNat < 2176) : (laneWord w).toNat = w.toNat % 128 := by
  have := laneWord_fin ⟨w.toNat, h⟩
  simp only [ofNat_toNat] at this
  rw [this, BitVec.toNat_ofNat]; omega

end Cert.Tables
-- ==== Proof.Pre.lean ====
/-
  THE PRECONDITION DECODED: the printed predicate `tables_sorted`, true at every entry, says `Tables.Sorted` of the two
  tables.
-/
module

public import proofs.«01_k».proof.Proof.Gen.Pre_tables_sorted
public import proofs.«01_k».proof.Proof.Tables

@[expose] public section

noncomputable section

namespace Cert.Tables

open Idealize.ShloMosaic

variable {F : FTy → Type} [FloatOps F]

attribute [local instance] Cert.Pre_tables_sorted.Gen.facts

theorem not_ofBool (p : Bool) : ~~~ BitVec.ofBool p = BitVec.ofBool (!p) := by cases p <;> decide

/-- A word whose integer is not negative reads as its natural. -/
theorem toInt_toNat (w : BitVec 32) (h : 0 ≤ w.toInt) : w.toInt = w.toNat := by
  have e := BitVec.toInt_eq_toNat_cond w
  have := w.isLt
  split at e <;> omega

/-- A natural below 2³¹ as a word reads as itself, signed. -/
theorem toInt_ofNat (n : ℕ) (h : n < 2 ^ 31) : (BitVec.ofNat 32 n).toInt = n := WordArith.toInt_ofNat_small n h

set_option maxRecDepth 16384 in
/-- The printed predicate at entry `(c, u)`, as inequalities between the words' integers. -/
theorem fn_apply (a0 : IVec SU 32) (a1 : IVec SD 32) (a2 : FVec F ⟨2, ![2048, 32000]⟩ .fp8e5m2) (a3 : FVec F ⟨2, ![2048, 25]⟩ .f32)
    (a4 : FVec F ⟨2, ![3584, 2048]⟩ .bf16) (a5 : FVec F ⟨2, ![2240, 3584]⟩ .f32) (c : Fin 25) (u : Fin 2176)
    (h : Cert.Pre_tables_sorted.fn a0 a1 a2 a3 a4 a5 (ix2 c u) = 1#1) :
    (0 ≤ (a0 (ixU c.castSucc)).toInt ∧ (a0 (ixU c.castSucc)).toInt ≤ (a0 (ixU c.succ)).toInt ∧ (a0 (ixU c.succ)).toInt ≤ 2176)
    ∧ ((a0 (ixU c.castSucc)).toInt ≤ (u.val : Int) → (u.val : Int) < (a0 (ixU c.succ)).toInt →
      ((c.val * 1280 : ℕ) : Int) ≤ (a1 (ixD u)).toInt ∧ (a1 (ixD u)).toInt < ((c.val * 1280 + 1280 : ℕ) : Int)
      ∧ ((a0 (ixU c.succ)).toInt ≤ (u.val : Int) + 1 ∨
          ∀ hu : u.val + 1 < 2176, (a1 (ixD u)).toInt < (a1 (ixD ⟨u.val + 1, hu⟩)).toInt)) := by
  have hc := c.isLt
  have hu := u.isLt
  have e1 : (IntOp.muli (BitVec.ofNat 32 c.val) 1280#32) = BitVec.ofNat 32 (c.val * 1280) := WordCmp.muli_ofNat _ _
  have e2 : (IntOp.addi (BitVec.ofNat 32 (c.val * 1280)) 1280#32) = BitVec.ofNat 32 (c.val * 1280 + 1280) := WordCmp.addi_ofNat _ _
  have e3 : (IntOp.addi (BitVec.ofNat 32 u.val) 1#32) = BitVec.ofNat 32 (u.val + 1) := WordCmp.addi_ofNat _ _
  have ec : (⟨1 + c.val, by omega⟩ : Fin 26) = c.succ := Fin.ext (Nat.add_comm _ _)
  pointwise [Cert.Pre_tables_sorted.fn, Cert.Pre_tables_sorted.fn_part1, Cert.Pre_tables_sorted.fn_part2] at h
  rw [e1, e2, e3] at h
  simp only [WordCmp.cmpi_sge_eq, WordCmp.cmpi_sle_eq, WordCmp.cmpi_slt_eq, WordArith.andi_ofBool, WordArith.ori_ofBool, not_ofBool,
    WordArith.ofBool_eq_one_iff, Bool.and_eq_true, Bool.or_eq_true, Bool.not_eq_true', decide_eq_true_eq, Bool.and_eq_false_iff,
    decide_eq_false_iff_not] at h
  simp only [toInt_ofNat u.val (by omega), toInt_ofNat (u.val + 1) (by omega), toInt_ofNat (c.val * 1280) (by omega),
    toInt_ofNat (c.val * 1280 + 1280) (by omega), ec] at h
  obtain ⟨⟨⟨h1, h2⟩, h3⟩, h4⟩ := h
  refine ⟨⟨h1, h2, h3⟩, fun g1 g2 => ?_⟩
  rcases h4 with h4 | ⟨⟨h5, h6⟩, h7⟩
  · exact absurd h4 (by rintro (h | h); exacts [h g1, h g2])
  · refine ⟨h5, h6, ?_⟩
    rcases h7 with h7 | h7
    · exact .inl (by push_cast at h7; exact h7)
    · refine .inr fun hu' => ?_
      rw [dif_pos (by omega)] at h7
      have e : (1 + u.val) = u.val + 1 := Nat.add_comm _ _
      simp only [e] at h7
      exact h7

/-- THE PRECONDITION: the printed predicate true everywhere says that the tables are sorted. -/
theorem sorted_of_fn (a0 : IVec SU 32) (a1 : IVec SD 32) (a2 : FVec F ⟨2, ![2048, 32000]⟩ .fp8e5m2) (a3 : FVec F ⟨2, ![2048, 25]⟩ .f32)
    (a4 : FVec F ⟨2, ![3584, 2048]⟩ .bf16) (a5 : FVec F ⟨2, ![2240, 3584]⟩ .f32)
    (h : Cert.Pre_tables_sorted.fn a0 a1 a2 a3 a4 a5 = fun _ => 1#1) : Sorted a0 a1 := by
  have key := fun c u => fn_apply a0 a1 a2 a3 a4 a5 c u (congrFun h (ix2 c u))
  have hb : ∀ c : Fin 25, (a0 (ixU c.castSucc)).toInt = lo a0 c.castSucc ∧ (a0 (ixU c.succ)).toInt = lo a0 c.succ := fun c => by
    obtain ⟨⟨h1, h2, h3⟩, -⟩ := key c 0
    exact ⟨toInt_toNat _ h1, toInt_toNat _ (by omega)⟩
  have hblk : ∀ (c : Fin 25) (u : Fin 2176), lo a0 c.castSucc ≤ u.val → u.val < lo a0 c.succ →
      (a1 (ixD u)).toInt = idAt a1 u := fun c u g1 g2 => by
    obtain ⟨h1, h2⟩ := hb c
    obtain ⟨-, hk⟩ := key c u
    obtain ⟨h5, -⟩ := hk (by omega) (by omega)
    exact toInt_toNat _ (by omega)
  refine ⟨fun c => ?_, fun c => ?_, fun c u g1 g2 => ?_, fun c u hu g1 g2 => ?_⟩
  · obtain ⟨h1, h2⟩ := hb c
    obtain ⟨⟨_, h5, _⟩, -⟩ := key c 0
    omega
  · obtain ⟨h1, h2⟩ := hb c
    obtain ⟨⟨_, _, h6⟩, -⟩ := key c 0
    omega
  · obtain ⟨h1, h2⟩ := hb c
    have h3 := hblk c u g1 g2
    obtain ⟨-, hk⟩ := key c u
    obtain ⟨h5, h6, -⟩ := hk (by omega) (by omega)
    omega
  · obtain ⟨h1, h2⟩ := hb c
    have h3 := hblk c u g1 (by omega)
    have h4 := hblk c ⟨u.val + 1, hu⟩ (by show _ ≤ u.val + 1; omega) g2
    obtain ⟨-, hk⟩ := key c u
    obtain ⟨-, -, h7⟩ := hk (by omega) (by omega)
    rcases h7 with h7 | h7
    · omega
    · have := h7 hu; omega

end Cert.Tables
-- ==== Proof.KWords.lean ====
/-
  THE KERNEL'S WORDS. From the two boundary words `v1 ≤ v4 ≤ 2176` of a vocabulary block: its two main copy loops run
  `v4 - v1` times and their remainders never, the entry a trip reads lies in the table of ids, the row it copies lies in
  `s_sum`, and the row of the block it copies to is the id less the block's first id.
-/
module

public import proofs.«01_k».proof.Proof.Gen.Kernel.Skeleton
public import proofs.«01_k».proof.Proof.Tables

@[expose] public section

noncomputable section

namespace Cert.Kernel.Hand

open Idealize.ShloMosaic Cert.Kernel Cert.Tables

/-- A loop's printed upper bound at step one is the upper boundary itself. -/
theorem ub_eq (v1 v4 : BitVec 32) :
    Scalar.addi v1 (Scalar.muli (Scalar.divsi (Scalar.subi v4 v1) 1#32) 1#32) = v4 := by
  unfold Scalar.divsi Scalar.addi Scalar.muli Scalar.subi
  rw [WordArith.divsi_one]
  show v1 + (v4 - v1) * 1#32 = v4
  rw [BitVec.mul_one, BitVec.add_comm, BitVec.sub_add_cancel]

theorem add_sub (v1 v4 : BitVec 32) : Scalar.addi v1 (Scalar.subi v4 v1) = v4 := by
  show v1 + (v4 - v1) = v4
  rw [BitVec.add_comm, BitVec.sub_add_cancel]

theorem t1_eq (v1 v4 : BitVec 32) : k0_t1_loop v1 v4 = ⟨v1, v4, 1#32⟩ := by unfold k0_t1_loop; simp only [ub_eq]
theorem t3_eq (v1 v4 : BitVec 32) : k0_t3_loop v1 v4 = ⟨v1, v4, 1#32⟩ := by unfold k0_t3_loop; simp only [ub_eq]
theorem t2_eq (v1 v4 : BitVec 32) : k0_t2_loop v1 v4 = ⟨v4, v4, 1#32⟩ := by unfold k0_t2_loop; simp only [ub_eq, add_sub]
theorem t4_eq (v1 v4 : BitVec 32) : k0_t4_loop v1 v4 = ⟨v4, v4, 1#32⟩ := by unfold k0_t4_loop; simp only [ub_eq, add_sub]

theorem toInt_small (v : BitVec 32) (h : v.toNat ≤ 2176) : v.toInt = v.toNat :=
  WordCmp.toInt_eq_toNat_of_lt_half (by omega)

theorem trips_eq (v1 v4 : BitVec 32) (h1 : v1.toNat ≤ v4.toNat) (h2 : v4.toNat ≤ 2176) :
    Scf.trips v1 v4 1#32 = v4.toNat - v1.toNat := by
  unfold Scf.trips
  rw [toInt_small v1 (by omega), toInt_small v4 h2, show (1#32 : BitVec 32).toInt = 1 from by decide]
  omega

theorem ok_of (v1 v4 : BitVec 32) (h1 : v1.toNat ≤ v4.toNat) (h2 : v4.toNat ≤ 2176) : Scf.OK v1 v4 1#32 := by
  refine ⟨by decide, ?_⟩
  rw [trips_eq v1 v4 h1 h2, toInt_small v1 (by omega), show (1#32 : BitVec 32).toInt = 1 from by decide]
  omega

theorem trips1 (v1 v4 : BitVec 32) (h1 : v1.toNat ≤ v4.toNat) (h2 : v4.toNat ≤ 2176) :
    (k0_t1_loop v1 v4).trips = v4.toNat - v1.toNat := by rw [t1_eq]; exact trips_eq v1 v4 h1 h2
theorem trips3 (v1 v4 : BitVec 32) (h1 : v1.toNat ≤ v4.toNat) (h2 : v4.toNat ≤ 2176) :
    (k0_t3_loop v1 v4).trips = v4.toNat - v1.toNat := by rw [t3_eq]; exact trips_eq v1 v4 h1 h2
theorem trips2 (v1 v4 : BitVec 32) (h2 : v4.toNat ≤ 2176) : (k0_t2_loop v1 v4).trips = 0 := by
  rw [t2_eq]; exact (trips_eq v4 v4 le_rfl h2).trans (Nat.sub_self _)
theorem trips4 (v1 v4 : BitVec 32) (h2 : v4.toNat ≤ 2176) : (k0_t4_loop v1 v4).trips = 0 := by
  rw [t4_eq]; exact (trips_eq v4 v4 le_rfl h2).trans (Nat.sub_self _)

/-- The entry trip `t` reads. -/
theorem iv_toNat (v1 : BitVec 32) (t : ℕ) (h : v1.toNat + t ≤ 2176) : (Scf.iv v1 1#32 t).toNat = v1.toNat + t := by
  unfold Scf.iv
  rw [BitVec.mul_one, BitVec.toNat_add, BitVec.toNat_ofNat]; omega

/-- The table offsets of the entry whose number is the word `w`. -/
def entryOff (w : BitVec 32) : Fin 2 → ℕ := ![(rowWord w).toNat, (laneWord w).toNat]

theorem off3_eq (v1 v4 : BitVec 32) (t : Fin (k0_t1_loop v1 v4).trips) : k0_off3 v1 v4 t = entryOff (Scf.iv v1 1#32 t) := rfl
theorem off9_eq (v1 v4 : BitVec 32) (t : Fin (k0_t3_loop v1 v4).trips) : k0_off9 v1 v4 t = entryOff (Scf.iv v1 1#32 t) := rfl

theorem entryOff_eq (w : BitVec 32) (h : w.toNat < 2176) : entryOff w = ![w.toNat / 128, w.toNat % 128] := by
  unfold entryOff; rw [rowWord_toNat w h, laneWord_toNat w h]

theorem entryOff_inb (w : BitVec 32) (h : w.toNat < 2176) : ∀ a, entryOff w a + S1x1.size a ≤ S17x128.size a := by
  rw [entryOff_eq w h]
  intro a
  match a with
  | ⟨0, _⟩ => show w.toNat / 128 + 1 ≤ 17; omega
  | ⟨1, _⟩ => show w.toNat % 128 + 1 ≤ 128; omega

theorem row_inb (w : BitVec 32) (h : w.toNat < 2176) : ∀ a, (![w.toNat, 0] : Fin 2 → ℕ) a + S1x3584.size a ≤ S2240x3584.size a := by
  intro a
  match a with
  | ⟨0, _⟩ => show w.toNat + 1 ≤ 2240; omega
  | ⟨1, _⟩ => show 0 + 3584 ≤ 3584; omega

/-- THE BOUNDARY WORDS' SIDE CONDITION. -/
theorem chk1_of (v1 v4 : BitVec 32) (h1 : v1.toNat ≤ v4.toNat) (h2 : v4.toNat ≤ 2176) : k0_chk1 v1 v4 := by
  have ht1 := trips1 v1 v4 h1 h2
  have ht3 := trips3 v1 v4 h1 h2
  have ht2 := trips2 v1 v4 h2
  have ht4 := trips4 v1 v4 h2
  have hw : ∀ t : ℕ, t < v4.toNat - v1.toNat → (Scf.iv v1 1#32 t).toNat < 2176 := fun t ht => by
    rw [iv_toNat v1 t (by omega)]; omega
  refine ⟨?_, fun t => ?_, fun t => ?_, ?_, fun t => absurd t.isLt (by omega), fun t => absurd t.isLt (by omega),
    ?_, fun t => ?_, fun t => ?_, ?_, fun t => absurd t.isLt (by omega), fun t => absurd t.isLt (by omega)⟩
  · rw [t1_eq]; exact ok_of v1 v4 h1 h2
  · exact entryOff_inb _ (hw t (ht1 ▸ t.isLt))
  · exact row_inb _ (hw t (ht1 ▸ t.isLt))
  · rw [t2_eq]; exact ok_of v4 v4 le_rfl h2
  · rw [t3_eq]; exact ok_of v1 v4 h1 h2
  · exact entryOff_inb _ (hw t (ht3 ▸ t.isLt))
  · exact row_inb _ (hw t (ht3 ▸ t.isLt))
  · rw [t4_eq]; exact ok_of v4 v4 le_rfl h2

/-- The row of block `c` an id of the block goes to. -/
theorem dst_toNat (i : grid0.Coords) (w : BitVec 32) (h1 : (i 0).val * 1280 ≤ w.toNat) :
    (Scalar.subi w (Scalar.muli (BitVec.ofNat 32 (i 0).val) 1280#32) : BitVec 32).toNat = w.toNat - (i 0).val * 1280 := by
  have hi : (i 0).val < 25 := (i 0).isLt
  have hm : (Scalar.muli (BitVec.ofNat 32 (i 0).val) 1280#32 : BitVec 32).toNat = (i 0).val * 1280 := by
    show (BitVec.ofNat 32 (i 0).val * 1280#32).toNat = _
    rw [BitVec.toNat_mul, BitVec.toNat_ofNat]; simp only [BitVec.toNat_ofNat]; omega
  show (w - Scalar.muli (BitVec.ofNat 32 (i 0).val) 1280#32).toNat = _
  rw [BitVec.toNat_sub_of_le (by rw [BitVec.le_def, hm]; exact h1), hm]

theorem off4_eq (i : grid0.Coords) (w : BitVec 32) (h1 : (i 0).val * 1280 ≤ w.toNat) :
    k0_off4 i w = ![w.toNat - (i 0).val * 1280, 0] := by
  show ![(Scalar.subi w (Scalar.muli (BitVec.ofNat 32 (i 0).val) 1280#32) : BitVec 32).toNat, 0] = _
  rw [dst_toNat i w h1]

theorem chk2_of (i : grid0.Coords) (w : BitVec 32) (h1 : (i 0).val * 1280 ≤ w.toNat) (h2 : w.toNat < (i 0).val * 1280 + 1280) :
    k0_chk2 i w := by
  unfold k0_chk2
  rw [off4_eq i w h1]
  intro a
  match a with
  | ⟨0, _⟩ => show w.toNat - (i 0).val * 1280 + 1 ≤ 1280; omega
  | ⟨1, _⟩ => show 0 + 3584 ≤ 3584; omega

theorem chk4_of (i : grid0.Coords) (w : BitVec 32) (h1 : (i 0).val * 1280 ≤ w.toNat) (h2 : w.toNat < (i 0).val * 1280 + 1280) :
    k0_chk4 i w := chk2_of i w h1 h2

end Cert.Kernel.Hand
-- ==== Proof.KCopies.lean ====
/-
  THE KERNEL'S ROW COPIES. One vocabulary block's run `u0 ≤ u < u0 + n` of token rows: row `u` of `s_sum` is copied to
  row `uid u - 1280 c` of the block's embedding scratch. The loop that starts the copies and the loop that waits for
  them, with all `n` copies in flight on the one semaphore at once (a batch of `n` transfers).
-/
module

public import proofs.«01_k».proof.Proof.Gen.Kernel.Loops
public import proofs.«01_k».proof.Proof.KWords
public import Idealize.ShloMosaic.Lib.Batch
public import Idealize.ShloMosaic.Lib.Ring
public import Idealize.ShloMosaic.Lib.Tactic
public import Idealize.ShloMosaic.Lib.WordCmp
public import Idealize.ShloMosaic.Lib.Pipeline.FrameBody

@[expose] public section

noncomputable section

namespace Cert.Kernel.Hand

open Cert.Kernel Cert.Kernel.Gen Cert.Tables
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The embedding scratch, the rows it is filled from, and the table of ids. -/
abbrev mE : Memref sig .tc .vmem S1280x3584 .f32 := Memref.whole cc0_scratch1
abbrev mS : Memref sig .tc .hbm S2240x3584 .f32 := Memref.whole main_arg5
abbrev mId : Memref sig .tc .smem S17x128 .i32 := Memref.whole main_arg1

/-- A row of either, as the kernel slices it. -/
abbrev sliceE (off : Fin 2 → ℕ) (h : ∀ a, off a + S1x3584.size a ≤ S1280x3584.size a) : Memref sig .tc .vmem S1x3584 .f32 :=
  mE.slice (Rect.unit (s := S1280x3584) off S1x3584.size h) (fun _ => rfl)
abbrev sliceS (off : Fin 2 → ℕ) (h : ∀ a, off a + S1x3584.size a ≤ S2240x3584.size a) : Memref sig .tc .hbm S1x3584 .f32 :=
  mS.slice (Rect.unit (s := S2240x3584) off S1x3584.size h) (fun _ => rfl)

/-- One row's amount on the semaphore. -/
abbrev NN : ℕ := 448

/-- The zero the embedding scratch is cleared to. -/
abbrev zE : Elt F .f32 := k0_pay65 (F := F) (ix2 (0 : Fin 1280) (0 : Fin 3584))

/-- The row of the block (whose first id is `base`) that entry `u` goes to. -/
def rowAt (uid : IVec SD 32) (base u : ℕ) : ℕ := if h : u < 2176 then idAt uid ⟨u, h⟩ - base else 0

/-- What the copies need of the run `u0 ≤ u < u0 + n`: its ids are distinct ids of the block. -/
structure Run (uid : IVec SD 32) (base u0 n : ℕ) : Prop where
  le : u0 + n ≤ 2176
  block : ∀ u : Fin 2176, u0 ≤ u.val → u.val < u0 + n → base ≤ idAt uid u ∧ idAt uid u < base + 1280
  ne : ∀ u u' : Fin 2176, u0 ≤ u.val → u.val < u0 + n → u0 ≤ u'.val → u'.val < u0 + n → u ≠ u' → idAt uid u ≠ idAt uid u'

theorem Run.row_ne {uid : IVec SD 32} {base u0 n : ℕ} (h : Run uid base u0 n) (t t' : ℕ) (ht : t < n) (ht' : t' < n) (hne : t ≠ t') :
    rowAt uid base (u0 + t) ≠ rowAt uid base (u0 + t') := by
  have hl := h.le
  unfold rowAt
  rw [dif_pos (show u0 + t < 2176 by omega), dif_pos (show u0 + t' < 2176 by omega)]
  have h1 := h.block ⟨u0 + t, by omega⟩ (by simp) (by simpa using ht)
  have h2 := h.block ⟨u0 + t', by omega⟩ (by simp) (by simpa using ht')
  have := h.ne ⟨u0 + t, by omega⟩ ⟨u0 + t', by omega⟩ (by simp) (by simpa using ht) (by simp) (by simpa using ht')
    (fun e => hne (by have := congrArg Fin.val e; simp at this; exact this))
  omega

/-- Row `r` of the scratch, row `u` of the source, as sets of elements; what is left of either before copy `k`. -/
def setE (r : ℕ) : Finset S1280x3584.Idx := Finset.univ.filter fun y => (y 0).val = r
def setS (u : ℕ) : Finset S2240x3584.Idx := Finset.univ.filter fun y => (y 0).val = u
def remE (uid : IVec SD 32) (base u0 k : ℕ) : Finset S1280x3584.Idx :=
  Finset.univ.filter fun y => ∀ t, t < k → (y 0).val ≠ rowAt uid base (u0 + t)
def remS (u0 k : ℕ) : Finset S2240x3584.Idx := Finset.univ.filter fun y => ¬ (u0 ≤ (y 0).val ∧ (y 0).val < u0 + k)

open Classical in
/-- The scratch after the copies: row `r` is the source's row `u` for the live entry `u` whose id is `base + r`, else zero. -/
def embF (uid : IVec SD 32) (base u0 n : ℕ) (S : S2240x3584.Idx → Elt F .f32) : S1280x3584.Idx → Elt F .f32 := fun y =>
  if h : ∃ t, t < n ∧ rowAt uid base (u0 + t) = (y 0).val then S (ix2 ⟨(u0 + h.choose) % 2240, by omega⟩ (y 1)) else zE

theorem embF_row {uid : IVec SD 32} {base u0 n : ℕ} (hr : Run uid base u0 n) (S : S2240x3584.Idx → Elt F .f32) (y : S1280x3584.Idx)
    (t : ℕ) (ht : t < n) (hy : rowAt uid base (u0 + t) = (y 0).val) :
    embF uid base u0 n S y = S (ix2 ⟨u0 + t, by have := hr.le; omega⟩ (y 1)) := by
  have hl := hr.le
  unfold embF
  have h : ∃ t, t < n ∧ rowAt uid base (u0 + t) = (y 0).val := ⟨t, ht, hy⟩
  rw [dif_pos h]
  have he : h.choose = t := by
    by_contra hne
    exact hr.row_ne _ t h.choose_spec.1 ht hne (h.choose_spec.2.trans hy.symm)
  have hm : (u0 + h.choose) % 2240 = u0 + t := by rw [he]; omega
  exact congrArg S (congrArg (fun a => ix2 a (y 1)) (Fin.ext hm))

theorem embF_rest {uid : IVec SD 32} {base u0 n : ℕ} (S : S2240x3584.Idx → Elt F .f32) (y : S1280x3584.Idx)
    (hy : ∀ t, t < n → (y 0).val ≠ rowAt uid base (u0 + t)) : embF uid base u0 n S y = zE := by
  unfold embF
  rw [dif_neg]
  rintro ⟨t, ht, he⟩
  exact hy t ht he.symm

theorem sliceE_set (off : Fin 2 → ℕ) (h) (r : ℕ) (ho : off = ![r, 0]) : (sliceE off h).view.set = setE r := by
  subst ho
  ext y
  simp only [Memref.view_slice, Memref.view_whole, View.set_slice_whole, setE, Finset.mem_filter, Finset.mem_univ, true_and]
  refine (Rect.mem_set_unit).trans ⟨fun hh => ?_, fun hh a => ?_⟩
  · have := hh 0
    simp at this
    omega
  · match a with
    | ⟨0, _⟩ => show r ≤ (y 0).val ∧ (y 0).val < r + 1; omega
    | ⟨1, _⟩ => show 0 ≤ (y 1).val ∧ (y 1).val < 0 + 3584; exact ⟨Nat.zero_le _, lt_of_lt_of_eq (y 1).isLt (by rfl)⟩

theorem sliceS_set (off : Fin 2 → ℕ) (h) (r : ℕ) (ho : off = ![r, 0]) : (sliceS off h).view.set = setS r := by
  subst ho
  ext y
  simp only [Memref.view_slice, Memref.view_whole, View.set_slice_whole, setS, Finset.mem_filter, Finset.mem_univ, true_and]
  refine (Rect.mem_set_unit).trans ⟨fun hh => ?_, fun hh a => ?_⟩
  · have := hh 0
    simp at this
    omega
  · match a with
    | ⟨0, _⟩ => show r ≤ (y 0).val ∧ (y 0).val < r + 1; omega
    | ⟨1, _⟩ => show 0 ≤ (y 1).val ∧ (y 1).val < 0 + 3584; exact ⟨Nat.zero_le _, lt_of_lt_of_eq (y 1).isLt (by rfl)⟩

/-- A copied row, as the scratch holds it. -/
theorem write_row (offE offS : Fin 2 → ℕ) (hE hS) (r u : ℕ) (hoE : offE = ![r, 0]) (hoS : offS = ![u, 0]) (hu : u < 2240)
    (f : S1280x3584.Idx → Elt F .f32) (S : S2240x3584.Idx → Elt F .f32) (y : S1280x3584.Idx) (hy : (y 0).val = r) :
    (sliceE offE hE).view.write (Elt F) f (ReadAs.same.apply ((sliceS offS hS).view.read (Elt F) S)) Finset.univ y
      = S (ix2 ⟨u, hu⟩ (y 1)) := by
  subst hoE hoS
  have e : y = (sliceE ![r, 0] hE).view.emb (ix2 (0 : Fin 1) (y 1)) := by
    funext a
    match a with
    | ⟨0, _⟩ => exact Fin.ext (by show (y 0).val = r + 0; omega)
    | ⟨1, _⟩ => exact Fin.ext (by show (y 1).val = 0 + 1 * (y 1).val; omega)
  refine (congrArg ((sliceE ![r, 0] hE).view.write (Elt F) f (ReadAs.same.apply ((sliceS ![u, 0] hS).view.read (Elt F) S)) Finset.univ) e).trans ?_
  refine (View.write_emb_of_mem _ _ (Finset.mem_univ _)).trans ?_
  show S ((sliceS ![u, 0] hS).view.emb (ix2 (0 : Fin 1) (y 1))) = _
  refine congrArg S ?_
  funext a
  match a with
  | ⟨0, _⟩ => exact Fin.ext (by show u + 0 = u; omega)
  | ⟨1, _⟩ => exact Fin.ext (by show 0 + 1 * (y 1).val = (y 1).val; omega)

section Loops

variable (c : Dev nD) (uid : IVec SD 32) (base u0 n : ℕ) (S : S2240x3584.Idx → Elt F .f32)

abbrev eAt (I : Finset S1280x3584.Idx) (f : S1280x3584.Idx → Elt F .f32) : sProp 𝕄 := mE.view.loc (c : Thread nD τ) ↦[I]{fullShare} f
abbrev sAt (I : Finset S2240x3584.Idx) (f : S2240x3584.Idx → Elt F .f32) : sProp 𝕄 := mS.view.loc (c : Thread nD τ) ↦[I]{fullShare} f
abbrev idHeld : sProp 𝕄 := mId.view.loc (c : Thread nD τ) ↦{fullShare.right} uid

/-- What copy `t` delivers: its row of the scratch at its final contents, and the source's row back. -/
abbrev deliv (t : Fin n) : sProp 𝕄 :=
  iprop(eAt c (setE (rowAt uid base (u0 + t.val))) (embF uid base u0 n S) ∗ sAt c (setS (u0 + t.val)) S)

/-- All `n` copies' batch on the semaphore, `k` started, `w` units waited for. -/
abbrev batch (k w : ℕ) : sProp 𝕄 :=
  Transfers.Batch (countersEmb (U := Pipeline.UD sig nD τ)) (c : Thread nD τ) (.dma 8) () NN (deliv c uid base u0 n S) k w

/-- Before start `k`: `k` copies in flight, the rest of both buffers in hand. -/
def issueAt (k : ℕ) (_ : Unit) : sProp 𝕄 :=
  iprop(batch c uid base u0 n S k 0 ∗ (∃ W, owes (c : Thread nD τ) 0 W) ∗ idHeld c uid
    ∗ eAt c (remE uid base u0 k) (fun _ => zE) ∗ sAt c (remS u0 k) S)

/-- Before wait `k`. -/
def waitAt (k : ℕ) (_ : Unit) : sProp 𝕄 :=
  iprop(⌜k ≤ n⌝ ∗ (∃ W, owes (c : Thread nD τ) 0 W) ∗ idHeld c uid ∗ batch c uid base u0 n S n (k * NN))

theorem remE_split (hr : Run uid base u0 n) (k : ℕ) (hk : k < n) :
    remE uid base u0 k = setE (rowAt uid base (u0 + k)) ∪ remE uid base u0 (k + 1) := by
  ext y
  simp only [remE, setE, Finset.mem_filter, Finset.mem_univ, true_and, Finset.mem_union]
  constructor
  · intro h
    by_cases e : (y 0).val = rowAt uid base (u0 + k)
    · exact .inl e
    · refine .inr fun t ht => ?_
      rcases Nat.lt_succ_iff_lt_or_eq.mp ht with h' | rfl
      · exact h t h'
      · exact e
  · rintro (e | h) t ht
    · rw [e]; exact hr.row_ne k t hk (by omega) (by omega)
    · exact h t (by omega)

theorem remE_disj (k : ℕ) : Disjoint (setE (rowAt uid base (u0 + k))) (remE uid base u0 (k + 1)) := by
  rw [Finset.disjoint_left]
  intro y h1 h2
  simp only [remE, setE, Finset.mem_filter, Finset.mem_univ, true_and] at h1 h2
  exact h2 k (by omega) h1

theorem remS_split (k : ℕ) : remS u0 k = setS (u0 + k) ∪ remS u0 (k + 1) := by
  ext y
  simp only [remS, setS, Finset.mem_filter, Finset.mem_univ, true_and, Finset.mem_union]
  omega

theorem remS_disj (k : ℕ) : Disjoint (setS (u0 + k)) (remS u0 (k + 1)) := by
  rw [Finset.disjoint_left]
  intro y h1 h2
  simp only [remS, setS, Finset.mem_filter, Finset.mem_univ, true_and] at h1 h2
  omega

end Loops

/-- The word a trip loads from the table. -/
theorem entry_load (uid : IVec SD 32) (w : BitVec 32) (hw : w.toNat < 2176) (off : Fin 2 → ℕ) (inb) (ho : off = entryOff w) (x : S1x1.Idx) :
    View.readAt (Elt F) mId.view (Rect.unit (s := S17x128) off S1x1.size inb).toLoadRect uid x = uid (ixD ⟨w.toNat, hw⟩) := by
  subst ho
  show uid _ = uid _
  refine congrArg uid ?_
  have h0 : (x 0).val = 0 := by have := (x 0).isLt; exact Nat.lt_one_iff.mp this
  have h1 : (x 1).val = 0 := by have := (x 1).isLt; exact Nat.lt_one_iff.mp this
  have e := entryOff_eq w hw
  funext a
  match a with
  | ⟨0, _⟩ => exact Fin.ext (by show entryOff w 0 + 1 * (x 0).val = w.toNat / 128; rw [e, h0]; rfl)
  | ⟨1, _⟩ => exact Fin.ext (by show entryOff w 1 + 1 * (x 1).val = w.toNat % 128; rw [e, h1]; rfl)

section Steps

variable (𝒱 : Variants) (c : Dev nD) (i : grid0.Coords) (arg1 : Memref sig .tc .smem S26 .i32) (harg1 : arg1.IsWhole) (arg3 : Memref sig .tc .vmem S2048x1280 .fp8e5m2) (harg3 : arg3.IsWhole) (arg4 : Memref sig .tc .vmem S2048x25 .f32) (harg4 : arg4.IsWhole) (arg5 : Memref sig .tc .vmem S3584x2048 .bf16) (harg5 : arg5.IsWhole) (arg7 : Memref sig .tc .vmem S1280x3584 .fp8e4m3) (harg7 : arg7.IsWhole) (arg8 : Memref sig .tc .vmem S1280x56 .f32) (harg8 : arg8.IsWhole) (arg9 : Memref sig .tc .vmem S5x2048x256 .bf16) (harg9 : arg9.IsWhole) (arg11 : Memref sig .tc .vmem S2x512x256 .f32) (harg11 : arg11.IsWhole) (arg12 : Memref sig .tc .vmem S56x256 .f32) (harg12 : arg12.IsWhole) (v1 v4 : Elt F .i32) (hw1 : k0_chk1 v1 v4)
  (uid : IVec SD 32) (n : ℕ) (S : S2240x3584.Idx → Elt F .f32)

abbrev wId : mId.IsWhole := Memref.isWhole_whole _

theorem issue_step (hr : Run uid ((i 0).val * 1280) v1.toNat n) (hn : (k0_t1_loop v1 v4).trips = n)
    (k : Fin (k0_t1_loop v1 v4).trips) (acc : Unit) :
    issueAt c uid ((i 0).val * 1280) v1.toNat n S k acc ⊢ wp frame (wpE defs₀ 𝒱 (c : Thread nD τ) none) Set.univ
      (k0_t1_body (F := F) i arg1 harg1 mId (Memref.isWhole_whole _) arg3 harg3 arg4 harg4 arg5 harg5 mS (Memref.isWhole_whole _) arg7 harg7 arg8 harg8 arg9 harg9 mE (Memref.isWhole_whole _) arg11 harg11 arg12 harg12 cc0_scratch4 v1 v4 hw1 k acc)
      (issueAt c uid ((i 0).val * 1280) v1.toNat n S (k.val + 1)) := by
  have hk : k.val < n := hn ▸ k.isLt
  unfold issueAt
  iintro ⟨HB, ⟨%W, HO⟩, Hid, HE, HS⟩
  unfold k0_t1_body
  sl_exec
  have hw : issue_step.sl.r v1 v4 hw1 uid k = uid (ixD ⟨v1.toNat + k.val, by have := hr.le; omega⟩) := by
    unfold issue_step.sl.r
    have hi := iv_toNat v1 k.val (by have := hr.le; omega)
    have hlt : (Scf.iv v1 1#32 k.val).toNat < 2176 := by have := hr.le; omega
    exact (entry_load (F := F) uid (Scf.iv v1 1#32 k.val) hlt _ _ (off3_eq v1 v4 k) _).trans
      (congrArg (fun u => uid (ixD u)) (Fin.ext hi))
  generalize hw' : issue_step.sl.r v1 v4 hw1 uid k = w at *
  have hb := hr.block ⟨v1.toNat + k.val, by have := hr.le; omega⟩ (by simp) (by simpa using hk)
  have hid : idAt uid ⟨v1.toNat + k.val, by have := hr.le; omega⟩ = w.toNat := by rw [hw]; rfl
  rw [hid] at hb
  have hc : k0_chk2 i w := chk2_of i w hb.1 hb.2
  have ho4 := off4_eq i w hb.1
  have hrow : rowAt uid ((i 0).val * 1280) (v1.toNat + k.val) = w.toNat - (i 0).val * 1280 := by
    unfold rowAt; rw [dif_pos (show v1.toNat + k.val < 2176 by have := hr.le; omega), hid]
  have ho5 : k0_off5 v1 v4 k = ![v1.toNat + k.val, 0] := by
    show ![(Scf.iv v1 1#32 k.val).toNat, 0] = _
    rw [iv_toNat v1 k.val (by have := hr.le; omega)]
  have hu : v1.toNat + k.val < 2240 := by have := hr.le; omega
  have hD : iprop((mE.view.loc (c : Thread nD τ) ↦[setE (rowAt uid ((i 0).val * 1280) (v1.toNat + k.val))]{fullShare}
        ((sliceE (k0_off4 i w) (k0_off4_inb i w hc)).view.write (Elt F) (fun _ => zE)
          (ReadAs.same.apply ((sliceS (k0_off5 v1 v4 k) (k0_off5_inb v1 v4 hw1 k)).view.read (Elt F) S)) Finset.univ))
      ∗ (mS.view.loc (c : Thread nD τ) ↦[(sliceS (k0_off5 v1 v4 k) (k0_off5_inb v1 v4 hw1 k)).view.set]{fullShare} S))
      ⊢ (deliv c uid ((i 0).val * 1280) v1.toNat n S ⟨k.val, hk⟩ : sProp 𝕄) := by
    rw [sliceS_set _ _ _ ho5]
    refine sep_mono (Entails.of_eq (pointsTo_congr fun y hy => ?_)) .rfl
    have hy' : (y 0).val = rowAt uid ((i 0).val * 1280) (v1.toNat + k.val) := (Finset.mem_filter.mp hy).2
    rw [write_row _ _ _ _ _ _ ho4 ho5 hu _ _ y (hy'.trans hrow), embF_row hr S y k.val hk hy'.symm]
  sl_exec
  ihave HE' := (Entails.of_eq (by rw [remE_split _ _ _ _ hr k.val hk])).trans (pointsTo_union (remE_disj uid ((i 0).val * 1280) v1.toNat k.val)).1 $$ HE
  ihave HS' := (Entails.of_eq (by rw [remS_split v1.toNat k.val])).trans (pointsTo_union (remS_disj v1.toNat k.val)).1 $$ HS
  icases HE' with ⟨HEr, HE⟩
  icases HS' with ⟨HSr, HS⟩
  iapply (Transfers.wp_dmaBatch (countersEmb (U := Pipeline.UD sig nD τ)) 𝒱 (c : Thread nD τ) none
    (src := sliceS (k0_off5 v1 v4 k) (k0_off5_inb v1 v4 hw1 k)) (dst := sliceE (k0_off4 i w) (k0_off4_inb i w hc))
    (Sd := setE (rowAt uid ((i 0).val * 1280) (v1.toNat + k.val))) (fd := fun _ => zE) (fs := S) (q := fullShare)
    () NN rfl (by rw [hrow]; exact (sliceE_set _ _ _ ho4).le) (D := deliv c uid ((i 0).val * 1280) v1.toNat n S) (j := k.val) (u := 0) hk (Nat.zero_le _) hD) $$ [HEr HSr HB]
  · isplitl [HSr]
    · rw [sliceS_set _ _ _ ho5]; iexact HSr
    isplitl [HEr]; · iexact HEr
    iexact HB
  iintro HB
  sl_step
  isplitl [HB]; · iexact HB
  isplitl [HO]; · iexists _; iexact HO
  isplitl [Hid]; · iexact Hid
  isplitl [HE] <;> iassumption

theorem wait_step (hr : Run uid ((i 0).val * 1280) v1.toNat n) (hn : (k0_t3_loop v1 v4).trips = n)
    (plan : Transfers.InterleavedWaits (c : Thread nD τ) (SemLoc.dma (sig := sig) 8))
    (k : Fin (k0_t3_loop v1 v4).trips) (acc : Unit) :
    waitAt c uid ((i 0).val * 1280) v1.toNat n S k acc ⊢ wp frame (wpE defs₀ 𝒱 (c : Thread nD τ) none) Set.univ
      (k0_t3_body (F := F) i arg1 harg1 mId (Memref.isWhole_whole _) arg3 harg3 arg4 harg4 arg5 harg5 mS (Memref.isWhole_whole _) arg7 harg7 arg8 harg8 arg9 harg9 mE (Memref.isWhole_whole _) arg11 harg11 arg12 harg12 cc0_scratch4 v1 v4 hw1 k acc)
      (waitAt c uid ((i 0).val * 1280) v1.toNat n S (k.val + 1)) := by
  have hk : k.val < n := hn ▸ k.isLt
  unfold waitAt
  rw [show (k.val + 1) * NN = k.val * NN + 1 * NN by simp only [NN]; omega]
  iintro ⟨-, ⟨%W, HO⟩, Hid, HB⟩
  unfold k0_t3_body
  sl_exec
  have hw : wait_step.sl.r v1 v4 hw1 uid k = uid (ixD ⟨v1.toNat + k.val, by have := hr.le; omega⟩) := by
    unfold wait_step.sl.r
    have hi := iv_toNat v1 k.val (by have := hr.le; omega)
    have hlt : (Scf.iv v1 1#32 k.val).toNat < 2176 := by have := hr.le; omega
    exact (entry_load (F := F) uid (Scf.iv v1 1#32 k.val) hlt _ _ (off9_eq v1 v4 k) _).trans
      (congrArg (fun u => uid (ixD u)) (Fin.ext hi))
  generalize hw' : wait_step.sl.r v1 v4 hw1 uid k = w at *
  have hb := hr.block ⟨v1.toNat + k.val, by have := hr.le; omega⟩ (by simp) (by simpa using hk)
  have hid : idAt uid ⟨v1.toNat + k.val, by have := hr.le; omega⟩ = w.toNat := by rw [hw]; rfl
  rw [hid] at hb
  have hc : k0_chk4 i w := chk4_of i w hb.1 hb.2
  sl_exec
  sl_step
  isplitr; · ipureintro; omega
  isplitl [HO]; · iexists _; iexact HO
  isplitl [Hid]; · iexact Hid
  iexact HB

end Steps

/-- After the last wait the scratch holds the run's rows, zeros elsewhere, and the source is whole again. -/
theorem collect (c : Dev nD) (uid : IVec SD 32) (base u0 n : ℕ) (hr : Run uid base u0 n) (S : S2240x3584.Idx → Elt F .f32) :
    iprop(bigSep Finset.univ (deliv c uid base u0 n S) ∗ eAt c (remE uid base u0 n) (fun _ => zE) ∗ sAt c (remS u0 n) S)
      ⊢ (iprop(eAt c Finset.univ (embF uid base u0 n S) ∗ sAt c Finset.univ S) : sProp 𝕄) := by
  have hl := hr.le
  have hE : ∀ y ∈ remE uid base u0 n, (fun _ => zE : S1280x3584.Idx → Elt F .f32) y = embF uid base u0 n S y := fun y hy =>
    (embF_rest S y fun t ht => (Finset.mem_filter.mp hy).2 t ht).symm
  have e1 : bigSep Finset.univ (deliv c uid base u0 n S)
      = (iprop(bigSep Finset.univ (fun t : Fin n => eAt c (setE (rowAt uid base (u0 + t.val))) (embF uid base u0 n S))
          ∗ bigSep Finset.univ (fun t : Fin n => sAt c (setS (u0 + t.val)) S)) : sProp 𝕄) := by
    exact bigSep_sep _ _ _
  have d1 : ∀ t ∈ (Finset.univ : Finset (Fin n)), ∀ t' ∈ (Finset.univ : Finset (Fin n)), t ≠ t' →
      Disjoint (setE (rowAt uid base (u0 + t.val))) (setE (rowAt uid base (u0 + t'.val))) := fun t _ t' _ hne => by
    rw [Finset.disjoint_left]
    intro y h1 h2
    simp only [setE, Finset.mem_filter, Finset.mem_univ, true_and] at h1 h2
    exact hr.row_ne t.val t'.val t.isLt t'.isLt (fun e => hne (Fin.ext e)) (h1.symm.trans h2)
  have d2 : ∀ t ∈ (Finset.univ : Finset (Fin n)), ∀ t' ∈ (Finset.univ : Finset (Fin n)), t ≠ t' →
      Disjoint (setS (u0 + t.val)) (setS (u0 + t'.val)) := fun t _ t' _ hne => by
    rw [Finset.disjoint_left]
    intro y h1 h2
    simp only [setS, Finset.mem_filter, Finset.mem_univ, true_and] at h1 h2
    exact hne (Fin.ext (by omega))
  have u1 : (Finset.univ.biUnion fun t : Fin n => setE (rowAt uid base (u0 + t.val))) ∪ remE uid base u0 n = Finset.univ := by
    ext y
    simp only [Finset.mem_union, Finset.mem_biUnion, setE, remE, Finset.mem_filter, Finset.mem_univ, true_and, iff_true]
    by_cases h : ∃ t, t < n ∧ (y 0).val = rowAt uid base (u0 + t)
    · obtain ⟨t, ht, e⟩ := h; exact .inl ⟨⟨t, ht⟩, e⟩
    · exact .inr fun t ht e => h ⟨t, ht, e⟩
  have x1 : Disjoint (Finset.univ.biUnion fun t : Fin n => setE (rowAt uid base (u0 + t.val))) (remE uid base u0 n) := by
    rw [Finset.disjoint_left]
    intro y h1 h2
    simp only [Finset.mem_biUnion, setE, remE, Finset.mem_filter, Finset.mem_univ, true_and] at h1 h2
    obtain ⟨t, e⟩ := h1; exact h2 t.val t.isLt e
  have u2 : (Finset.univ.biUnion fun t : Fin n => setS (u0 + t.val)) ∪ remS u0 n = Finset.univ := by
    ext y
    simp only [Finset.mem_union, Finset.mem_biUnion, setS, remS, Finset.mem_filter, Finset.mem_univ, true_and, iff_true]
    by_cases h : u0 ≤ (y 0).val ∧ (y 0).val < u0 + n
    · exact .inl ⟨⟨(y 0).val - u0, by omega⟩, by simp only; omega⟩
    · exact .inr h
  have x2 : Disjoint (Finset.univ.biUnion fun t : Fin n => setS (u0 + t.val)) (remS u0 n) := by
    rw [Finset.disjoint_left]
    intro y h1 h2
    simp only [Finset.mem_biUnion, setS, remS, Finset.mem_filter, Finset.mem_univ, true_and] at h1 h2
    obtain ⟨t, e⟩ := h1; have := t.isLt; omega
  have b1 : bigSep Finset.univ (fun t : Fin n => eAt c (setE (rowAt uid base (u0 + t.val))) (embF uid base u0 n S))
      ⊢ (eAt c (Finset.univ.biUnion fun t : Fin n => setE (rowAt uid base (u0 + t.val))) (embF uid base u0 n S) : sProp 𝕄) :=
    Entails.of_eq (pointsTo_biUnion (ℓ := mE.view.loc (c : Thread nD τ)) Finset.univ
      (fun t : Fin n => setE (rowAt uid base (u0 + t.val))) d1).symm
  have b2 : bigSep Finset.univ (fun t : Fin n => sAt c (setS (u0 + t.val)) S)
      ⊢ (sAt c (Finset.univ.biUnion fun t : Fin n => setS (u0 + t.val)) S : sProp 𝕄) :=
    Entails.of_eq (pointsTo_biUnion (ℓ := mS.view.loc (c : Thread nD τ)) Finset.univ
      (fun t : Fin n => setS (u0 + t.val)) d2).symm
  rw [e1]
  iintro ⟨⟨HEs, HSs⟩, HE, HS⟩
  isplitl [HEs HE]
  · ihave HEs' := b1 $$ HEs
    ihave HE' := Entails.of_eq (pointsTo_congr hE) $$ HE
    rw [← u1]
    iapply (pointsTo_union x1).2
    isplitl [HEs'] <;> iassumption
  · ihave HSs' := b2 $$ HSs
    rw [← u2]
    iapply (pointsTo_union x2).2
    isplitl [HSs'] <;> iassumption

end Cert.Kernel.Hand
-- ==== Proof.KStrip.lean ====
/-
  THE KERNEL'S STRIPS. One grid step's 1280 rows are finished in five strips of 256 rows: a strip's gradient is the
  product of `hxt` with the strip's slab of the dequantized logits gradient, plus the embedding rows of the strip, in
  seven blocks of 512 columns; each block is quantized in groups of 64 columns. What a strip leaves in the codes, in
  the scales and in the embedding scratch, and so what the five leave.
-/
module

public import proofs.«01_k».proof.Proof.KCopies

@[expose] public section

set_option maxRecDepth 8192
set_option maxHeartbeats 400000

noncomputable section

namespace Cert.Kernel.Hand

open Cert.Kernel Cert.Kernel.Gen Cert.Tables
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ### One block of 512 columns -/

/-- Rows `512 m …` of `hxt`. -/
def hBlk (x5 : FVec F S3584x2048 .bf16) (m : Fin 7) : FVec F S512x2048 .bf16 :=
  fun j => x5 (ix2 ⟨512 * m.val + (j 0).val, by have h0 : (j 0).val < 512 := (j 0).isLt; omega⟩ (j 1))

/-- Slab `k` of the dequantized gradient. -/
def gSlab (x9 : FVec F S5x2048x256 .bf16) (k : Fin 5) : FVec F S1x2048x256 .bf16 :=
  fun j => x9 (ix3 k (j 1) (j 2))

/-- The block of the embedding scratch at rows `256 k …`, columns `512 m …`. -/
def eBlk (e : FVec F S1280x3584 .f32) (k : Fin 5) (m : Fin 7) : FVec F S256x512 .f32 :=
  fun j => e (ix2 ⟨256 * k.val + (j 0).val, by have h0 : (j 0).val < 256 := (j 0).isLt; omega⟩
    ⟨512 * m.val + (j 1).val, by have h0 : (j 1).val < 512 := (j 1).isLt; omega⟩)

/-- The product of the two, as the kernel's accumulator holds it. -/
def accOf (x5 : FVec F S3584x2048 .bf16) (x9 : FVec F S5x2048x256 .bf16) (k : Fin 5) (m : Fin 7) : FVec F S1x512x256 .f32 :=
  k0_pay9 (hBlk x5 m) (gSlab x9 k)

/-- The codes of a block, and the scales of its eight groups. -/
def codesQ (acc : FVec F S1x512x256 .f32) (e : FVec F S256x512 .f32) : FVec F S256x512 .fp8e4m3 :=
  k0_pay15 (k0_pay12 acc e) (k0_pay13 acc e)
def scaleQ (acc : FVec F S1x512x256 .f32) (e : FVec F S256x512 .f32) : FVec F S8x256 .f32 :=
  k0_pay17 (k0_pay16 (k0_pay13 acc e))

/-- The 56 scales of a strip's columns, before they are transposed. -/
def sctOf (x5 : FVec F S3584x2048 .bf16) (x9 : FVec F S5x2048x256 .bf16) (e : FVec F S1280x3584 .f32) (k : Fin 5) : FVec F S56x256 .f32 :=
  fun y => scaleQ (accOf x5 x9 k ⟨(y 0).val / 8, by have h0 : (y 0).val < 56 := (y 0).isLt; omega⟩)
    (eBlk e k ⟨(y 0).val / 8, by have h0 : (y 0).val < 56 := (y 0).isLt; omega⟩) (ix2 ⟨(y 0).val % 8, Nat.mod_lt _ (by omega)⟩ (y 1))

/-- THE CODES AND THE SCALES of a whole step. -/
def codesOf (x5 : FVec F S3584x2048 .bf16) (x9 : FVec F S5x2048x256 .bf16) (e : FVec F S1280x3584 .f32) : FVec F S1280x3584 .fp8e4m3 :=
  fun y => codesQ (accOf x5 x9 ⟨(y 0).val / 256, by have h0 : (y 0).val < 1280 := (y 0).isLt; omega⟩ ⟨(y 1).val / 512, by have h0 : (y 1).val < 3584 := (y 1).isLt; omega⟩)
    (eBlk e ⟨(y 0).val / 256, by have h0 : (y 0).val < 1280 := (y 0).isLt; omega⟩ ⟨(y 1).val / 512, by have h0 : (y 1).val < 3584 := (y 1).isLt; omega⟩)
    (ix2 ⟨(y 0).val % 256, Nat.mod_lt _ (by omega)⟩ ⟨(y 1).val % 512, Nat.mod_lt _ (by omega)⟩)
def scaleOf (x5 : FVec F S3584x2048 .bf16) (x9 : FVec F S5x2048x256 .bf16) (e : FVec F S1280x3584 .f32) : FVec F S1280x56 .f32 :=
  fun y => k0_pay8 (sctOf x5 x9 e ⟨(y 0).val / 256, by have h0 : (y 0).val < 1280 := (y 0).isLt; omega⟩)
    (ix2 ⟨(y 0).val % 256, Nat.mod_lt _ (by omega)⟩ (y 1))

/-! ### Where the strip's rectangles lie -/

theorem t5_trips : k0_t5_loop.trips = 5 := by decide +kernel

theorem off15_eq : ∀ k : Fin k0_t5_loop.trips, k0_off15 k = ![k.val, 0, 0] := by decide +kernel
theorem off16_eq : ∀ k : Fin k0_t5_loop.trips, k0_off16 k = ![256 * k.val, 0] := by decide +kernel
theorem off17_eq : ∀ k : Fin k0_t5_loop.trips, k0_off17 k = ![256 * k.val, 512] := by decide +kernel
theorem off18_eq : ∀ k : Fin k0_t5_loop.trips, k0_off18 k = ![256 * k.val, 1024] := by decide +kernel
theorem off19_eq : ∀ k : Fin k0_t5_loop.trips, k0_off19 k = ![256 * k.val, 1536] := by decide +kernel
theorem off20_eq : ∀ k : Fin k0_t5_loop.trips, k0_off20 k = ![256 * k.val, 2048] := by decide +kernel
theorem off21_eq : ∀ k : Fin k0_t5_loop.trips, k0_off21 k = ![256 * k.val, 2560] := by decide +kernel
theorem off22_eq : ∀ k : Fin k0_t5_loop.trips, k0_off22 k = ![256 * k.val, 3072] := by decide +kernel
theorem off23_eq : ∀ k : Fin k0_t5_loop.trips, k0_off23 k = ![256 * k.val, 0] := by decide +kernel

/-! ### What the strip's loads read -/

variable {κ : Kind} {sp : Space}

theorem load_h (v : View sig κ sp S3584x2048 .bf16) (X : v.ty.Contents (Elt F)) (m : Fin 7) (off : Fin 2 → ℕ) (ho : off = ![512 * m.val, 0])
    (h : ∀ a, off a + S512x2048.size a ≤ S3584x2048.size a) :
    v.readAt (Elt F) (Rect.unit (s := S3584x2048) off S512x2048.size h).toLoadRect X = hBlk (v.read (Elt F) X) m := by
  subst ho
  funext j
  rw [View.readAt_apply]
  unfold hBlk
  refine congrArg _ (funext fun a => ?_)
  match a with
  | ⟨0, _⟩ => exact Fin.ext (by show 512 * m.val + 1 * (j 0).val = 512 * m.val + (j 0).val; omega)
  | ⟨1, _⟩ => exact Fin.ext (by show 0 + 1 * (j 1).val = (j 1).val; omega)

theorem load_g (v : View sig κ sp S5x2048x256 .bf16) (X : v.ty.Contents (Elt F)) (k : Fin 5) (off : Fin 3 → ℕ) (ho : off = ![k.val, 0, 0])
    (h : ∀ a, off a + S1x2048x256.size a ≤ S5x2048x256.size a) :
    v.readAt (Elt F) (Rect.unit (s := S5x2048x256) off S1x2048x256.size h).toLoadRect X = gSlab (v.read (Elt F) X) k := by
  subst ho
  funext j
  rw [View.readAt_apply]
  unfold gSlab
  refine congrArg _ (funext fun a => ?_)
  match a with
  | ⟨0, _⟩ => exact Fin.ext (by
      have h0 : (j 0).val < 1 := (j 0).isLt
      show k.val + 1 * (j 0).val = k.val; omega)
  | ⟨1, _⟩ => exact Fin.ext (by show 0 + 1 * (j 1).val = (j 1).val; omega)
  | ⟨2, _⟩ => exact Fin.ext (by show 0 + 1 * (j 2).val = (j 2).val; omega)

theorem load_e (v : View sig κ sp S1280x3584 .f32) (X : v.ty.Contents (Elt F)) (k : Fin 5) (m : Fin 7) (off : Fin 2 → ℕ)
    (ho : off = ![256 * k.val, 512 * m.val])
    (h : ∀ a, off a + S256x512.size a ≤ S1280x3584.size a) :
    v.readAt (Elt F) (Rect.unit (s := S1280x3584) off S256x512.size h).toLoadRect X = eBlk (v.read (Elt F) X) k m := by
  subst ho
  funext j
  rw [View.readAt_apply]
  unfold eBlk
  refine congrArg _ (funext fun a => ?_)
  match a with
  | ⟨0, _⟩ => exact Fin.ext (by show 256 * k.val + 1 * (j 0).val = 256 * k.val + (j 0).val; omega)
  | ⟨1, _⟩ => exact Fin.ext (by show 512 * m.val + 1 * (j 1).val = 512 * m.val + (j 1).val; omega)

/-- A load of the rectangle the newest write went to reads its payload. -/
theorem cov_head {s : Shape} {e : EltTy} (v : View sig κ sp s e) (off sz : Fin s.rank → ℕ) (h h' : ∀ a, off a + sz a ≤ s.size a)
    (w : (Rect.unit (s := s) off sz h).shape.Idx → Elt F e) (L : List (View.Piece (Elt F) s e)) :
    v.readCov (⟨Rect.unit (s := s) off sz h, w⟩ :: L) (Rect.unit (s := s) off sz h').toLoadRect = w := by
  funext y
  unfold View.readCov
  rw [View.readAt_apply]
  exact View.read_writes_cons_emb v _ (Rect.unit (s := s) off sz h) w L y

/-- A load of one of the accumulator's two slots passes over a write to the other. -/
theorem cov_skip (v : View sig κ sp S2x512x256 .f32) (a b : ℕ) (hab : a ≠ b) (h : ∀ i, (![a, 0, 0] : Fin 3 → ℕ) i + S1x512x256.size i ≤ S2x512x256.size i)
    (h' : ∀ i, (![b, 0, 0] : Fin 3 → ℕ) i + S1x512x256.size i ≤ S2x512x256.size i)
    (w : (Rect.unit (s := S2x512x256) ![a, 0, 0] S1x512x256.size h).shape.Idx → Elt F .f32) (L : List (View.Piece (Elt F) S2x512x256 .f32)) :
    v.readCov (⟨Rect.unit (s := S2x512x256) ![a, 0, 0] S1x512x256.size h, w⟩ :: L) (Rect.unit (s := S2x512x256) ![b, 0, 0] S1x512x256.size h').toLoadRect
      = v.readCov L (Rect.unit (s := S2x512x256) ![b, 0, 0] S1x512x256.size h').toLoadRect := by
  funext y
  unfold View.readCov
  rw [View.readAt_apply, View.readAt_apply]
  refine View.read_writes_cons_miss v _ _ L _ (Rect.not_mem_set_of_axis _ _ (0 : Fin 3) a 1 rfl rfl rfl ?_)
  have h0 : (y 0).val < 1 := (y 0).isLt
  have h1 : ((Rect.unit (s := S2x512x256) ![b, 0, 0] S1x512x256.size h').toLoadRect.idx y 0).val = b + 1 * (y 0).val := rfl
  omega

/-- Where element `x` of the block at strip `k`, column block `m` lies. -/
def stripIx (k : Fin 5) (m : ℕ) (hm : m < 7) (x : S256x512.Idx) : S1280x3584.Idx :=
  ix2 ⟨256 * k.val + (x 0).val, by have h0 : (x 0).val < 256 := (x 0).isLt; omega⟩
    ⟨512 * m + (x 1).val, by have h0 : (x 1).val < 512 := (x 1).isLt; omega⟩

theorem stripIx_emb (k : Fin 5) (m : ℕ) (hm : m < 7) (h : ∀ a, (![256 * k.val, 512 * m] : Fin 2 → ℕ) a + S256x512.size a ≤ S1280x3584.size a)
    (x : S256x512.Idx) : (Rect.unit (s := S1280x3584) ![256 * k.val, 512 * m] S256x512.size h).emb x = stripIx k m hm x := by
  unfold stripIx
  funext a
  match a with
  | ⟨0, _⟩ => exact Fin.ext (by show 256 * k.val + 1 * (x 0).val = 256 * k.val + (x 0).val; omega)
  | ⟨1, _⟩ => exact Fin.ext (by show 512 * m + 1 * (x 1).val = 512 * m + (x 1).val; omega)

/-- Seven blocks written side by side are the strip written: it reads what they hold, and the other rows what they did. -/
theorem strip_read {e : EltTy} (v : View sig κ sp S1280x3584 e) (f : v.ty.Contents (Elt F)) (k : Fin 5) (G : S1280x3584.Idx → Elt F e)
    (o0 o1 o2 o3 o4 o5 o6 : Fin 2 → ℕ)
    (e0 : o0 = ![256 * k.val, 512 * 0]) (e1 : o1 = ![256 * k.val, 512 * 1]) (e2 : o2 = ![256 * k.val, 512 * 2]) (e3 : o3 = ![256 * k.val, 512 * 3])
    (e4 : o4 = ![256 * k.val, 512 * 4]) (e5 : o5 = ![256 * k.val, 512 * 5]) (e6 : o6 = ![256 * k.val, 512 * 6])
    (h0 : ∀ a, o0 a + S256x512.size a ≤ S1280x3584.size a) (h1 : ∀ a, o1 a + S256x512.size a ≤ S1280x3584.size a)
    (h2 : ∀ a, o2 a + S256x512.size a ≤ S1280x3584.size a) (h3 : ∀ a, o3 a + S256x512.size a ≤ S1280x3584.size a)
    (h4 : ∀ a, o4 a + S256x512.size a ≤ S1280x3584.size a) (h5 : ∀ a, o5 a + S256x512.size a ≤ S1280x3584.size a)
    (h6 : ∀ a, o6 a + S256x512.size a ≤ S1280x3584.size a)
    (w0 w1 w2 w3 w4 w5 w6 : S256x512.Idx → Elt F e)
    (g0 : ∀ x, w0 x = G (stripIx k 0 (by omega) x)) (g1 : ∀ x, w1 x = G (stripIx k 1 (by omega) x)) (g2 : ∀ x, w2 x = G (stripIx k 2 (by omega) x))
    (g3 : ∀ x, w3 x = G (stripIx k 3 (by omega) x)) (g4 : ∀ x, w4 x = G (stripIx k 4 (by omega) x)) (g5 : ∀ x, w5 x = G (stripIx k 5 (by omega) x))
    (g6 : ∀ x, w6 x = G (stripIx k 6 (by omega) x)) (y : S1280x3584.Idx) :
    v.read (Elt F) (v.writes (Elt F) f [⟨Rect.unit (s := S1280x3584) o6 S256x512.size h6, w6⟩, ⟨Rect.unit (s := S1280x3584) o5 S256x512.size h5, w5⟩,
      ⟨Rect.unit (s := S1280x3584) o4 S256x512.size h4, w4⟩, ⟨Rect.unit (s := S1280x3584) o3 S256x512.size h3, w3⟩, ⟨Rect.unit (s := S1280x3584) o2 S256x512.size h2, w2⟩,
      ⟨Rect.unit (s := S1280x3584) o1 S256x512.size h1, w1⟩, ⟨Rect.unit (s := S1280x3584) o0 S256x512.size h0, w0⟩]) y
      = if 256 * k.val ≤ (y 0).val ∧ (y 0).val < 256 * k.val + 256 then G y else v.read (Elt F) f y := by
  subst e0 e1 e2 e3 e4 e5 e6
  have hy1 : (y 1).val < 3584 := (y 1).isLt
  split
  · next hy =>
    have mem (m : ℕ) (h : ∀ a, (![256 * k.val, 512 * m] : Fin 2 → ℕ) a + S256x512.size a ≤ S1280x3584.size a)
        (hm : 512 * m ≤ (y 1).val ∧ (y 1).val < 512 * m + 512) : y ∈ (Rect.unit (s := S1280x3584) ![256 * k.val, 512 * m] S256x512.size h).set :=
      Rect.mem_set_unit.2 fun a => match a with
        | ⟨0, _⟩ => hy
        | ⟨1, _⟩ => hm
    refine View.read_writes_apply_of_pieces v f G _ ?_ y ?_
    · intro p hp
      simp only [List.mem_cons, List.not_mem_nil, _root_.or_false] at hp
      rcases hp with rfl | rfl | rfl | rfl | rfl | rfl | rfl <;> intro x
      · exact (g6 x).trans (congrArg G (stripIx_emb k 6 (by omega) h6 x).symm)
      · exact (g5 x).trans (congrArg G (stripIx_emb k 5 (by omega) h5 x).symm)
      · exact (g4 x).trans (congrArg G (stripIx_emb k 4 (by omega) h4 x).symm)
      · exact (g3 x).trans (congrArg G (stripIx_emb k 3 (by omega) h3 x).symm)
      · exact (g2 x).trans (congrArg G (stripIx_emb k 2 (by omega) h2 x).symm)
      · exact (g1 x).trans (congrArg G (stripIx_emb k 1 (by omega) h1 x).symm)
      · exact (g0 x).trans (congrArg G (stripIx_emb k 0 (by omega) h0 x).symm)
    · have hc : (y 1).val / 512 = 0 ∨ (y 1).val / 512 = 1 ∨ (y 1).val / 512 = 2 ∨ (y 1).val / 512 = 3 ∨ (y 1).val / 512 = 4 ∨ (y 1).val / 512 = 5
          ∨ (y 1).val / 512 = 6 := by omega
      rcases hc with hc | hc | hc | hc | hc | hc | hc
      · exact ⟨⟨Rect.unit (s := S1280x3584) ![256 * k.val, 512 * 0] S256x512.size h0, w0⟩, by simp only [List.mem_cons, _root_.true_or, _root_.or_true], mem 0 h0 (by omega)⟩
      · exact ⟨⟨Rect.unit (s := S1280x3584) ![256 * k.val, 512 * 1] S256x512.size h1, w1⟩, by simp only [List.mem_cons, _root_.true_or, _root_.or_true], mem 1 h1 (by omega)⟩
      · exact ⟨⟨Rect.unit (s := S1280x3584) ![256 * k.val, 512 * 2] S256x512.size h2, w2⟩, by simp only [List.mem_cons, _root_.true_or, _root_.or_true], mem 2 h2 (by omega)⟩
      · exact ⟨⟨Rect.unit (s := S1280x3584) ![256 * k.val, 512 * 3] S256x512.size h3, w3⟩, by simp only [List.mem_cons, _root_.true_or, _root_.or_true], mem 3 h3 (by omega)⟩
      · exact ⟨⟨Rect.unit (s := S1280x3584) ![256 * k.val, 512 * 4] S256x512.size h4, w4⟩, by simp only [List.mem_cons, _root_.true_or, _root_.or_true], mem 4 h4 (by omega)⟩
      · exact ⟨⟨Rect.unit (s := S1280x3584) ![256 * k.val, 512 * 5] S256x512.size h5, w5⟩, by simp only [List.mem_cons, _root_.true_or, _root_.or_true], mem 5 h5 (by omega)⟩
      · exact ⟨⟨Rect.unit (s := S1280x3584) ![256 * k.val, 512 * 6] S256x512.size h6, w6⟩, by simp only [List.mem_cons, _root_.true_or, _root_.or_true], mem 6 h6 (by omega)⟩
  · next hy =>
    have miss (o : Fin 2 → ℕ) (ho : o 0 = 256 * k.val) (h : ∀ a, o a + S256x512.size a ≤ S1280x3584.size a) : y ∉ (Rect.unit (s := S1280x3584) o S256x512.size h).set :=
      Rect.not_mem_set_of_axis _ y (0 : Fin 2) (256 * k.val) 256 ho rfl rfl (by omega)
    refine View.read_writes_apply_of_forall_not_mem v f y _ ?_
    intro p hp
    simp only [List.mem_cons, List.not_mem_nil, _root_.or_false] at hp
    rcases hp with rfl | rfl | rfl | rfl | rfl | rfl | rfl
    · exact miss ![256 * k.val, 512 * 6] rfl h6
    · exact miss ![256 * k.val, 512 * 5] rfl h5
    · exact miss ![256 * k.val, 512 * 4] rfl h4
    · exact miss ![256 * k.val, 512 * 3] rfl h3
    · exact miss ![256 * k.val, 512 * 2] rfl h2
    · exact miss ![256 * k.val, 512 * 1] rfl h1
    · exact miss ![256 * k.val, 512 * 0] rfl h0

/-- The strip's transposed scales: seven writes of eight rows each. -/
theorem rows_read (v : View sig κ sp S56x256 .f32) (G : S56x256.Idx → Elt F .f32)
    (h0 : ∀ a, (![0, 0] : Fin 2 → ℕ) a + S8x256.size a ≤ S56x256.size a) (h1 : ∀ a, (![8, 0] : Fin 2 → ℕ) a + S8x256.size a ≤ S56x256.size a)
    (h2 : ∀ a, (![16, 0] : Fin 2 → ℕ) a + S8x256.size a ≤ S56x256.size a) (h3 : ∀ a, (![24, 0] : Fin 2 → ℕ) a + S8x256.size a ≤ S56x256.size a)
    (h4 : ∀ a, (![32, 0] : Fin 2 → ℕ) a + S8x256.size a ≤ S56x256.size a) (h5 : ∀ a, (![40, 0] : Fin 2 → ℕ) a + S8x256.size a ≤ S56x256.size a)
    (h6 : ∀ a, (![48, 0] : Fin 2 → ℕ) a + S8x256.size a ≤ S56x256.size a) (h : ∀ a, (![0, 0] : Fin 2 → ℕ) a + S56x256.size a ≤ S56x256.size a)
    (w0 w1 w2 w3 w4 w5 w6 : S8x256.Idx → Elt F .f32)
    (g : ∀ (m : ℕ) (hm : m < 7) (x : S8x256.Idx), (![w0, w1, w2, w3, w4, w5, w6] : Fin 7 → S8x256.Idx → Elt F .f32) ⟨m, hm⟩ x
      = G (ix2 ⟨8 * m + (x 0).val, by have h0 : (x 0).val < 8 := (x 0).isLt; omega⟩ (x 1))) :
    v.readCov [⟨Rect.unit (s := S56x256) ![48, 0] S8x256.size h6, w6⟩, ⟨Rect.unit (s := S56x256) ![40, 0] S8x256.size h5, w5⟩,
      ⟨Rect.unit (s := S56x256) ![32, 0] S8x256.size h4, w4⟩, ⟨Rect.unit (s := S56x256) ![24, 0] S8x256.size h3, w3⟩, ⟨Rect.unit (s := S56x256) ![16, 0] S8x256.size h2, w2⟩,
      ⟨Rect.unit (s := S56x256) ![8, 0] S8x256.size h1, w1⟩, ⟨Rect.unit (s := S56x256) ![0, 0] S8x256.size h0, w0⟩]
      (Rect.unit (s := S56x256) ![0, 0] S56x256.size h).toLoadRect = G := by
  funext y
  have hy0 : (y 0).val < 56 := (y 0).isLt
  have hyy : (Rect.unit (s := S56x256) ![0, 0] S56x256.size h).toLoadRect.idx y = y := funext fun a => match a with
    | ⟨0, _⟩ => Fin.ext (by show 0 + 1 * (y 0).val = (y 0).val; omega)
    | ⟨1, _⟩ => Fin.ext (by show 0 + 1 * (y 1).val = (y 1).val; omega)
  unfold View.readCov
  rw [View.readAt_apply, hyy]
  have mem (m : ℕ) (h : ∀ a, (![m, 0] : Fin 2 → ℕ) a + S8x256.size a ≤ S56x256.size a)
      (hm : m ≤ (y 0).val ∧ (y 0).val < m + 8) : y ∈ (Rect.unit (s := S56x256) ![m, 0] S8x256.size h).set :=
    Rect.mem_set_unit.2 fun a => match a with
      | ⟨0, _⟩ => hm
      | ⟨1, _⟩ => ⟨Nat.zero_le _, by have h1 : (y 1).val < 256 := (y 1).isLt; show (y 1).val < 0 + 256; omega⟩
  have emb (m m' : ℕ) (hm : m < 7) (hmm : 8 * m = m') (h : ∀ a, (![m', 0] : Fin 2 → ℕ) a + S8x256.size a ≤ S56x256.size a) (x : S8x256.Idx) :
      (ix2 ⟨8 * m + (x 0).val, by have h0 : (x 0).val < 8 := (x 0).isLt; omega⟩ (x 1) : S56x256.Idx)
        = (Rect.unit (s := S56x256) ![m', 0] S8x256.size h).emb x := by
    subst hmm
    funext a
    match a with
    | ⟨0, _⟩ => exact Fin.ext (by show 8 * m + (x 0).val = 8 * m + 1 * (x 0).val; omega)
    | ⟨1, _⟩ => exact Fin.ext (by show (x 1).val = 0 + 1 * (x 1).val; omega)
  refine View.read_writes_apply_of_pieces v _ G _ ?_ y ?_
  · intro p hp
    simp only [List.mem_cons, List.not_mem_nil, _root_.or_false] at hp
    rcases hp with rfl | rfl | rfl | rfl | rfl | rfl | rfl <;> intro x
    · exact (g 6 (by omega) x).trans (congrArg G (emb 6 48 (by omega) rfl h6 x))
    · exact (g 5 (by omega) x).trans (congrArg G (emb 5 40 (by omega) rfl h5 x))
    · exact (g 4 (by omega) x).trans (congrArg G (emb 4 32 (by omega) rfl h4 x))
    · exact (g 3 (by omega) x).trans (congrArg G (emb 3 24 (by omega) rfl h3 x))
    · exact (g 2 (by omega) x).trans (congrArg G (emb 2 16 (by omega) rfl h2 x))
    · exact (g 1 (by omega) x).trans (congrArg G (emb 1 8 (by omega) rfl h1 x))
    · exact (g 0 (by omega) x).trans (congrArg G (emb 0 0 (by omega) rfl h0 x))
  · have hc : (y 0).val / 8 = 0 ∨ (y 0).val / 8 = 1 ∨ (y 0).val / 8 = 2 ∨ (y 0).val / 8 = 3 ∨ (y 0).val / 8 = 4 ∨ (y 0).val / 8 = 5
        ∨ (y 0).val / 8 = 6 := by omega
    rcases hc with hc | hc | hc | hc | hc | hc | hc
    · exact ⟨⟨Rect.unit (s := S56x256) ![0, 0] S8x256.size h0, w0⟩, by simp only [List.mem_cons, _root_.true_or, _root_.or_true], mem 0 h0 (by omega)⟩
    · exact ⟨⟨Rect.unit (s := S56x256) ![8, 0] S8x256.size h1, w1⟩, by simp only [List.mem_cons, _root_.true_or, _root_.or_true], mem 8 h1 (by omega)⟩
    · exact ⟨⟨Rect.unit (s := S56x256) ![16, 0] S8x256.size h2, w2⟩, by simp only [List.mem_cons, _root_.true_or, _root_.or_true], mem 16 h2 (by omega)⟩
    · exact ⟨⟨Rect.unit (s := S56x256) ![24, 0] S8x256.size h3, w3⟩, by simp only [List.mem_cons, _root_.true_or, _root_.or_true], mem 24 h3 (by omega)⟩
    · exact ⟨⟨Rect.unit (s := S56x256) ![32, 0] S8x256.size h4, w4⟩, by simp only [List.mem_cons, _root_.true_or, _root_.or_true], mem 32 h4 (by omega)⟩
    · exact ⟨⟨Rect.unit (s := S56x256) ![40, 0] S8x256.size h5, w5⟩, by simp only [List.mem_cons, _root_.true_or, _root_.or_true], mem 40 h5 (by omega)⟩
    · exact ⟨⟨Rect.unit (s := S56x256) ![48, 0] S8x256.size h6, w6⟩, by simp only [List.mem_cons, _root_.true_or, _root_.or_true], mem 48 h6 (by omega)⟩

theorem codesOf_strip (x5 : FVec F S3584x2048 .bf16) (x9 : FVec F S5x2048x256 .bf16) (e : FVec F S1280x3584 .f32) (k : Fin 5) (m : ℕ) (hm : m < 7)
    (x : S256x512.Idx) : codesQ (accOf x5 x9 k ⟨m, hm⟩) (eBlk e k ⟨m, hm⟩) x = codesOf x5 x9 e (stripIx k m hm x) := by
  have h0 : (x 0).val < 256 := (x 0).isLt
  have h1 : (x 1).val < 512 := (x 1).isLt
  have a0 : (256 * k.val + (x 0).val) / 256 = k.val := by omega
  have a1 : (512 * m + (x 1).val) / 512 = m := by omega
  have b0 : (256 * k.val + (x 0).val) % 256 = (x 0).val := by omega
  have b1 : (512 * m + (x 1).val) % 512 = (x 1).val := by omega
  have c0 : (⟨(256 * k.val + (x 0).val) / 256, by omega⟩ : Fin 5) = k := Fin.ext a0
  have c1 : (⟨(512 * m + (x 1).val) / 512, by omega⟩ : Fin 7) = ⟨m, hm⟩ := Fin.ext a1
  have c2 : (ix2 ⟨(256 * k.val + (x 0).val) % 256, by omega⟩ ⟨(512 * m + (x 1).val) % 512, by omega⟩ : S256x512.Idx) = x := funext fun a => match a with
    | ⟨0, _⟩ => Fin.ext b0
    | ⟨1, _⟩ => Fin.ext b1
  show _ = codesQ (accOf x5 x9 ⟨(256 * k.val + (x 0).val) / 256, _⟩ ⟨(512 * m + (x 1).val) / 512, _⟩)
    (eBlk e ⟨(256 * k.val + (x 0).val) / 256, _⟩ ⟨(512 * m + (x 1).val) / 512, _⟩) (ix2 ⟨(256 * k.val + (x 0).val) % 256, _⟩ ⟨(512 * m + (x 1).val) % 512, _⟩)
  rw [c0, c1, c2]

theorem sctOf_rows (x5 : FVec F S3584x2048 .bf16) (x9 : FVec F S5x2048x256 .bf16) (e : FVec F S1280x3584 .f32) (k : Fin 5) (m : ℕ) (hm : m < 7)
    (x : S8x256.Idx) : scaleQ (accOf x5 x9 k ⟨m, hm⟩) (eBlk e k ⟨m, hm⟩) x
      = sctOf x5 x9 e k (ix2 ⟨8 * m + (x 0).val, by have h0 : (x 0).val < 8 := (x 0).isLt; omega⟩ (x 1)) := by
  have h0 : (x 0).val < 8 := (x 0).isLt
  have c1 : (⟨(8 * m + (x 0).val) / 8, by omega⟩ : Fin 7) = ⟨m, hm⟩ := Fin.ext (by show (8 * m + (x 0).val) / 8 = m; omega)
  have c2 : (ix2 ⟨(8 * m + (x 0).val) % 8, by omega⟩ (x 1) : S8x256.Idx) = x := funext fun a => match a with
    | ⟨0, _⟩ => Fin.ext (by show (8 * m + (x 0).val) % 8 = (x 0).val; omega)
    | ⟨1, _⟩ => rfl
  show _ = scaleQ (accOf x5 x9 k ⟨(8 * m + (x 0).val) / 8, _⟩) (eBlk e k ⟨(8 * m + (x 0).val) / 8, _⟩) (ix2 ⟨(8 * m + (x 0).val) % 8, _⟩ (x 1))
  rw [c1, c2]

/-- One write of the strip's scales. -/
theorem scale_read (v : View sig κ sp S1280x56 .f32) (f : v.ty.Contents (Elt F)) (k : Fin 5) (G : S1280x56.Idx → Elt F .f32)
    (o : Fin 2 → ℕ) (eo : o = ![256 * k.val, 0]) (h : ∀ a, o a + S256x56.size a ≤ S1280x56.size a) (w : S256x56.Idx → Elt F .f32)
    (g : ∀ x : S256x56.Idx, w x = G (ix2 ⟨256 * k.val + (x 0).val, by have h0 : (x 0).val < 256 := (x 0).isLt; omega⟩ (x 1))) (y : S1280x56.Idx) :
    v.read (Elt F) (v.writes (Elt F) f [⟨Rect.unit (s := S1280x56) o S256x56.size h, w⟩]) y
      = if 256 * k.val ≤ (y 0).val ∧ (y 0).val < 256 * k.val + 256 then G y else v.read (Elt F) f y := by
  subst eo
  split
  · next hy =>
    have e := View.read_writes_cons_hit_of_coords v f (Rect.unit (s := S1280x56) ![256 * k.val, 0] S256x56.size h) w []
      (ix2 ⟨(y 0).val - 256 * k.val, by omega⟩ (y 1)) y (fun a => match a with
        | ⟨0, _⟩ => by show (y 0).val = 256 * k.val + 1 * ((y 0).val - 256 * k.val); omega
        | ⟨1, _⟩ => by show (y 1).val = 0 + 1 * (y 1).val; omega)
    refine (e.trans (g _)).trans (congrArg G (funext fun a => match a with
        | ⟨0, _⟩ => Fin.ext (by show 256 * k.val + ((y 0).val - 256 * k.val) = (y 0).val; omega)
        | ⟨1, _⟩ => rfl))
  · next hy =>
    exact View.read_writes_cons_miss v f _ [] y
      (Rect.not_mem_set_of_axis _ y (0 : Fin 2) (256 * k.val) 256 rfl rfl rfl (by omega))

theorem scaleOf_strip (x5 : FVec F S3584x2048 .bf16) (x9 : FVec F S5x2048x256 .bf16) (e : FVec F S1280x3584 .f32) (k : Fin 5) (x : S256x56.Idx) :
    k0_pay8 (sctOf x5 x9 e k) x = scaleOf x5 x9 e (ix2 ⟨256 * k.val + (x 0).val, by have h0 : (x 0).val < 256 := (x 0).isLt; omega⟩ (x 1)) := by
  have h0 : (x 0).val < 256 := (x 0).isLt
  have c0 : (⟨(256 * k.val + (x 0).val) / 256, by omega⟩ : Fin 5) = k := Fin.ext (by show (256 * k.val + (x 0).val) / 256 = k.val; omega)
  have c2 : (ix2 ⟨(256 * k.val + (x 0).val) % 256, by omega⟩ (x 1) : S256x56.Idx) = x := funext fun a => match a with
    | ⟨0, _⟩ => Fin.ext (by show (256 * k.val + (x 0).val) % 256 = (x 0).val; omega)
    | ⟨1, _⟩ => rfl
  show _ = k0_pay8 (sctOf x5 x9 e ⟨(256 * k.val + (x 0).val) / 256, _⟩) (ix2 ⟨(256 * k.val + (x 0).val) % 256, _⟩ (x 1))
  rw [c0, c2]

/-- ONE STRIP: the codes and the scales of its rows are `codesOf`, `scaleOf` of what the embedding scratch held, which is cleared there; the
    other rows are as they were. -/
theorem strip_trip (𝒱 : Variants) (c : Dev nD) (i : grid0.Coords) (arg1 : Memref sig .tc .smem S26 .i32) (harg1 : arg1.IsWhole) (arg2 : Memref sig .tc .smem S17x128 .i32) (harg2 : arg2.IsWhole) (arg3 : Memref sig .tc .vmem S2048x1280 .fp8e5m2) (harg3 : arg3.IsWhole) (arg4 : Memref sig .tc .vmem S2048x25 .f32) (harg4 : arg4.IsWhole) (arg5 : Memref sig .tc .vmem S3584x2048 .bf16) (harg5 : arg5.IsWhole) (arg6 : Memref sig .tc .hbm S2240x3584 .f32) (harg6 : arg6.IsWhole) (arg7 : Memref sig .tc .vmem S1280x3584 .fp8e4m3) (harg7 : arg7.IsWhole) (arg8 : Memref sig .tc .vmem S1280x56 .f32) (harg8 : arg8.IsWhole) (arg9 : Memref sig .tc .vmem S5x2048x256 .bf16) (harg9 : arg9.IsWhole) (arg10 : Memref sig .tc .vmem S1280x3584 .f32) (harg10 : arg10.IsWhole) (arg11 : Memref sig .tc .vmem S2x512x256 .f32) (harg11 : arg11.IsWhole) (arg12 : Memref sig .tc .vmem S56x256 .f32) (harg12 : arg12.IsWhole) (arg13 : DmaSems sig S_) (X5 : BufTy.Contents (Elt F) arg5.view.ty) (X9 : BufTy.Contents (Elt F) arg9.view.ty) (k : Fin k0_t5_loop.trips)
   (f7 : BufTy.Contents (Elt F) arg7.view.ty) (f8 : BufTy.Contents (Elt F) arg8.view.ty) (f10 : BufTy.Contents (Elt F) arg10.view.ty) (f11 : BufTy.Contents (Elt F) arg11.view.ty) (f12 : BufTy.Contents (Elt F) arg12.view.ty) :
      (Trip_k0_t5 (F := F) c arg5 arg9 arg7 arg8 arg10 arg11 arg12 X5 X9 f7 f8 f10 f11 f12 : sProp 𝕄)
      ⊢ wp frame (wpE (defs₀ (F := F)) 𝒱 (c : Thread nD τ) none) Set.univ (k0_t5_body (F := F) i arg1 harg1 arg2 harg2 arg3 harg3 arg4 harg4 arg5 harg5 arg6 harg6 arg7 harg7 arg8 harg8 arg9 harg9 arg10 harg10 arg11 harg11 arg12 harg12 arg13 k PUnit.unit)
          (fun _ => iprop(∃ (g7 : BufTy.Contents (Elt F) arg7.view.ty) (g8 : BufTy.Contents (Elt F) arg8.view.ty) (g10 : BufTy.Contents (Elt F) arg10.view.ty) (g11 : BufTy.Contents (Elt F) arg11.view.ty) (g12 : BufTy.Contents (Elt F) arg12.view.ty), Trip_k0_t5 (F := F) c arg5 arg9 arg7 arg8 arg10 arg11 arg12 X5 X9 g7 g8 g10 g11 g12 ∗ ⌜(∀ y, arg7.view.read (Elt F) g7 y = if 256 * k.val ≤ (y 0).val ∧ (y 0).val < 256 * k.val + 256 then codesOf (arg5.view.read (Elt F) X5) (arg9.view.read (Elt F) X9) (arg10.view.read (Elt F) f10) y else arg7.view.read (Elt F) f7 y) ∧ (∀ y, arg8.view.read (Elt F) g8 y = if 256 * k.val ≤ (y 0).val ∧ (y 0).val < 256 * k.val + 256 then scaleOf (arg5.view.read (Elt F) X5) (arg9.view.read (Elt F) X9) (arg10.view.read (Elt F) f10) y else arg8.view.read (Elt F) f8 y)
        ∧ ∀ y, arg10.view.read (Elt F) g10 y = if 256 * k.val ≤ (y 0).val ∧ (y 0).val < 256 * k.val + 256 then zE else arg10.view.read (Elt F) f10 y⌝)) := by
  have hk : k.val < 5 := Nat.lt_of_lt_of_le k.isLt k0_t5_abs.2.1
  unfold k0_t5_body
  iintro ⟨HR_arg5, HR_arg9, HW_arg7, HW_arg8, HW_arg10, HW_arg11, HW_arg12⟩
  sl_exec
  sl_step
  iexists _, _, _, _, _
  isplitl
  · isplitl [HR_arg5]; · iexact HR_arg5
    isplitl [HR_arg9]; · iexact HR_arg9
    isplitl [HW_arg7]; · iexact HW_arg7
    isplitl [HW_arg8]; · iexact HW_arg8
    isplitl [HW_arg10]; · iexact HW_arg10
    isplitl [HW_arg11]; · iexact HW_arg11
    iexact HW_arg12
  ipureintro
  obtain ⟨K, hK⟩ : ∃ K : Fin 5, K.val = k.val := ⟨⟨k.val, hk⟩, rfl⟩
  rw [← hK]
  have ho (n : ℕ) : (![256 * k.val, n] : Fin 2 → ℕ) = ![256 * K.val, n] := by rw [hK]
  have hg : k0_off15 k = ![K.val, 0, 0] := by rw [off15_eq, hK]
  have a0 : strip_trip.sl.v108 arg5 arg9 arg11 X5 X9 k = accOf (arg5.view.read (Elt F) X5) (arg9.view.read (Elt F) X9) K ⟨0, by omega⟩ := by
    unfold strip_trip.sl.v108 strip_trip.sl.HW_arg11_2
    rw [cov_skip _ _ _ (by decide), cov_head]
    rw [load_h arg5.view X5 ⟨0, by omega⟩ ![0, 0] rfl, load_g _ _ K _ hg]
    rfl
  have a1 : strip_trip.sl.v179 arg5 arg9 arg11 X5 X9 k = accOf (arg5.view.read (Elt F) X5) (arg9.view.read (Elt F) X9) K ⟨1, by omega⟩ := by
    unfold strip_trip.sl.v179 strip_trip.sl.HW_arg11_3
    rw [cov_skip _ _ _ (by decide)]
    unfold strip_trip.sl.HW_arg11_2
    rw [cov_head]
    rw [load_h arg5.view X5 ⟨1, by omega⟩ ![512, 0] rfl, load_g _ _ K _ hg]
    rfl
  have a2 : strip_trip.sl.v250 arg5 arg9 arg11 X5 X9 k = accOf (arg5.view.read (Elt F) X5) (arg9.view.read (Elt F) X9) K ⟨2, by omega⟩ := by
    unfold strip_trip.sl.v250 strip_trip.sl.HW_arg11_4
    rw [cov_skip _ _ _ (by decide)]
    unfold strip_trip.sl.HW_arg11_3
    rw [cov_head]
    rw [load_h arg5.view X5 ⟨2, by omega⟩ ![1024, 0] rfl, load_g _ _ K _ hg]
    rfl
  have a3 : strip_trip.sl.v321 arg5 arg9 arg11 X5 X9 k = accOf (arg5.view.read (Elt F) X5) (arg9.view.read (Elt F) X9) K ⟨3, by omega⟩ := by
    unfold strip_trip.sl.v321 strip_trip.sl.HW_arg11_5
    rw [cov_skip _ _ _ (by decide)]
    unfold strip_trip.sl.HW_arg11_4
    rw [cov_head]
    unfold strip_trip.sl.r_5
    rw [load_h arg5.view X5 ⟨3, by omega⟩ ![1536, 0] rfl, load_g _ _ K _ hg]
    rfl
  have a4 : strip_trip.sl.v392 arg5 arg9 arg11 X5 X9 k = accOf (arg5.view.read (Elt F) X5) (arg9.view.read (Elt F) X9) K ⟨4, by omega⟩ := by
    unfold strip_trip.sl.v392 strip_trip.sl.HW_arg11_6
    rw [cov_skip _ _ _ (by decide)]
    unfold strip_trip.sl.HW_arg11_5
    rw [cov_head]
    rw [load_h arg5.view X5 ⟨4, by omega⟩ ![2048, 0] rfl, load_g _ _ K _ hg]
    rfl
  have a5 : strip_trip.sl.v463 arg5 arg9 arg11 X5 X9 k = accOf (arg5.view.read (Elt F) X5) (arg9.view.read (Elt F) X9) K ⟨5, by omega⟩ := by
    unfold strip_trip.sl.v463 strip_trip.sl.HW_arg11_7
    rw [cov_skip _ _ _ (by decide)]
    unfold strip_trip.sl.HW_arg11_6
    rw [cov_head]
    rw [load_h arg5.view X5 ⟨5, by omega⟩ ![2560, 0] rfl, load_g _ _ K _ hg]
    rfl
  have a6 : strip_trip.sl.v526 arg5 arg9 arg11 X5 X9 k = accOf (arg5.view.read (Elt F) X5) (arg9.view.read (Elt F) X9) K ⟨6, by omega⟩ := by
    unfold strip_trip.sl.v526 strip_trip.sl.HW_arg11_7
    rw [cov_head]
    rw [load_h arg5.view X5 ⟨6, by omega⟩ ![3072, 0] rfl, load_g _ _ K _ hg]
    rfl
  have b1 : strip_trip.sl.v182 arg10 k f10 = eBlk (arg10.view.read (Elt F) f10) K ⟨1, by omega⟩ :=
    load_e _ _ K ⟨1, by omega⟩ _ ((off17_eq k).trans (ho _)) _
  have b2 : strip_trip.sl.v253 arg10 k f10 = eBlk (arg10.view.read (Elt F) f10) K ⟨2, by omega⟩ :=
    load_e _ _ K ⟨2, by omega⟩ _ ((off18_eq k).trans (ho _)) _
  have b3 : strip_trip.sl.v324 arg10 k f10 = eBlk (arg10.view.read (Elt F) f10) K ⟨3, by omega⟩ :=
    load_e _ _ K ⟨3, by omega⟩ _ ((off19_eq k).trans (ho _)) _
  have b4 : strip_trip.sl.v395 arg10 k f10 = eBlk (arg10.view.read (Elt F) f10) K ⟨4, by omega⟩ :=
    load_e _ _ K ⟨4, by omega⟩ _ ((off20_eq k).trans (ho _)) _
  have b5 : strip_trip.sl.v466 arg10 k f10 = eBlk (arg10.view.read (Elt F) f10) K ⟨5, by omega⟩ :=
    load_e _ _ K ⟨5, by omega⟩ _ ((off21_eq k).trans (ho _)) _
  have b6 : strip_trip.sl.v529 arg10 k f10 = eBlk (arg10.view.read (Elt F) f10) K ⟨6, by omega⟩ :=
    load_e _ _ K ⟨6, by omega⟩ _ ((off22_eq k).trans (ho _)) _
  have b0 : arg10.view.readAt (Elt F) (Rect.unit (s := S1280x3584) (k0_off16 k) S256x512.size (k0_off16_inb k)).toLoadRect f10
      = eBlk (arg10.view.read (Elt F) f10) K ⟨0, by omega⟩ :=
    load_e _ _ K ⟨0, by omega⟩ _ ((off16_eq k).trans (ho _)) _
  have hs : strip_trip.sl.v587 arg5 arg9 arg10 arg11 arg12 X5 X9 k f10
      = sctOf (arg5.view.read (Elt F) X5) (arg9.view.read (Elt F) X9) (arg10.view.read (Elt F) f10) K := by
    unfold strip_trip.sl.v587 strip_trip.sl.HW_arg12_7
    refine rows_read arg12.view _ _ _ _ _ _ _ _ _ _ _ _ _ _ _ _ ?_
    intro m hm x
    rw [← sctOf_rows _ _ _ _ m hm]
    obtain rfl | rfl | rfl | rfl | rfl | rfl | rfl : m = 0 ∨ m = 1 ∨ m = 2 ∨ m = 3 ∨ m = 4 ∨ m = 5 ∨ m = 6 := by omega
    · rw [← a0, ← b0]; rfl
    · rw [← a1, ← b1]; rfl
    · rw [← a2, ← b2]; rfl
    · rw [← a3, ← b3]; rfl
    · rw [← a4, ← b4]; rfl
    · rw [← a5, ← b5]; rfl
    · rw [← a6, ← b6]; rfl
  refine ⟨fun y => ?_, fun y => ?_, fun y => ?_⟩
  · refine strip_read arg7.view f7 K _ _ _ _ _ _ _ _ ((off16_eq k).trans (ho _)) ((off17_eq k).trans (ho _)) ((off18_eq k).trans (ho _)) ((off19_eq k).trans (ho _)) ((off20_eq k).trans (ho _)) ((off21_eq k).trans (ho _)) ((off22_eq k).trans (ho _)) _ _ _ _ _ _ _ _ _ _ _ _ _ _ ?_ ?_ ?_ ?_ ?_ ?_ ?_ y
    · intro x; rw [← codesOf_strip, ← a0, ← b0]; rfl
    · intro x; rw [← codesOf_strip, ← a1, ← b1]; rfl
    · intro x; rw [← codesOf_strip, ← a2, ← b2]; rfl
    · intro x; rw [← codesOf_strip, ← a3, ← b3]; rfl
    · intro x; rw [← codesOf_strip, ← a4, ← b4]; rfl
    · intro x; rw [← codesOf_strip, ← a5, ← b5]; rfl
    · intro x; rw [← codesOf_strip, ← a6, ← b6]; rfl
  · refine scale_read arg8.view f8 K _ _ ((off23_eq k).trans (ho _)) _ _ ?_ y
    intro x
    rw [hs]
    exact scaleOf_strip _ _ _ K x
  · exact strip_read arg10.view f10 K (fun _ => zE) _ _ _ _ _ _ _ ((off16_eq k).trans (ho _)) ((off17_eq k).trans (ho _)) ((off18_eq k).trans (ho _)) ((off19_eq k).trans (ho _)) ((off20_eq k).trans (ho _)) ((off21_eq k).trans (ho _)) ((off22_eq k).trans (ho _)) _ _ _ _ _ _ _ _ _ _ _ _ _ _
      (fun _ => rfl) (fun _ => rfl) (fun _ => rfl) (fun _ => rfl) (fun _ => rfl) (fun _ => rfl) (fun _ => rfl) y

/-! ### The five strips -/

theorem eBlk_congr (e e' : FVec F S1280x3584 .f32) (k : Fin 5) (m : Fin 7) (h : ∀ z : S1280x3584.Idx, 256 * k.val ≤ (z 0).val → e z = e' z) :
    eBlk e k m = eBlk e' k m := funext fun j => h _ (Nat.le_add_right _ _)

theorem codesOf_congr (x5 : FVec F S3584x2048 .bf16) (x9 : FVec F S5x2048x256 .bf16) (e e' : FVec F S1280x3584 .f32) (k : ℕ)
    (h : ∀ z : S1280x3584.Idx, 256 * k ≤ (z 0).val → e z = e' z) (y : S1280x3584.Idx) (hy : 256 * k ≤ (y 0).val) :
    codesOf x5 x9 e y = codesOf x5 x9 e' y := by
  unfold codesOf
  rw [eBlk_congr e e' _ _ fun z hz => h z (by
    have h1 : 256 * ((y 0).val / 256) ≤ (z 0).val := hz
    have h2 : k ≤ (y 0).val / 256 := by omega
    omega)]

theorem scaleOf_congr (x5 : FVec F S3584x2048 .bf16) (x9 : FVec F S5x2048x256 .bf16) (e e' : FVec F S1280x3584 .f32) (k : ℕ)
    (h : ∀ z : S1280x3584.Idx, 256 * k ≤ (z 0).val → e z = e' z) (y : S1280x56.Idx) (hy : 256 * k ≤ (y 0).val) :
    scaleOf x5 x9 e y = scaleOf x5 x9 e' y := by
  have hs : sctOf x5 x9 e ⟨(y 0).val / 256, by have h0 : (y 0).val < 1280 := (y 0).isLt; omega⟩
      = sctOf x5 x9 e' ⟨(y 0).val / 256, by have h0 : (y 0).val < 1280 := (y 0).isLt; omega⟩ := funext fun z => by
    unfold sctOf
    rw [eBlk_congr e e' _ _ fun z hz => h z (by
      have h1 : 256 * ((y 0).val / 256) ≤ (z 0).val := hz
      have h2 : k ≤ (y 0).val / 256 := by omega
      omega)]
  unfold scaleOf
  rw [hs]

/-- BEFORE STRIP `k`: the codes and the scales of the rows below `256 k` are final, the embedding scratch is clear there and holds `E` beyond. -/
def stripAt (c : Dev nD) (arg5 : Memref sig .tc .vmem S3584x2048 .bf16) (arg7 : Memref sig .tc .vmem S1280x3584 .fp8e4m3)
    (arg8 : Memref sig .tc .vmem S1280x56 .f32) (arg9 : Memref sig .tc .vmem S5x2048x256 .bf16) (arg10 : Memref sig .tc .vmem S1280x3584 .f32)
    (arg11 : Memref sig .tc .vmem S2x512x256 .f32) (arg12 : Memref sig .tc .vmem S56x256 .f32)
    (X5 : BufTy.Contents (Elt F) arg5.view.ty) (X9 : BufTy.Contents (Elt F) arg9.view.ty) (E : FVec F S1280x3584 .f32) (k : ℕ) (acc : PUnit) : sProp 𝕄 :=
  iprop(∃ (f7 : BufTy.Contents (Elt F) arg7.view.ty) (f8 : BufTy.Contents (Elt F) arg8.view.ty) (f10 : BufTy.Contents (Elt F) arg10.view.ty) (f11 : BufTy.Contents (Elt F) arg11.view.ty) (f12 : BufTy.Contents (Elt F) arg12.view.ty),
    Trip_k0_t5 (F := F) c arg5 arg9 arg7 arg8 arg10 arg11 arg12 X5 X9 f7 f8 f10 f11 f12
    ∗ ⌜(∀ y : S1280x3584.Idx, (y 0).val < 256 * k → arg7.view.read (Elt F) f7 y = codesOf (arg5.view.read (Elt F) X5) (arg9.view.read (Elt F) X9) E y)
      ∧ (∀ y : S1280x56.Idx, (y 0).val < 256 * k → arg8.view.read (Elt F) f8 y = scaleOf (arg5.view.read (Elt F) X5) (arg9.view.read (Elt F) X9) E y)
      ∧ ∀ y : S1280x3584.Idx, arg10.view.read (Elt F) f10 y = if (y 0).val < 256 * k then zE else E y⌝)

theorem strip_step (𝒱 : Variants) (c : Dev nD) (i : grid0.Coords) (arg1 : Memref sig .tc .smem S26 .i32) (harg1 : arg1.IsWhole) (arg2 : Memref sig .tc .smem S17x128 .i32) (harg2 : arg2.IsWhole) (arg3 : Memref sig .tc .vmem S2048x1280 .fp8e5m2) (harg3 : arg3.IsWhole) (arg4 : Memref sig .tc .vmem S2048x25 .f32) (harg4 : arg4.IsWhole) (arg5 : Memref sig .tc .vmem S3584x2048 .bf16) (harg5 : arg5.IsWhole) (arg6 : Memref sig .tc .hbm S2240x3584 .f32) (harg6 : arg6.IsWhole) (arg7 : Memref sig .tc .vmem S1280x3584 .fp8e4m3) (harg7 : arg7.IsWhole) (arg8 : Memref sig .tc .vmem S1280x56 .f32) (harg8 : arg8.IsWhole) (arg9 : Memref sig .tc .vmem S5x2048x256 .bf16) (harg9 : arg9.IsWhole) (arg10 : Memref sig .tc .vmem S1280x3584 .f32) (harg10 : arg10.IsWhole) (arg11 : Memref sig .tc .vmem S2x512x256 .f32) (harg11 : arg11.IsWhole) (arg12 : Memref sig .tc .vmem S56x256 .f32) (harg12 : arg12.IsWhole) (arg13 : DmaSems sig S_) (X5 : BufTy.Contents (Elt F) arg5.view.ty) (X9 : BufTy.Contents (Elt F) arg9.view.ty)
    (E : FVec F S1280x3584 .f32) (k : Fin k0_t5_loop.trips) (acc : PUnit) :
    stripAt (F := F) c arg5 arg7 arg8 arg9 arg10 arg11 arg12 X5 X9 E k.val acc
      ⊢ wp frame (wpE (defs₀ (F := F)) 𝒱 (c : Thread nD τ) none) Set.univ (k0_t5_body (F := F) i arg1 harg1 arg2 harg2 arg3 harg3 arg4 harg4 arg5 harg5 arg6 harg6 arg7 harg7 arg8 harg8 arg9 harg9 arg10 harg10 arg11 harg11 arg12 harg12 arg13 k acc)
          (stripAt (F := F) c arg5 arg7 arg8 arg9 arg10 arg11 arg12 X5 X9 E (k.val + 1)) := by
  unfold stripAt
  iintro ⟨%f7, %f8, %f10, %f11, %f12, H, %h⟩
  obtain ⟨h7, h8, h10⟩ := h
  iapply (wp_wand_r frame (wpE (defs₀ (F := F)) 𝒱 (c : Thread nD τ) none) Set.univ)
  isplitl [H]
  · iapply strip_trip
    iexact H
  iintro %acc' ⟨%g7, %g8, %g10, %g11, %g12, H, %g⟩
  obtain ⟨g7', g8', g10'⟩ := g
  iexists g7, g8, g10, g11, g12
  isplitl [H]
  · iexact H
  ipureintro
  have hE (z : S1280x3584.Idx) (hz : 256 * k.val ≤ (z 0).val) : arg10.view.read (Elt F) f10 z = E z := by
    rw [h10 z, if_neg (by omega)]
  refine ⟨fun y hy => ?_, fun y hy => ?_, fun y => ?_⟩
  · rw [g7' y]
    split
    · next hc => exact codesOf_congr _ _ _ _ k.val hE y hc.1
    · next hc => exact h7 y (by omega)
  · rw [g8' y]
    split
    · next hc => exact scaleOf_congr _ _ _ _ k.val hE y hc.1
    · next hc => exact h8 y (by omega)
  · rw [g10' y]
    by_cases h1 : 256 * k.val ≤ (y 0).val ∧ (y 0).val < 256 * k.val + 256
    · rw [if_pos h1, if_pos (by omega)]
    · rw [if_neg h1, h10 y]
      by_cases h2 : (y 0).val < 256 * k.val
      · rw [if_pos h2, if_pos (by omega)]
      · rw [if_neg h2, if_neg (by omega)]

end Cert.Kernel.Hand
-- ==== Proof.KBody.lean ====
/-
  THE KERNEL'S BODY, run whole at one grid step: it starts the step's row copies, dequantizes the step's columns of the
  logits gradient while they fly, waits for them, and finishes the step in five strips.
-/
module

public import proofs.«01_k».proof.Proof.KStrip

@[expose] public section

set_option maxRecDepth 8192
set_option maxHeartbeats 1000000

noncomputable section

namespace Cert.Kernel.Hand

open Cert.Kernel Cert.Kernel.Gen Cert.Tables
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The table of boundaries. -/
abbrev mU : Memref sig .tc .smem S26 .i32 := Memref.whole main_arg0

/-! ### The dequantized gradient -/

/-- Columns `128 t …` of the step's codes. -/
def gCol (x3 : FVec F S2048x1280 .fp8e5m2) (t : Fin 10) : FVec F S2048x128 .fp8e5m2 :=
  fun j => x3 (ix2 (j 0) ⟨128 * t.val + (j 1).val, by have h0 : (j 1).val < 128 := (j 1).isLt; omega⟩)

/-- The codes times the step's column of scales, laid out in five slabs of 256 columns. -/
def gOf (i : grid0.Coords) (x3 : FVec F S2048x1280 .fp8e5m2) (x4 : FVec F S2048x25 .f32) : FVec F S5x2048x256 .bf16 :=
  fun y => k0_pay67 i x4 (gCol x3 ⟨2 * (y 0).val + (y 2).val / 128, by
      have h0 : (y 0).val < 5 := (y 0).isLt
      have h2 : (y 2).val < 256 := (y 2).isLt
      omega⟩) (ix3 0 (y 1) ⟨(y 2).val % 128, Nat.mod_lt _ (by omega)⟩)

variable {κ : Kind} {sp : Space}

theorem load_c (v : View sig κ sp S2048x1280 .fp8e5m2) (X : v.ty.Contents (Elt F)) (t : Fin 10) (off : Fin 2 → ℕ) (ho : off = ![0, 128 * t.val])
    (h : ∀ a, off a + S2048x128.size a ≤ S2048x1280.size a) :
    v.readAt (Elt F) (Rect.unit (s := S2048x1280) off S2048x128.size h).toLoadRect X = gCol (v.read (Elt F) X) t := by
  subst ho
  funext j
  rw [View.readAt_apply]
  unfold gCol
  refine congrArg _ (funext fun a => ?_)
  match a with
  | ⟨0, _⟩ => exact Fin.ext (by show 0 + 1 * (j 0).val = (j 0).val; omega)
  | ⟨1, _⟩ => exact Fin.ext (by show 128 * t.val + 1 * (j 1).val = 128 * t.val + (j 1).val; omega)

theorem load_s (v : View sig κ sp S2048x25 .f32) (X : v.ty.Contents (Elt F)) (h : ∀ a, (![0, 0] : Fin 2 → ℕ) a + S2048x25.size a ≤ S2048x25.size a) :
    v.readAt (Elt F) (Rect.unit (s := S2048x25) ![0, 0] S2048x25.size h).toLoadRect X = v.read (Elt F) X := by
  funext j
  rw [View.readAt_apply]
  refine congrArg _ (funext fun a => ?_)
  match a with
  | ⟨0, _⟩ => exact Fin.ext (by show 0 + 1 * (j 0).val = (j 0).val; omega)
  | ⟨1, _⟩ => exact Fin.ext (by show 0 + 1 * (j 1).val = (j 1).val; omega)

/-- The word the kernel loads from the table of boundaries. -/
theorem bound_load (ust : IVec SU 32) (j : Fin 26) (off : Fin 1 → ℕ) (inb) (ho : off = ![j.val]) (x : S1.Idx) :
    View.readAt (Elt F) mU.view (Rect.unit (s := S26) off S1.size inb).toLoadRect ust x = ust (ixU j) := by
  subst ho
  show ust _ = ust _
  refine congrArg ust ?_
  have h0 : (x 0).val = 0 := by have := (x 0).isLt; exact Nat.lt_one_iff.mp this
  funext a
  match a with
  | ⟨0, _⟩ => exact Fin.ext (by show j.val + 1 * (x 0).val = j.val; omega)

/-- Where element `x` of column block `t` lies. -/
def slabIx (t : ℕ) (ht : t < 10) (x : S1x2048x128.Idx) : S5x2048x256.Idx :=
  ix3 ⟨t / 2, by omega⟩ (x 1) ⟨128 * (t % 2) + (x 2).val, by have h2 : (x 2).val < 128 := (x 2).isLt; omega⟩

theorem slabIx_emb (t a b : ℕ) (ht : t < 10) (ha : a = t / 2) (hb : b = 128 * (t % 2))
    (h : ∀ i, (![a, 0, b] : Fin 3 → ℕ) i + S1x2048x128.size i ≤ S5x2048x256.size i) (x : S1x2048x128.Idx) :
    (Rect.unit (s := S5x2048x256) ![a, 0, b] S1x2048x128.size h).emb x = slabIx t ht x := by
  subst ha hb
  unfold slabIx
  have h0 : (x 0).val < 1 := (x 0).isLt
  funext i
  match i with
  | ⟨0, _⟩ => exact Fin.ext (by show t / 2 + 1 * (x 0).val = t / 2; omega)
  | ⟨1, _⟩ => exact Fin.ext (by show 0 + 1 * (x 1).val = (x 1).val; omega)
  | ⟨2, _⟩ => exact Fin.ext (by show 128 * (t % 2) + 1 * (x 2).val = 128 * (t % 2) + (x 2).val; omega)

/-- Ten column blocks, two to a slab, are the scratch written. -/
theorem slabs_read (v : View sig κ sp S5x2048x256 .bf16) (f : v.ty.Contents (Elt F)) (G : S5x2048x256.Idx → Elt F .bf16)
    (h0 : ∀ i, (![0, 0, 0] : Fin 3 → ℕ) i + S1x2048x128.size i ≤ S5x2048x256.size i)
    (h1 : ∀ i, (![0, 0, 128] : Fin 3 → ℕ) i + S1x2048x128.size i ≤ S5x2048x256.size i)
    (h2 : ∀ i, (![1, 0, 0] : Fin 3 → ℕ) i + S1x2048x128.size i ≤ S5x2048x256.size i)
    (h3 : ∀ i, (![1, 0, 128] : Fin 3 → ℕ) i + S1x2048x128.size i ≤ S5x2048x256.size i)
    (h4 : ∀ i, (![2, 0, 0] : Fin 3 → ℕ) i + S1x2048x128.size i ≤ S5x2048x256.size i)
    (h5 : ∀ i, (![2, 0, 128] : Fin 3 → ℕ) i + S1x2048x128.size i ≤ S5x2048x256.size i)
    (h6 : ∀ i, (![3, 0, 0] : Fin 3 → ℕ) i + S1x2048x128.size i ≤ S5x2048x256.size i)
    (h7 : ∀ i, (![3, 0, 128] : Fin 3 → ℕ) i + S1x2048x128.size i ≤ S5x2048x256.size i)
    (h8 : ∀ i, (![4, 0, 0] : Fin 3 → ℕ) i + S1x2048x128.size i ≤ S5x2048x256.size i)
    (h9 : ∀ i, (![4, 0, 128] : Fin 3 → ℕ) i + S1x2048x128.size i ≤ S5x2048x256.size i)
    (w0 w1 w2 w3 w4 w5 w6 w7 w8 w9 : S1x2048x128.Idx → Elt F .bf16)
    (g0 : ∀ x, w0 x = G (slabIx 0 (by omega) x))
    (g1 : ∀ x, w1 x = G (slabIx 1 (by omega) x))
    (g2 : ∀ x, w2 x = G (slabIx 2 (by omega) x))
    (g3 : ∀ x, w3 x = G (slabIx 3 (by omega) x))
    (g4 : ∀ x, w4 x = G (slabIx 4 (by omega) x))
    (g5 : ∀ x, w5 x = G (slabIx 5 (by omega) x))
    (g6 : ∀ x, w6 x = G (slabIx 6 (by omega) x))
    (g7 : ∀ x, w7 x = G (slabIx 7 (by omega) x))
    (g8 : ∀ x, w8 x = G (slabIx 8 (by omega) x))
    (g9 : ∀ x, w9 x = G (slabIx 9 (by omega) x)) :
    v.read (Elt F) (v.writes (Elt F) f [⟨Rect.unit (s := S5x2048x256) ![4, 0, 128] S1x2048x128.size h9, w9⟩,
      ⟨Rect.unit (s := S5x2048x256) ![4, 0, 0] S1x2048x128.size h8, w8⟩,
      ⟨Rect.unit (s := S5x2048x256) ![3, 0, 128] S1x2048x128.size h7, w7⟩,
      ⟨Rect.unit (s := S5x2048x256) ![3, 0, 0] S1x2048x128.size h6, w6⟩,
      ⟨Rect.unit (s := S5x2048x256) ![2, 0, 128] S1x2048x128.size h5, w5⟩,
      ⟨Rect.unit (s := S5x2048x256) ![2, 0, 0] S1x2048x128.size h4, w4⟩,
      ⟨Rect.unit (s := S5x2048x256) ![1, 0, 128] S1x2048x128.size h3, w3⟩,
      ⟨Rect.unit (s := S5x2048x256) ![1, 0, 0] S1x2048x128.size h2, w2⟩,
      ⟨Rect.unit (s := S5x2048x256) ![0, 0, 128] S1x2048x128.size h1, w1⟩,
      ⟨Rect.unit (s := S5x2048x256) ![0, 0, 0] S1x2048x128.size h0, w0⟩]) = G := by
  funext y
  have hy0 : (y 0).val < 5 := (y 0).isLt
  have hy2 : (y 2).val < 256 := (y 2).isLt
  have mem (a b : ℕ) (h : ∀ i, (![a, 0, b] : Fin 3 → ℕ) i + S1x2048x128.size i ≤ S5x2048x256.size i)
      (ha : (y 0).val = a) (hb : b ≤ (y 2).val ∧ (y 2).val < b + 128) : y ∈ (Rect.unit (s := S5x2048x256) ![a, 0, b] S1x2048x128.size h).set :=
    Rect.mem_set_unit.2 fun i => match i with
      | ⟨0, _⟩ => ⟨ha.ge, by show (y 0).val < a + 1; omega⟩
      | ⟨1, _⟩ => ⟨Nat.zero_le _, by have h1 : (y 1).val < 2048 := (y 1).isLt; show (y 1).val < 0 + 2048; omega⟩
      | ⟨2, _⟩ => hb
  refine View.read_writes_apply_of_pieces v f G _ ?_ y ?_
  · intro p hp
    simp only [List.mem_cons, List.not_mem_nil, _root_.or_false] at hp
    rcases hp with rfl | rfl | rfl | rfl | rfl | rfl | rfl | rfl | rfl | rfl <;> intro x
    · exact (g9 x).trans (congrArg G (slabIx_emb 9 4 128 (by omega) (by omega) (by omega) h9 x).symm)
    · exact (g8 x).trans (congrArg G (slabIx_emb 8 4 0 (by omega) (by omega) (by omega) h8 x).symm)
    · exact (g7 x).trans (congrArg G (slabIx_emb 7 3 128 (by omega) (by omega) (by omega) h7 x).symm)
    · exact (g6 x).trans (congrArg G (slabIx_emb 6 3 0 (by omega) (by omega) (by omega) h6 x).symm)
    · exact (g5 x).trans (congrArg G (slabIx_emb 5 2 128 (by omega) (by omega) (by omega) h5 x).symm)
    · exact (g4 x).trans (congrArg G (slabIx_emb 4 2 0 (by omega) (by omega) (by omega) h4 x).symm)
    · exact (g3 x).trans (congrArg G (slabIx_emb 3 1 128 (by omega) (by omega) (by omega) h3 x).symm)
    · exact (g2 x).trans (congrArg G (slabIx_emb 2 1 0 (by omega) (by omega) (by omega) h2 x).symm)
    · exact (g1 x).trans (congrArg G (slabIx_emb 1 0 128 (by omega) (by omega) (by omega) h1 x).symm)
    · exact (g0 x).trans (congrArg G (slabIx_emb 0 0 0 (by omega) (by omega) (by omega) h0 x).symm)
  · have hc : ((y 0).val = 0 ∧ 0 ≤ (y 2).val ∧ (y 2).val < 0 + 128) ∨ ((y 0).val = 0 ∧ 128 ≤ (y 2).val ∧ (y 2).val < 128 + 128) ∨ ((y 0).val = 1 ∧ 0 ≤ (y 2).val ∧ (y 2).val < 0 + 128) ∨ ((y 0).val = 1 ∧ 128 ≤ (y 2).val ∧ (y 2).val < 128 + 128) ∨ ((y 0).val = 2 ∧ 0 ≤ (y 2).val ∧ (y 2).val < 0 + 128) ∨ ((y 0).val = 2 ∧ 128 ≤ (y 2).val ∧ (y 2).val < 128 + 128) ∨ ((y 0).val = 3 ∧ 0 ≤ (y 2).val ∧ (y 2).val < 0 + 128) ∨ ((y 0).val = 3 ∧ 128 ≤ (y 2).val ∧ (y 2).val < 128 + 128) ∨ ((y 0).val = 4 ∧ 0 ≤ (y 2).val ∧ (y 2).val < 0 + 128) ∨ ((y 0).val = 4 ∧ 128 ≤ (y 2).val ∧ (y 2).val < 128 + 128) := by omega
    rcases hc with hc | hc | hc | hc | hc | hc | hc | hc | hc | hc
    · exact ⟨⟨Rect.unit (s := S5x2048x256) ![0, 0, 0] S1x2048x128.size h0, w0⟩, by simp only [List.mem_cons, _root_.true_or, _root_.or_true], mem 0 0 h0 hc.1 hc.2⟩
    · exact ⟨⟨Rect.unit (s := S5x2048x256) ![0, 0, 128] S1x2048x128.size h1, w1⟩, by simp only [List.mem_cons, _root_.true_or, _root_.or_true], mem 0 128 h1 hc.1 hc.2⟩
    · exact ⟨⟨Rect.unit (s := S5x2048x256) ![1, 0, 0] S1x2048x128.size h2, w2⟩, by simp only [List.mem_cons, _root_.true_or, _root_.or_true], mem 1 0 h2 hc.1 hc.2⟩
    · exact ⟨⟨Rect.unit (s := S5x2048x256) ![1, 0, 128] S1x2048x128.size h3, w3⟩, by simp only [List.mem_cons, _root_.true_or, _root_.or_true], mem 1 128 h3 hc.1 hc.2⟩
    · exact ⟨⟨Rect.unit (s := S5x2048x256) ![2, 0, 0] S1x2048x128.size h4, w4⟩, by simp only [List.mem_cons, _root_.true_or, _root_.or_true], mem 2 0 h4 hc.1 hc.2⟩
    · exact ⟨⟨Rect.unit (s := S5x2048x256) ![2, 0, 128] S1x2048x128.size h5, w5⟩, by simp only [List.mem_cons, _root_.true_or, _root_.or_true], mem 2 128 h5 hc.1 hc.2⟩
    · exact ⟨⟨Rect.unit (s := S5x2048x256) ![3, 0, 0] S1x2048x128.size h6, w6⟩, by simp only [List.mem_cons, _root_.true_or, _root_.or_true], mem 3 0 h6 hc.1 hc.2⟩
    · exact ⟨⟨Rect.unit (s := S5x2048x256) ![3, 0, 128] S1x2048x128.size h7, w7⟩, by simp only [List.mem_cons, _root_.true_or, _root_.or_true], mem 3 128 h7 hc.1 hc.2⟩
    · exact ⟨⟨Rect.unit (s := S5x2048x256) ![4, 0, 0] S1x2048x128.size h8, w8⟩, by simp only [List.mem_cons, _root_.true_or, _root_.or_true], mem 4 0 h8 hc.1 hc.2⟩
    · exact ⟨⟨Rect.unit (s := S5x2048x256) ![4, 0, 128] S1x2048x128.size h9, w9⟩, by simp only [List.mem_cons, _root_.true_or, _root_.or_true], mem 4 128 h9 hc.1 hc.2⟩

theorem gOf_slab (i : grid0.Coords) (x3 : FVec F S2048x1280 .fp8e5m2) (x4 : FVec F S2048x25 .f32) (t : ℕ) (ht : t < 10) (x : S1x2048x128.Idx) :
    k0_pay67 i x4 (gCol x3 ⟨t, ht⟩) x = gOf i x3 x4 (slabIx t ht x) := by
  have h0 : (x 0).val < 1 := (x 0).isLt
  have h2 : (x 2).val < 128 := (x 2).isLt
  have c1 : (⟨2 * (t / 2) + (128 * (t % 2) + (x 2).val) / 128, by omega⟩ : Fin 10) = ⟨t, ht⟩ := Fin.ext (by
    show 2 * (t / 2) + (128 * (t % 2) + (x 2).val) / 128 = t; omega)
  have c2 : (ix3 0 (x 1) ⟨(128 * (t % 2) + (x 2).val) % 128, Nat.mod_lt _ (by omega)⟩ : S1x2048x128.Idx) = x := funext fun a => match a with
    | ⟨0, _⟩ => Fin.ext (by show 0 = (x 0).val; omega)
    | ⟨1, _⟩ => rfl
    | ⟨2, _⟩ => Fin.ext (by show (128 * (t % 2) + (x 2).val) % 128 = (x 2).val; omega)
  show _ = k0_pay67 i x4 (gCol x3 ⟨2 * (t / 2) + (128 * (t % 2) + (x 2).val) / 128, _⟩) (ix3 0 (x 1) ⟨(128 * (t % 2) + (x 2).val) % 128, _⟩)
  rw [c1, c2]

theorem pay65_eq (y : S1280x3584.Idx) : (k0_pay65 (F := F)) y = zE := by
  unfold zE k0_pay65
  rfl

theorem write_whole (v : View sig κ sp S1280x3584 .f32) (f : v.ty.Contents (Elt F))
    (h : ∀ a, (![0, 0] : Fin 2 → ℕ) a + S1280x3584.size a ≤ S1280x3584.size a) (w : S1280x3584.Idx → Elt F .f32) (y : S1280x3584.Idx) :
    v.read (Elt F) (v.writes (Elt F) f [⟨Rect.unit (s := S1280x3584) ![0, 0] S1280x3584.size h, w⟩]) y = w y :=
  View.read_writes_cons_hit_of_coords v f (Rect.unit (s := S1280x3584) ![0, 0] S1280x3584.size h) w [] y y
    (fun a => match a with
      | ⟨0, _⟩ => by show (y 0).val = 0 + 1 * (y 0).val; omega
      | ⟨1, _⟩ => by show (y 1).val = 0 + 1 * (y 1).val; omega)

/-- Cleared at the first step, and clear already at every other. -/
theorem clear_eq (E0 : S1280x3584.Idx → Elt F .f32) (p : Prop) [Decidable p] (hp : ¬ p → E0 = fun _ => zE)
    (h : ∀ a, (![0, 0] : Fin 2 → ℕ) a + S1280x3584.size a ≤ S1280x3584.size a) :
    (if hc : p then mE.view.writes (Elt F) E0 [⟨Rect.unit (s := S1280x3584) ![0, 0] S1280x3584.size h, k0_pay65⟩] else E0)
      = (fun _ => zE : S1280x3584.Idx → Elt F .f32) := by
  split
  · funext y
    have e := (write_whole mE.view E0 h k0_pay65 y).trans (pay65_eq y)
    rw [View.read_whole] at e
    exact e
  · next hn => exact hp hn

theorem setE_univ : mE.view.set = (Finset.univ : Finset S1280x3584.Idx) := View.set_whole _

theorem remE_zero (uid : IVec SD 32) (base u0 : ℕ) : remE uid base u0 0 = Finset.univ := by
  ext y; simp only [remE, Finset.mem_filter, Finset.mem_univ, _root_.true_and, iff_true]
  exact fun t ht => absurd ht (Nat.not_lt_zero t)

theorem remS_zero (u0 : ℕ) : remS u0 0 = Finset.univ := by
  ext y; simp only [remS, Finset.mem_filter, Finset.mem_univ, _root_.true_and, iff_true]
  omega

theorem off1_eq (i : grid0.Coords) : k0_off1 i = ![(i 0).val] := by
  have hi : (i 0).val < 25 := (i 0).isLt
  show ![(BitVec.ofNat 32 (i 0).val).toNat] = _
  rw [BitVec.toNat_ofNat]
  refine congrArg (fun n => ![n]) ?_
  omega

theorem off2_eq (i : grid0.Coords) : k0_off2 i = ![(i 0).val + 1] := by
  have hi : (i 0).val < 25 := (i 0).isLt
  show ![(BitVec.ofNat 32 (i 0).val + 1#32).toNat] = _
  rw [BitVec.toNat_add, BitVec.toNat_ofNat]
  refine congrArg (fun n => ![n]) ?_
  show (_ + 1) % _ = _
  omega

theorem body_run (𝒱 : Variants) (c : Dev nD) (i : grid0.Coords) (arg3 : Memref sig .tc .vmem S2048x1280 .fp8e5m2) (harg3 : arg3.IsWhole) (arg4 : Memref sig .tc .vmem S2048x25 .f32) (harg4 : arg4.IsWhole) (arg5 : Memref sig .tc .vmem S3584x2048 .bf16) (harg5 : arg5.IsWhole) (arg7 : Memref sig .tc .vmem S1280x3584 .fp8e4m3) (harg7 : arg7.IsWhole) (arg8 : Memref sig .tc .vmem S1280x56 .f32) (harg8 : arg8.IsWhole) (arg9 : Memref sig .tc .vmem S5x2048x256 .bf16) (harg9 : arg9.IsWhole) (arg11 : Memref sig .tc .vmem S2x512x256 .f32) (harg11 : arg11.IsWhole) (arg12 : Memref sig .tc .vmem S56x256 .f32) (harg12 : arg12.IsWhole)
    (X3 : BufTy.Contents (Elt F) arg3.view.ty) (X4 : BufTy.Contents (Elt F) arg4.view.ty) (X5 : BufTy.Contents (Elt F) arg5.view.ty)
    (f7 : BufTy.Contents (Elt F) arg7.view.ty) (f8 : BufTy.Contents (Elt F) arg8.view.ty) (f9 : BufTy.Contents (Elt F) arg9.view.ty)
    (f11 : BufTy.Contents (Elt F) arg11.view.ty) (f12 : BufTy.Contents (Elt F) arg12.view.ty)
    (ust : IVec SU 32) (uid : IVec SD 32) (hs : Sorted ust uid) (S : S2240x3584.Idx → Elt F .f32)
    (E0 : S1280x3584.Idx → Elt F .f32) (hE0 : (i 0).val ≠ 0 → E0 = fun _ => zE) :
    (iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ eAt c Finset.univ E0 ∗ (arg11.view.loc (c : Thread nD τ) ↦[arg11.view.set]{fullShare} f11)
      ∗ (arg12.view.loc (c : Thread nD τ) ↦[arg12.view.set]{fullShare} f12)
      ∗ (mU.view.loc (c : Thread nD τ) ↦{fullShare.right} ust) ∗ idHeld c uid ∗ sAt c Finset.univ S
      ∗ semVal ((c : Thread nD τ), SemLoc.dma 8) 0 ∗ (∃ W, owes (c : Thread nD τ) 0 W)) : sProp 𝕄)
      ⊢ wp frame (wpE (defs₀ (F := F)) 𝒱 (c : Thread nD τ) none) Set.univ
        (cc0_main (F := F) i mU (Memref.isWhole_whole _) mId (Memref.isWhole_whole _) arg3 harg3 arg4 harg4 arg5 harg5 mS (Memref.isWhole_whole _) arg7 harg7 arg8 harg8 arg9 harg9 mE (Memref.isWhole_whole _) arg11 harg11 arg12 harg12 cc0_scratch4)
        (fun _ => iprop(∃ (g7 : BufTy.Contents (Elt F) arg7.view.ty) (g8 : BufTy.Contents (Elt F) arg8.view.ty) (g9 : BufTy.Contents (Elt F) arg9.view.ty)
            (g11 : BufTy.Contents (Elt F) arg11.view.ty) (g12 : BufTy.Contents (Elt F) arg12.view.ty),
          (arg3.view.loc (c : Thread nD τ) ↦[arg3.view.set]{fullShare} X3) ∗ (arg4.view.loc (c : Thread nD τ) ↦[arg4.view.set]{fullShare} X4)
          ∗ (arg5.view.loc (c : Thread nD τ) ↦[arg5.view.set]{fullShare} X5) ∗ (arg7.view.loc (c : Thread nD τ) ↦[arg7.view.set]{fullShare} g7)
          ∗ (arg8.view.loc (c : Thread nD τ) ↦[arg8.view.set]{fullShare} g8) ∗ (arg9.view.loc (c : Thread nD τ) ↦[arg9.view.set]{fullShare} g9)
          ∗ eAt c Finset.univ (fun _ => zE) ∗ (arg11.view.loc (c : Thread nD τ) ↦[arg11.view.set]{fullShare} g11)
          ∗ (arg12.view.loc (c : Thread nD τ) ↦[arg12.view.set]{fullShare} g12)
          ∗ (mU.view.loc (c : Thread nD τ) ↦{fullShare.right} ust) ∗ idHeld c uid ∗ sAt c Finset.univ S
          ∗ semVal ((c : Thread nD τ), SemLoc.dma 8) 0 ∗ (∃ W, owes (c : Thread nD τ) 0 W)
          ∗ ⌜arg7.view.read (Elt F) g7 = codesOf (arg5.view.read (Elt F) X5) (gOf i (arg3.view.read (Elt F) X3) (arg4.view.read (Elt F) X4))
                (embF uid ((i 0).val * 1280) (lo ust ⟨(i 0).val, by have h : (i 0).val < 25 := (i 0).isLt; omega⟩)
                  (lo ust ⟨(i 0).val + 1, by have h : (i 0).val < 25 := (i 0).isLt; omega⟩ - lo ust ⟨(i 0).val, by have h : (i 0).val < 25 := (i 0).isLt; omega⟩) S)
            ∧ arg8.view.read (Elt F) g8 = scaleOf (arg5.view.read (Elt F) X5) (gOf i (arg3.view.read (Elt F) X3) (arg4.view.read (Elt F) X4))
                (embF uid ((i 0).val * 1280) (lo ust ⟨(i 0).val, by have h : (i 0).val < 25 := (i 0).isLt; omega⟩)
                  (lo ust ⟨(i 0).val + 1, by have h : (i 0).val < 25 := (i 0).isLt; omega⟩ - lo ust ⟨(i 0).val, by have h : (i 0).val < 25 := (i 0).isLt; omega⟩) S)⌝)) := by
  have hi : (i 0).val < 25 := (i 0).isLt
  simp only [cc0_main_eq_skeleton]
  unfold cc0_main_skel
  iintro ⟨H3, H4, H5, H7, H8, H9, HE, H11, H12, Hu, Hid, HS, Hc, ⟨%W, HO⟩⟩
  sl_exec
  sl_step
  sl_step
  sl_exec
  generalize hw1 : View.readAt (Elt F) mU.view (Rect.unit (s := S26) (k0_off1 i) S1.size _).toLoadRect ust (Shape.Idx.first _) = w1 at *
  generalize hw4 : body_run.sl.r c i ust = w4 at *
  have e1 : w1 = ust (ixU ⟨(i 0).val, by omega⟩) := by
    rw [← hw1]; exact bound_load (F := F) ust ⟨(i 0).val, by omega⟩ _ _ (off1_eq i) _
  have e4 : w4 = ust (ixU ⟨(i 0).val + 1, by omega⟩) := by
    rw [← hw4]; exact bound_load (F := F) ust ⟨(i 0).val + 1, by omega⟩ _ _ (off2_eq i) _
  have l1 : lo ust ⟨(i 0).val, by omega⟩ = w1.toNat := by rw [e1]; rfl
  have l4 : lo ust ⟨(i 0).val + 1, by omega⟩ = w4.toNat := by rw [e4]; rfl
  have h14 : w1.toNat ≤ w4.toNat := by rw [← l1, ← l4]; exact hs.mono ⟨(i 0).val, hi⟩
  have h4 : w4.toNat ≤ 2176 := by rw [← l4]; exact hs.le ⟨(i 0).val, hi⟩
  have hc : k0_chk1 w1 w4 := chk1_of w1 w4 h14 h4
  have hr : Run uid ((i 0).val * 1280) w1.toNat (w4.toNat - w1.toNat) :=
    { le := by omega
      block := fun u hu hl => hs.block ⟨(i 0).val, hi⟩ u (l1.trans_le hu) (lt_of_lt_of_eq (show u.val < w4.toNat by omega) l4.symm)
      ne := fun u u' hu hl hu' hl' hne => hs.ne ⟨(i 0).val, hi⟩ u u' (l1.trans_le hu) (lt_of_lt_of_eq (show u.val < w4.toNat by omega) l4.symm)
        (l1.trans_le hu') (lt_of_lt_of_eq (show u'.val < w4.toNat by omega) l4.symm) hne }
  simp only [l1, l4]
  have htr1 := trips1 w1 w4 h14 h4
  have htr3 := trips3 w1 w4 h14 h4
  have htr2 := trips2 w1 w4 h4
  have htr4 := trips4 w1 w4 h4
  sl_exec
  rw [clear_eq E0 _ (fun hn => hE0 fun h0 => hn (by rw [h0]; decide)) _]
  imod (Transfers.batch_alloc' (Lvl := ℕ) (countersEmb (U := Pipeline.UD sig nD τ)) (c : Thread nD τ) () NN
    (deliv c uid ((i 0).val * 1280) w1.toNat (w4.toNat - w1.toNat) S) (sm := .dma 8) (E := Set.univ)) $$ Hc with HB
  sl_for (issueAt c uid ((i 0).val * 1280) w1.toNat (w4.toNat - w1.toNat) S) $$ [HB HO Hid HE HS]
  case region =>
    intro k acc
    exact issue_step 𝒱 c i mU (Memref.isWhole_whole _) arg3 harg3 arg4 harg4 arg5 harg5 arg7 harg7 arg8 harg8 arg9 harg9 arg11 harg11 arg12 harg12
      w1 w4 hc uid _ S hr htr1 k acc
  · unfold issueAt
    isplitl [HB]; · iexact HB
    isplitl [HO]; · iexists _; iexact HO
    isplitl [Hid]; · iexact Hid
    isplitl [HE]
    · iapply (Entails.of_eq (by rw [remE_zero])); iexact HE
    · iapply (Entails.of_eq (by rw [remS_zero])); iexact HS
  iintro %acc HL
  unfold issueAt
  icases HL with ⟨HB, ⟨%W', HO⟩, Hid, HE, HS⟩
  rw [show (Scf.trips (k0_t1_loop w1 w4).lb (k0_t1_loop w1 w4).ub (k0_t1_loop w1 w4).st) = _ from htr1]
  sl_exec
  sl_for (waitAt c uid ((i 0).val * 1280) w1.toNat (w4.toNat - w1.toNat) S) $$ [HB HO Hid]
  case region =>
    intro k acc
    exact wait_step 𝒱 c i mU (Memref.isWhole_whole _) arg3 harg3 arg4 harg4 arg5 harg5 arg7 harg7 arg8 harg8 arg9 harg9 arg11 harg11 arg12 harg12
      w1 w4 hc uid _ S hr htr3 trivial k acc
  · unfold waitAt
    isplitr; · ipureintro; omega
    isplitl [HO]; · iexists _; iexact HO
    isplitl [Hid]; · iexact Hid
    rw [Nat.zero_mul]; iexact HB
  iintro %acc2 HL
  unfold waitAt
  icases HL with ⟨-, ⟨%W2, HO⟩, Hid, HB⟩
  rw [show (Scf.trips (k0_t3_loop w1 w4).lb (k0_t3_loop w1 w4).ub (k0_t3_loop w1 w4).st) = _ from htr3]
  rw [Nat.mul_comm (w4.toNat - w1.toNat) NN]
  imod (Transfers.batch_collect' (countersEmb (U := Pipeline.UD sig nD τ)) (c : Thread nD τ) (N := NN) (by decide)
    (D := deliv c uid ((i 0).val * 1280) w1.toNat (w4.toNat - w1.toNat) S)) $$ HB with ⟨Hall, Hc⟩
  ihave Hes := (collect c uid ((i 0).val * 1280) w1.toNat (w4.toNat - w1.toNat) hr S) $$ [Hall HE HS]
  · isplitl [Hall]; · iexact Hall
    isplitl [HE] <;> iassumption
  icases Hes with ⟨HE, HS⟩
  sl_for (fun (_ : ℕ) (_ : PUnit) => (iprop(emp) : sProp 𝕄)) $$ []
  case region =>
    intro k acc
    exact absurd (lt_of_lt_of_eq k.isLt htr4) (Nat.not_lt_zero _)
  · iempintro
  iintro %acc4 -
  have hg9 : arg9.view.read (Elt F) (arg9.view.writes (Elt F) arg9.view.junk (body_run.sl.H9_10 i arg3 arg4 X3 X4))
      = gOf i (arg3.view.read (Elt F) X3) (arg4.view.read (Elt F) X4) := by
    unfold body_run.sl.H9_10 body_run.sl.r_1 body_run.sl.r_2 body_run.sl.r_3
    have hs4 := load_s arg4.view X4 inb_S2048x25_S2048x25_0_0
    refine slabs_read arg9.view _ _ _ _ _ _ _ _ _ _ _ _ _ _ _ _ _ _ _ _ _ _ ?_ ?_ ?_ ?_ ?_ ?_ ?_ ?_ ?_ ?_ <;> intro x
    · exact (congrFun (congrArg₂ (k0_pay67 i) hs4 (load_c arg3.view X3 0 ![0, 0] rfl _)) x).trans (gOf_slab i _ _ 0 (by omega) x)
    · exact (congrFun (congrArg₂ (k0_pay67 i) hs4 (load_c arg3.view X3 1 ![0, 128] rfl _)) x).trans (gOf_slab i _ _ 1 (by omega) x)
    · exact (congrFun (congrArg₂ (k0_pay67 i) hs4 (load_c arg3.view X3 2 ![0, 256] rfl _)) x).trans (gOf_slab i _ _ 2 (by omega) x)
    · exact (congrFun (congrArg₂ (k0_pay67 i) hs4 (load_c arg3.view X3 3 ![0, 384] rfl _)) x).trans (gOf_slab i _ _ 3 (by omega) x)
    · exact (congrFun (congrArg₂ (k0_pay67 i) hs4 (load_c arg3.view X3 4 ![0, 512] rfl _)) x).trans (gOf_slab i _ _ 4 (by omega) x)
    · exact (congrFun (congrArg₂ (k0_pay67 i) hs4 (load_c arg3.view X3 5 ![0, 640] rfl _)) x).trans (gOf_slab i _ _ 5 (by omega) x)
    · exact (congrFun (congrArg₂ (k0_pay67 i) hs4 (load_c arg3.view X3 6 ![0, 768] rfl _)) x).trans (gOf_slab i _ _ 6 (by omega) x)
    · exact (congrFun (congrArg₂ (k0_pay67 i) hs4 (load_c arg3.view X3 7 ![0, 896] rfl _)) x).trans (gOf_slab i _ _ 7 (by omega) x)
    · exact (congrFun (congrArg₂ (k0_pay67 i) hs4 (load_c arg3.view X3 8 ![0, 1024] rfl _)) x).trans (gOf_slab i _ _ 8 (by omega) x)
    · exact (congrFun (congrArg₂ (k0_pay67 i) hs4 (load_c arg3.view X3 9 ![0, 1152] rfl _)) x).trans (gOf_slab i _ _ 9 (by omega) x)
  generalize arg9.view.writes (Elt F) arg9.view.junk (body_run.sl.H9_10 i arg3 arg4 X3 X4) = g9 at *
  rw [← hg9]
  sl_for (stripAt c arg5 arg7 arg8 arg9 mE arg11 arg12 X5 g9 (embF uid ((i 0).val * 1280) w1.toNat (w4.toNat - w1.toNat) S)) $$ [H5 H7 H8 H9 HE H11 H12]
  case region =>
    intro k acc
    exact strip_step 𝒱 c i mU (Memref.isWhole_whole _) mId (Memref.isWhole_whole _) arg3 harg3 arg4 harg4 arg5 harg5 mS (Memref.isWhole_whole _)
      arg7 harg7 arg8 harg8 arg9 harg9 mE (Memref.isWhole_whole _) arg11 harg11 arg12 harg12 cc0_scratch4 X5 g9 _ k acc
  · unfold stripAt
    iexists f7, f8, (embF uid ((i 0).val * 1280) w1.toNat (w4.toNat - w1.toNat) S), f11, f12
    isplitl [H5 H7 H8 H9 HE H11 H12]
    · unfold Trip_k0_t5
      isplitl [H5]; · iexact H5
      isplitl [H9]; · iexact H9
      isplitl [H7]; · iexact H7
      isplitl [H8]; · iexact H8
      isplitl [HE]
      · iapply (Entails.of_eq (by rw [setE_univ])); iexact HE
      isplitl [H11] <;> iassumption
    · ipureintro
      exact ⟨fun y hy => absurd hy (by omega), fun y hy => absurd hy (by omega), fun y => by rw [if_neg (by omega)]; rfl⟩
  iintro %acc3 HL
  unfold stripAt
  icases HL with ⟨%g7, %g8, %g10, %g11, %g12, HT, %hL⟩
  rw [show (Scf.trips k0_t5_loop.lb k0_t5_loop.ub k0_t5_loop.st) = 5 from t5_trips] at hL
  obtain ⟨r7, r8, r10⟩ := hL
  unfold Trip_k0_t5
  icases HT with ⟨H5, H9, H7, H8, HE, H11, H12⟩
  have hg10 : g10 = fun _ => zE := funext fun y => (r10 y).trans (if_pos (by have h0 : (y 0).val < 1280 := (y 0).isLt; omega))
  subst hg10
  sl_step
  iexists g7, g8, g9, g11, g12
  isplitl [H3]; · iexact H3
  isplitl [H4]; · iexact H4
  isplitl [H5]; · iexact H5
  isplitl [H7]; · iexact H7
  isplitl [H8]; · iexact H8
  isplitl [H9]; · iexact H9
  isplitl [HE]
  · iapply (Entails.of_eq (show (mE.view.loc (c : Thread nD τ) ↦[mE.view.set]{fullShare} (fun _ => zE : S1280x3584.Idx → Elt F .f32) : sProp 𝕄)
        = eAt c Finset.univ (fun _ => zE) by rw [setE_univ]))
    iexact HE
  isplitl [H11]; · iexact H11
  isplitl [H12]; · iexact H12
  isplitl [Hu]; · iexact Hu
  isplitl [Hid]; · iexact Hid
  isplitl [HS]; · iexact HS
  isplitl [Hc]; · iexact Hc
  isplitl [HO]; · iexists _; iexact HO
  ipureintro
  exact ⟨funext fun y => r7 y (by have h0 : (y 0).val < 1280 := (y 0).isLt; omega),
    funext fun y => r8 y (by have h0 : (y 0).val < 1280 := (y 0).isLt; omega)⟩

end Cert.Kernel.Hand
-- ==== Proof.KFrame.lean ====
/-
  THE KERNEL'S RUN: the twenty-five grid steps, each the body of `KBody`, under the pipeline's launch theorem. The run ends,
  its arguments are unchanged, every semaphore is at zero, and each of the two results holds, block by block, what the
  body computed from the blocks of the arguments.
-/
module

public import proofs.«01_k».proof.Proof.KBody
public import proofs.«01_k».proof.Proof.Gen.Kernel.Launch
public import Idealize.ShloMosaic.Lib.Pipeline.Frame
public import Idealize.ShloMosaic.Lib.Pipeline.FrameBody
public import Idealize.ShloMosaic.Lib.Pipeline.Value

@[expose] public section

set_option maxRecDepth 8192
set_option maxHeartbeats 1000000

noncomputable section

namespace Cert.Kernel.Hand

open Cert.Kernel Cert.Kernel.Gen Cert.Tables
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The launch contents and the two tables -/

abbrev V (c : Dev nD) (b : Ref sig .tc) : Buf (Elt F) ((c : Thread nD τ).loc b) := m ((c : Thread nD τ).loc b)

theorem hmain (𝒱₀ : Variants) : Pipeline.HMainP (Ix := Unit) (Name := ℕ) (U := Pipeline.UD sig nD τ) (Lvl := ℕ) (pcfgs (F := F)) 0 defs₀ 𝒱₀ m main (V m) :=
  Pipeline.hmainP_region pcfgs 0 defs₀ 𝒱₀ m main fun c => (main_chain c).trans rfl

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev adm : (pcfg0 (F := F)).Adm := ⟨tbl m, trivial⟩
abbrev cfgM : Cfg sig Λ₀ := cfg0 (adm m)

/-- The boundaries, the ids and the table of rows, as launched. -/
abbrev ustM : IVec SU 32 := V m (0 : Dev nD) main_arg0
abbrev uidM : IVec SD 32 := V m (0 : Dev nD) main_arg1
abbrev rowsM (c : Dev nD) : S2240x3584.Idx → Elt F .f32 := V m c main_arg5

theorem PhiT0_eq (c : Dev nD) : (Pipeline.ΦT pre0 (tbl m) c : sProp 𝕄)
    = iprop((mU.view.loc (c : Thread nD τ) ↦{fullShare.right} ustM m) ∗ idHeld c (uidM m)) := by
  unfold Pipeline.ΦT Pipeline.prefHeld
  rw [show (Finset.univ : Finset (Fin 2)) = insert (0 : Fin 2) {(1 : Fin 2)} from by decide, bigSep_insert (by decide), bigSep_singleton]
  rfl

/-! ### The buffers the body uses beside its blocks -/

abbrev mG : Memref sig .tc .vmem S5x2048x256 .bf16 := Memref.whole cc0_scratch0
abbrev mA : Memref sig .tc .vmem S2x512x256 .f32 := Memref.whole cc0_scratch2
abbrev mT : Memref sig .tc .vmem S56x256 .f32 := Memref.whole cc0_scratch3

abbrev osem0 : Fin 1 → SemLoc sig := fun j => (![SemLoc.dma 8] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 8) 0 := by
  rw [Pipeline.ownSems0_eq_of_list c osem0 [0] (by decide) (by decide)]; rfl
def H0 : Finset (Ref sig .tc) := {main_arg5}
theorem H0_sub : H0 ⊆ Pipeline.restRefsP sig pre0 spec0 := by decide
theorem hbmPts0_eq (c : Dev nD) :
    (bigSep H0 (fun b => ((c : Thread nD τ).loc b) ↦{fullShare} V m c b) : sProp 𝕄) = sAt c Finset.univ (rowsM m c) := by
  rw [BI.bigSep_eq_bigSepL_of_eq [main_arg5] (by decide) (by decide)]; rfl

theorem PhiD0_eq (c : Dev nD) : (Pipeline.ΦD osem0 spec0 H0 (V m) c : sProp 𝕄)
    = iprop(((∃ f : S5x2048x256.Idx → Elt F .bf16, mG.view.loc (c : Thread nD τ) ↦[Finset.univ]{fullShare} f)
        ∗ (∃ f : S1280x3584.Idx → Elt F .f32, eAt c Finset.univ f)
        ∗ (∃ f : S2x512x256.Idx → Elt F .f32, mA.view.loc (c : Thread nD τ) ↦[Finset.univ]{fullShare} f)
        ∗ (∃ f : S56x256.Idx → Elt F .f32, mT.view.loc (c : Thread nD τ) ↦[Finset.univ]{fullShare} f))
      ∗ (∃ r, prngReg c r) ∗ semVal ((c : Thread nD τ), SemLoc.dma 8) 0 ∗ sAt c Finset.univ (rowsM m c)) := by
  unfold Pipeline.ΦD
  rw [scopedRest0_eq, ownSems00_eq, hbmPts0_eq]; rfl

/-- The invariant before step `n`: the scratch buffers at anything, the accumulated rows all zero after the first step, the
    copies' semaphore at zero, the tables and the rows as launched. -/
def PhiAt (c : Dev nD) (n : ℕ) : sProp 𝕄 :=
  iprop(∃ (f9 : S5x2048x256.Idx → Elt F .bf16) (E0 : S1280x3584.Idx → Elt F .f32) (f11 : S2x512x256.Idx → Elt F .f32) (f12 : S56x256.Idx → Elt F .f32),
    ⌜n ≠ 0 → E0 = fun _ => zE⌝ ∗ (mG.view.loc (c : Thread nD τ) ↦[Finset.univ]{fullShare} f9) ∗ eAt c Finset.univ E0
      ∗ (mA.view.loc (c : Thread nD τ) ↦[Finset.univ]{fullShare} f11) ∗ (mT.view.loc (c : Thread nD τ) ↦[Finset.univ]{fullShare} f12)
      ∗ (mU.view.loc (c : Thread nD τ) ↦{fullShare.right} ustM m) ∗ idHeld c (uidM m) ∗ sAt c Finset.univ (rowsM m c)
      ∗ semVal ((c : Thread nD τ), SemLoc.dma 8) 0 ∗ (∃ r, prngReg c r))

theorem phi_in (c : Dev nD) : (iprop(Pipeline.ΦD osem0 spec0 H0 (V m) c ∗ Pipeline.ΦT pre0 (tbl m) c) : sProp 𝕄) ⊢ PhiAt m c 0 := by
  rw [PhiD0_eq, PhiT0_eq]
  unfold PhiAt
  iintro ⟨⟨⟨⟨%f9, H9⟩, ⟨%E0, HE⟩, ⟨%f11, H11⟩, ⟨%f12, H12⟩⟩, Hg, Hc, HS⟩, Hu, Hid⟩
  iexists f9, E0, f11, f12
  isplitr; · ipureintro; exact fun h => absurd rfl h
  isplitl [H9]; · iexact H9
  isplitl [HE]; · iexact HE
  isplitl [H11]; · iexact H11
  isplitl [H12]; · iexact H12
  isplitl [Hu]; · iexact Hu
  isplitl [Hid]; · iexact Hid
  isplitl [HS]; · iexact HS
  isplitl [Hc]; · iexact Hc
  iexact Hg

theorem phi_out (c : Dev nD) (n : ℕ) : (PhiAt m c n : sProp 𝕄) ⊢ Pipeline.ΦD osem0 spec0 H0 (V m) c := by
  rw [PhiD0_eq]
  unfold PhiAt
  iintro ⟨%f9, %E0, %f11, %f12, -, H9, HE, H11, H12, -, -, HS, Hc, Hg⟩
  isplitl [H9 HE H11 H12]
  · isplitl [H9]; · iexists _; iexact H9
    isplitl [HE]; · iexists _; iexact HE
    isplitl [H11]; · iexists _; iexact H11
    iexists _; iexact H12
  isplitl [Hg]; · iexact Hg
  isplitl [Hc]; · iexact Hc
  iexact HS

/-! ### What each step leaves in the two results' blocks -/

/-- The block of window `w` at step `t`, of the launch contents. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The rows added at the grid coordinates `i`. -/
def embAt (c : Dev nD) (i : grid0.Coords) : S1280x3584.Idx → Elt F .f32 :=
  embF (uidM m) ((i 0).val * 1280) (lo (ustM m) ⟨(i 0).val, by have h : (i 0).val < 25 := (i 0).isLt; omega⟩)
    (lo (ustM m) ⟨(i 0).val + 1, by have h : (i 0).val < 25 := (i 0).isLt; omega⟩ - lo (ustM m) ⟨(i 0).val, by have h : (i 0).val < 25 := (i 0).isLt; omega⟩)
    (rowsM m c)

def codesAt (c : Dev nD) (t : Fin (cfgM m).N) : Vec F S1280x3584 .fp8e4m3 :=
  codesOf (iblk m c 2 t) (gOf (grid0.coords t) (iblk m c 0 t) (iblk m c 1 t)) (embAt m c (grid0.coords t))
def scaleAt (c : Dev nD) (t : Fin (cfgM m).N) : Vec F S1280x56 .f32 :=
  scaleOf (iblk m c 2 t) (gOf (grid0.coords t) (iblk m c 0 t) (iblk m c 1 t)) (embAt m c (grid0.coords t))

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesAt m c t
    | ⟨4, _⟩ => scaleAt m c t
  Φ t := PhiAt m c t.val
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = codesAt m c t := by dsimp only [dats]; try rfl
theorem after0_4 (c : Dev nD) (t : Fin (cfgM m).N) : (dats m 0 c).after 4 t = scaleAt m c t := by dsimp only [dats]; try rfl

theorem before0_0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfgM m).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ### The body at a step -/

abbrev ms0_0 (t : Fin (cfgM m).N) : Memref sig .tc .vmem S2048x1280 .fp8e5m2 := spec0_0.stage ((cfgM m).slots t 0)
abbrev ms0_1 (t : Fin (cfgM m).N) : Memref sig .tc .vmem S2048x25 .f32 := spec0_1.stage ((cfgM m).slots t 1)
abbrev ms0_2 (t : Fin (cfgM m).N) : Memref sig .tc .vmem S3584x2048 .bf16 := spec0_2.stage ((cfgM m).slots t 2)
abbrev ms0_3 (t : Fin (cfgM m).N) : Memref sig .tc .vmem S1280x3584 .fp8e4m3 := spec0_3.stage ((cfgM m).slots t 3)
abbrev ms0_4 (t : Fin (cfgM m).N) : Memref sig .tc .vmem S1280x56 .f32 := spec0_4.stage ((cfgM m).slots t 4)
abbrev hs0_0 (t : Fin (cfgM m).N) : (ms0_0 m t).IsWhole := hstage0_0 (((cfgM m).slots t 0).cast nbuf0_0)
abbrev hs0_1 (t : Fin (cfgM m).N) : (ms0_1 m t).IsWhole := hstage0_1 (((cfgM m).slots t 1).cast nbuf0_1)
abbrev hs0_2 (t : Fin (cfgM m).N) : (ms0_2 m t).IsWhole := hstage0_2 (((cfgM m).slots t 2).cast nbuf0_2)
abbrev hs0_3 (t : Fin (cfgM m).N) : (ms0_3 m t).IsWhole := hstage0_3 (((cfgM m).slots t 3).cast nbuf0_3)
abbrev hs0_4 (t : Fin (cfgM m).N) : (ms0_4 m t).IsWhole := hstage0_4 (((cfgM m).slots t 4).cast nbuf0_4)

def bodyAt0 (t : Fin (cfgM m).N) : Prog (TpuEff nD τ sig (Elt F) Λ₀ .tc) PUnit :=
  cc0_main (F := F) (grid0.coords t) mU (Memref.isWhole_whole _) mId (Memref.isWhole_whole _) (ms0_0 m t) (hs0_0 m t) (ms0_1 m t) (hs0_1 m t)
    (ms0_2 m t) (hs0_2 m t) mS (Memref.isWhole_whole _) (ms0_3 m t) (hs0_3 m t) (ms0_4 m t) (hs0_4 m t) mG (Memref.isWhole_whole _)
    mE (Memref.isWhole_whole _) mA (Memref.isWhole_whole _) mT (Memref.isWhole_whole _) cc0_scratch4

theorem defs₀_row (t : Fin (cfgM m).N) : defs₀ (F := F) .tc (cfgM m).body ((cfgM m).bodyArgs t ((cfgM m).slots t)) = bodyAt0 m t := by
  unfold defs₀; rw [Defs.onTc_tc]; rfl

theorem coords_val : ∀ t : Fin grid0.N, (grid0.coords t 0).val = t.val := by decide +kernel

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d)))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t))

theorem setG : mG.view.set = Finset.univ := View.set_whole _
theorem setA : mA.view.set = Finset.univ := View.set_whole _
theorem setT : mT.view.set = Finset.univ := View.set_whole _

theorem sound_body (hs : Sorted (ustM m) (uidM m)) (c : Dev nD) (t : Fin (cfgM m).N) :
    bodyPre m c t ⊢ wp frame (wpE (defs₀ (F := F)) Variants.none c none) Set.univ (bodyAt0 m t) (fun _ => bodyPost m c t) := by
  unfold bodyPre bodyPost bodyAt0
  rw [show (dats m 0 c).Φ t.succ = PhiAt m c (t.val + 1) from rfl, after0_0, after0_1, after0_2, after0_3, after0_4]
  rw [show (dats m 0 c).Φ t.castSucc = PhiAt m c t.val from rfl]
  simp only [before0_0, before0_1, before0_2]
  unfold Dat.owesAt Pipeline.owesWithin
  rw [show (dats m 0 c).owed t.castSucc = 0 from rfl, show (dats m 0 c).owed t.succ = 0 from rfl]
  unfold PhiAt owns
  iintro ⟨⟨%f9, %E0, %f11, %f12, %hE0, H9, HE, H11, H12, Hu, Hid, HS, Hc, Hg⟩, ⟨%W, -, HW⟩, ⟨%d0, %X3, %hX3, H3⟩, ⟨%d1, %X4, %hX4, H4⟩, ⟨%d2, %X5, %hX5, H5⟩, ⟨%d3, %f7, -, H7⟩, ⟨%d4, %f8, -, H8⟩⟩
  iapply (wp_wand_r Idealize.ShloMosaic.frame (wpE (defs₀ (F := F)) Variants.none (c : Thread nD τ) none) Set.univ)
  isplitl [H3 H4 H5 H7 H8 H9 HE H11 H12 Hu Hid HS Hc HW]
  · iapply (body_run Variants.none c (grid0.coords t) (ms0_0 m t) (hs0_0 m t) (ms0_1 m t) (hs0_1 m t) (ms0_2 m t) (hs0_2 m t)
      (ms0_3 m t) (hs0_3 m t) (ms0_4 m t) (hs0_4 m t) mG (Memref.isWhole_whole _) mA (Memref.isWhole_whole _) mT (Memref.isWhole_whole _)
      X3 X4 X5 f7 f8 f9 f11 f12 (ustM m) (uidM m) hs (rowsM m c) E0 (fun h => hE0 (by rw [← coords_val t]; exact h)))
    rw [setG, setA, setT]
    isplitl [H3]; · iexact H3
    isplitl [H4]; · iexact H4
    isplitl [H5]; · iexact H5
    isplitl [H7]; · iexact H7
    isplitl [H8]; · iexact H8
    isplitl [H9]; · iexact H9
    isplitl [HE]; · iexact HE
    isplitl [H11]; · iexact H11
    isplitl [H12]; · iexact H12
    isplitl [Hu]; · iexact Hu
    isplitl [Hid]; · iexact Hid
    isplitl [HS]; · iexact HS
    isplitl [Hc]; · iexact Hc
    iexists W; iexact HW
  iintro %_ ⟨%g7, %g8, %g9, %g11, %g12, H3, H4, H5, H7, H8, H9, HE, H11, H12, Hu, Hid, HS, Hc, ⟨%W', HW⟩, %hv⟩
  rw [setG, setA, setT]
  isplitl [H9 HE H11 H12 Hu Hid HS Hc Hg]
  · iexists g9, _, g11, g12
    isplitr; swap
    · isplitl [H9]; · iexact H9
      isplitl [HE]; · iexact HE
      isplitl [H11]; · iexact H11
      isplitl [H12]; · iexact H12
      isplitl [Hu]; · iexact Hu
      isplitl [Hid]; · iexact Hid
      isplitl [HS]; · iexact HS
      isplitl [Hc]; · iexact Hc
      iexact Hg
    ipureintro; exact fun _ => rfl
  isplitl [HW]
  · iexists W'; isplitr; · ipureintro; exact fun _ _ => Or.inl trivial
    iexact HW
  isplitl [H3]; · iexists X3; isplitr; · ipureintro; exact hX3
                  iexact H3
  isplitl [H4]; · iexists X4; isplitr; · ipureintro; exact hX4
                  iexact H4
  isplitl [H5]; · iexists X5; isplitr; · ipureintro; exact hX5
                  iexact H5
  obtain ⟨hv7, hv8⟩ := hv
  rw [hX3, hX4, hX5] at hv7 hv8
  isplitl [H7]; · iexists g7; isplitr; · ipureintro; exact hv7
                  iexact H7
  iexists g8; isplitr; · ipureintro; exact hv8
  iexact H8

theorem body_obligation (hs : Sorted (ustM m) (uidM m)) (c : Dev nD) :
    BodyObligation (dats (F := F) m 0 c) (defs₀ (F := F)) Variants.none () Set.univ := fun t => by
  rw [bigSep_W0, bigSep_W0, defs₀_row]
  exact triple_restated (sound_body m hs c t) rfl .rfl fun _ => .rfl

/-! ### The run -/

set_option backward.isDefEq.respectTransparency.types false in
theorem run_main (hs : Sorted (ustM m) (uidM m)) : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m hs c).loose) (hshare := fun c => (dats m 0 c).share_full fun _ => rfl)
    (howed := fun _ _ => rfl) (V := V m) (hmain := hmain m Variants.none) (hA := A_eq m) (hpf := V_pre m)
    (hin := phi_in m) (hout := fun c => phi_out m c _)

theorem kept (r : PUnit × MemSt nD τ sig (Elt F)) (h : Pipeline.FramePost (Pipeline.pin pcfgs fun _ => adm m) (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(h c).2 main_arg0 (Pipeline.mem_restRefs_of (win := spec0) main_arg0 (by decide) (by decide)),
   (h c).2 main_arg1 (Pipeline.mem_restRefs_of (win := spec0) main_arg1 (by decide) (by decide)),
   ((h c).1 0).trans (((dats m 0 c).arrAt_in 0 rfl _).trans (A_eq m c 0)),
   ((h c).1 1).trans (((dats m 0 c).arrAt_in 1 rfl _).trans (A_eq m c 1)),
   ((h c).1 2).trans (((dats m 0 c).arrAt_in 2 rfl _).trans (A_eq m c 2)),
   (h c).2 main_arg5 (Pipeline.mem_restRefs_of (win := spec0) main_arg5 (by decide) (by decide))⟩

/-- The kernel's frame: the run ends, the six arguments are as launched, every semaphore is at zero. -/
theorem frame_run (hs : Sorted (ustM m) (uidM m)) : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run defs _ _).mono (fun r h => ⟨kept m r h.1, h.2⟩) (run_main m ρ hs)

/-! ### The two results, block by block -/

theorem idx_inj3 : ∀ t t' : Fin (cfgM m).N, ((cfgM m).win 3).index t = ((cfgM m).win 3).index t' → t = t' :=
  (by decide +kernel : ∀ t t' : Fin grid0.N, cc0_transform_4 (grid0.coords t) = cc0_transform_4 (grid0.coords t') → t = t')
theorem idx_inj4 : ∀ t t' : Fin (cfgM m).N, ((cfgM m).win 4).index t = ((cfgM m).win 4).index t' → t = t' :=
  (by decide +kernel : ∀ t t' : Fin grid0.N, cc0_transform_5 (grid0.coords t) = cc0_transform_5 (grid0.coords t') → t = t')

theorem disjoint3 : ∀ t t' : Fin (cfgM m).N, ((cfgM m).win 3).flush t = true → ((cfgM m).win 3).flush t' = true → t ≠ t' →
    Disjoint (((cfgM m).win 3).blk t).view.set (((cfgM m).win 3).blk t').view.set :=
  fun t t' _ _ hne => ((cfgM m).win 3).disjoint_blk fun h => hne (idx_inj3 m t t' h)
theorem disjoint4 : ∀ t t' : Fin (cfgM m).N, ((cfgM m).win 4).flush t = true → ((cfgM m).win 4).flush t' = true → t ≠ t' →
    Disjoint (((cfgM m).win 4).blk t).view.set (((cfgM m).win 4).blk t').view.set :=
  fun t t' _ _ hne => ((cfgM m).win 4).disjoint_blk fun h => hne (idx_inj4 m t t' h)

theorem blocks3 (c : Dev nD) (t : Fin (cfgM m).N) (hf : ((cfgM m).win 3).flush t = true) :
    (((cfgM m).win 3).blk t).view.read (Elt F) ((dats m 0 c).arrAt 3 (cfgM m).N) = codesAt m c t :=
  ((dats m 0 c).read_blk_arrAt_eq_flushed 3 (disjoint3 m) (cfgM m).N t t.isLt hf).trans rfl
theorem blocks4 (c : Dev nD) (t : Fin (cfgM m).N) (hf : ((cfgM m).win 4).flush t = true) :
    (((cfgM m).win 4).blk t).view.read (Elt F) ((dats m 0 c).arrAt 4 (cfgM m).N) = scaleAt m c t :=
  ((dats m 0 c).read_blk_arrAt_eq_flushed 4 (disjoint4 m) (cfgM m).N t t.isLt hf).trans rfl

end Cert.Kernel.Hand
-- ==== Proof.KIWords.lean ====
/-
  THE KERNEL'S WORDS. From the two boundary words `v1 ≤ v4 ≤ 2176` of a vocabulary block: its two main copy loops run
  `v4 - v1` times and their remainders never, the entry a trip reads lies in the table of ids, the row it copies lies in
  `s_sum`, and the row of the block it copies to is the id less the block's first id.
-/
module

public import proofs.«01_k».proof.Proof.Gen.KernelIdeal.Skeleton
public import proofs.«01_k».proof.Proof.Tables

@[expose] public section

noncomputable section

namespace Cert.KernelIdeal.Hand

open Idealize.ShloMosaic Cert.KernelIdeal Cert.Tables

/-- A loop's printed upper bound at step one is the upper boundary itself. -/
theorem ub_eq (v1 v4 : BitVec 32) :
    Scalar.addi v1 (Scalar.muli (Scalar.divsi (Scalar.subi v4 v1) 1#32) 1#32) = v4 := by
  unfold Scalar.divsi Scalar.addi Scalar.muli Scalar.subi
  rw [WordArith.divsi_one]
  show v1 + (v4 - v1) * 1#32 = v4
  rw [BitVec.mul_one, BitVec.add_comm, BitVec.sub_add_cancel]

theorem add_sub (v1 v4 : BitVec 32) : Scalar.addi v1 (Scalar.subi v4 v1) = v4 := by
  show v1 + (v4 - v1) = v4
  rw [BitVec.add_comm, BitVec.sub_add_cancel]

theorem t1_eq (v1 v4 : BitVec 32) : k0_t1_loop v1 v4 = ⟨v1, v4, 1#32⟩ := by unfold k0_t1_loop; simp only [ub_eq]
theorem t3_eq (v1 v4 : BitVec 32) : k0_t3_loop v1 v4 = ⟨v1, v4, 1#32⟩ := by unfold k0_t3_loop; simp only [ub_eq]
theorem t2_eq (v1 v4 : BitVec 32) : k0_t2_loop v1 v4 = ⟨v4, v4, 1#32⟩ := by unfold k0_t2_loop; simp only [ub_eq, add_sub]
theorem t4_eq (v1 v4 : BitVec 32) : k0_t4_loop v1 v4 = ⟨v4, v4, 1#32⟩ := by unfold k0_t4_loop; simp only [ub_eq, add_sub]

theorem toInt_small (v : BitVec 32) (h : v.toNat ≤ 2176) : v.toInt = v.toNat :=
  WordCmp.toInt_eq_toNat_of_lt_half (by omega)

theorem trips_eq (v1 v4 : BitVec 32) (h1 : v1.toNat ≤ v4.toNat) (h2 : v4.toNat ≤ 2176) :
    Scf.trips v1 v4 1#32 = v4.toNat - v1.toNat := by
  unfold Scf.trips
  rw [toInt_small v1 (by omega), toInt_small v4 h2, show (1#32 : BitVec 32).toInt = 1 from by decide]
  omega

theorem ok_of (v1 v4 : BitVec 32) (h1 : v1.toNat ≤ v4.toNat) (h2 : v4.toNat ≤ 2176) : Scf.OK v1 v4 1#32 := by
  refine ⟨by decide, ?_⟩
  rw [trips_eq v1 v4 h1 h2, toInt_small v1 (by omega), show (1#32 : BitVec 32).toInt = 1 from by decide]
  omega

theorem trips1 (v1 v4 : BitVec 32) (h1 : v1.toNat ≤ v4.toNat) (h2 : v4.toNat ≤ 2176) :
    (k0_t1_loop v1 v4).trips = v4.toNat - v1.toNat := by rw [t1_eq]; exact trips_eq v1 v4 h1 h2
theorem trips3 (v1 v4 : BitVec 32) (h1 : v1.toNat ≤ v4.toNat) (h2 : v4.toNat ≤ 2176) :
    (k0_t3_loop v1 v4).trips = v4.toNat - v1.toNat := by rw [t3_eq]; exact trips_eq v1 v4 h1 h2
theorem trips2 (v1 v4 : BitVec 32) (h2 : v4.toNat ≤ 2176) : (k0_t2_loop v1 v4).trips = 0 := by
  rw [t2_eq]; exact (trips_eq v4 v4 le_rfl h2).trans (Nat.sub_self _)
theorem trips4 (v1 v4 : BitVec 32) (h2 : v4.toNat ≤ 2176) : (k0_t4_loop v1 v4).trips = 0 := by
  rw [t4_eq]; exact (trips_eq v4 v4 le_rfl h2).trans (Nat.sub_self _)

/-- The entry trip `t` reads. -/
theorem iv_toNat (v1 : BitVec 32) (t : ℕ) (h : v1.toNat + t ≤ 2176) : (Scf.iv v1 1#32 t).toNat = v1.toNat + t := by
  unfold Scf.iv
  rw [BitVec.mul_one, BitVec.toNat_add, BitVec.toNat_ofNat]; omega

/-- The table offsets of the entry whose number is the word `w`. -/
def entryOff (w : BitVec 32) : Fin 2 → ℕ := ![(rowWord w).toNat, (laneWord w).toNat]

theorem off3_eq (v1 v4 : BitVec 32) (t : Fin (k0_t1_loop v1 v4).trips) : k0_off3 v1 v4 t = entryOff (Scf.iv v1 1#32 t) := rfl
theorem off9_eq (v1 v4 : BitVec 32) (t : Fin (k0_t3_loop v1 v4).trips) : k0_off9 v1 v4 t = entryOff (Scf.iv v1 1#32 t) := rfl

theorem entryOff_eq (w : BitVec 32) (h : w.toNat < 2176) : entryOff w = ![w.toNat / 128, w.toNat % 128] := by
  unfold entryOff; rw [rowWord_toNat w h, laneWord_toNat w h]

theorem entryOff_inb (w : BitVec 32) (h : w.toNat < 2176) : ∀ a, entryOff w a + S1x1.size a ≤ S17x128.size a := by
  rw [entryOff_eq w h]
  intro a
  match a with
  | ⟨0, _⟩ => show w.toNat / 128 + 1 ≤ 17; omega
  | ⟨1, _⟩ => show w.toNat % 128 + 1 ≤ 128; omega

theorem row_inb (w : BitVec 32) (h : w.toNat < 2176) : ∀ a, (![w.toNat, 0] : Fin 2 → ℕ) a + S1x3584.size a ≤ S2240x3584.size a := by
  intro a
  match a with
  | ⟨0, _⟩ => show w.toNat + 1 ≤ 2240; omega
  | ⟨1, _⟩ => show 0 + 3584 ≤ 3584; omega

/-- THE BOUNDARY WORDS' SIDE CONDITION. -/
theorem chk1_of (v1 v4 : BitVec 32) (h1 : v1.toNat ≤ v4.toNat) (h2 : v4.toNat ≤ 2176) : k0_chk1 v1 v4 := by
  have ht1 := trips1 v1 v4 h1 h2
  have ht3 := trips3 v1 v4 h1 h2
  have ht2 := trips2 v1 v4 h2
  have ht4 := trips4 v1 v4 h2
  have hw : ∀ t : ℕ, t < v4.toNat - v1.toNat → (Scf.iv v1 1#32 t).toNat < 2176 := fun t ht => by
    rw [iv_toNat v1 t (by omega)]; omega
  refine ⟨?_, fun t => ?_, fun t => ?_, ?_, fun t => absurd t.isLt (by omega), fun t => absurd t.isLt (by omega),
    ?_, fun t => ?_, fun t => ?_, ?_, fun t => absurd t.isLt (by omega), fun t => absurd t.isLt (by omega)⟩
  · rw [t1_eq]; exact ok_of v1 v4 h1 h2
  · exact entryOff_inb _ (hw t (ht1 ▸ t.isLt))
  · exact row_inb _ (hw t (ht1 ▸ t.isLt))
  · rw [t2_eq]; exact ok_of v4 v4 le_rfl h2
  · rw [t3_eq]; exact ok_of v1 v4 h1 h2
  · exact entryOff_inb _ (hw t (ht3 ▸ t.isLt))
  · exact row_inb _ (hw t (ht3 ▸ t.isLt))
  · rw [t4_eq]; exact ok_of v4 v4 le_rfl h2

/-- The row of block `c` an id of the block goes to. -/
theorem dst_toNat (i : grid0.Coords) (w : BitVec 32) (h1 : (i 0).val * 1280 ≤ w.toNat) :
    (Scalar.subi w (Scalar.muli (BitVec.ofNat 32 (i 0).val) 1280#32) : BitVec 32).toNat = w.toNat - (i 0).val * 1280 := by
  have hi : (i 0).val < 25 := (i 0).isLt
  have hm : (Scalar.muli (BitVec.ofNat 32 (i 0).val) 1280#32 : BitVec 32).toNat = (i 0).val * 1280 := by
    show (BitVec.ofNat 32 (i 0).val * 1280#32).toNat = _
    rw [BitVec.toNat_mul, BitVec.toNat_ofNat]; simp only [BitVec.toNat_ofNat]; omega
  show (w - Scalar.muli (BitVec.ofNat 32 (i 0).val) 1280#32).toNat = _
  rw [BitVec.toNat_sub_of_le (by rw [BitVec.le_def, hm]; exact h1), hm]

theorem off4_eq (i : grid0.Coords) (w : BitVec 32) (h1 : (i 0).val * 1280 ≤ w.toNat) :
    k0_off4 i w = ![w.toNat - (i 0).val * 1280, 0] := by
  show ![(Scalar.subi w (Scalar.muli (BitVec.ofNat 32 (i 0).val) 1280#32) : BitVec 32).toNat, 0] = _
  rw [dst_toNat i w h1]

theorem chk2_of (i : grid0.Coords) (w : BitVec 32) (h1 : (i 0).val * 1280 ≤ w.toNat) (h2 : w.toNat < (i 0).val * 1280 + 1280) :
    k0_chk2 i w := by
  unfold k0_chk2
  rw [off4_eq i w h1]
  intro a
  match a with
  | ⟨0, _⟩ => show w.toNat - (i 0).val * 1280 + 1 ≤ 1280; omega
  | ⟨1, _⟩ => show 0 + 3584 ≤ 3584; omega

theorem chk4_of (i : grid0.Coords) (w : BitVec 32) (h1 : (i 0).val * 1280 ≤ w.toNat) (h2 : w.toNat < (i 0).val * 1280 + 1280) :
    k0_chk4 i w := chk2_of i w h1 h2

end Cert.KernelIdeal.Hand
-- ==== Proof.KICopies.lean ====
/-
  THE KERNEL'S ROW COPIES. One vocabulary block's run `u0 ≤ u < u0 + n` of token rows: row `u` of `s_sum` is copied to
  row `uid u - 1280 c` of the block's embedding scratch. The loop that starts the copies and the loop that waits for
  them, with all `n` copies in flight on the one semaphore at once (a batch of `n` transfers).
-/
module

public import proofs.«01_k».proof.Proof.Gen.KernelIdeal.Loops
public import proofs.«01_k».proof.Proof.KIWords
public import Idealize.ShloMosaic.Lib.Batch
public import Idealize.ShloMosaic.Lib.Ring
public import Idealize.ShloMosaic.Lib.Tactic
public import Idealize.ShloMosaic.Lib.WordCmp
public import Idealize.ShloMosaic.Lib.Pipeline.FrameBody

@[expose] public section

noncomputable section

namespace Cert.KernelIdeal.Hand

open Cert.KernelIdeal Cert.KernelIdeal.Gen Cert.Tables
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The embedding scratch, the rows it is filled from, and the table of ids. -/
abbrev mE : Memref sig .tc .vmem S1280x3584 .f32 := Memref.whole cc0_scratch1
abbrev mS : Memref sig .tc .hbm S2240x3584 .f32 := Memref.whole main_arg5
abbrev mId : Memref sig .tc .smem S17x128 .i32 := Memref.whole main_arg1

/-- A row of either, as the kernel slices it. -/
abbrev sliceE (off : Fin 2 → ℕ) (h : ∀ a, off a + S1x3584.size a ≤ S1280x3584.size a) : Memref sig .tc .vmem S1x3584 .f32 :=
  mE.slice (Rect.unit (s := S1280x3584) off S1x3584.size h) (fun _ => rfl)
abbrev sliceS (off : Fin 2 → ℕ) (h : ∀ a, off a + S1x3584.size a ≤ S2240x3584.size a) : Memref sig .tc .hbm S1x3584 .f32 :=
  mS.slice (Rect.unit (s := S2240x3584) off S1x3584.size h) (fun _ => rfl)

/-- One row's amount on the semaphore. -/
abbrev NN : ℕ := 448

/-- The zero the embedding scratch is cleared to. -/
abbrev zE : Elt F .f32 := k0_pay65 (F := F) (ix2 (0 : Fin 1280) (0 : Fin 3584))

/-- The row of the block (whose first id is `base`) that entry `u` goes to. -/
def rowAt (uid : IVec SD 32) (base u : ℕ) : ℕ := if h : u < 2176 then idAt uid ⟨u, h⟩ - base else 0

/-- What the copies need of the run `u0 ≤ u < u0 + n`: its ids are distinct ids of the block. -/
structure Run (uid : IVec SD 32) (base u0 n : ℕ) : Prop where
  le : u0 + n ≤ 2176
  block : ∀ u : Fin 2176, u0 ≤ u.val → u.val < u0 + n → base ≤ idAt uid u ∧ idAt uid u < base + 1280
  ne : ∀ u u' : Fin 2176, u0 ≤ u.val → u.val < u0 + n → u0 ≤ u'.val → u'.val < u0 + n → u ≠ u' → idAt uid u ≠ idAt uid u'

theorem Run.row_ne {uid : IVec SD 32} {base u0 n : ℕ} (h : Run uid base u0 n) (t t' : ℕ) (ht : t < n) (ht' : t' < n) (hne : t ≠ t') :
    rowAt uid base (u0 + t) ≠ rowAt uid base (u0 + t') := by
  have hl := h.le
  unfold rowAt
  rw [dif_pos (show u0 + t < 2176 by omega), dif_pos (show u0 + t' < 2176 by omega)]
  have h1 := h.block ⟨u0 + t, by omega⟩ (by simp) (by simpa using ht)
  have h2 := h.block ⟨u0 + t', by omega⟩ (by simp) (by simpa using ht')
  have := h.ne ⟨u0 + t, by omega⟩ ⟨u0 + t', by omega⟩ (by simp) (by simpa using ht) (by simp) (by simpa using ht')
    (fun e => hne (by have := congrArg Fin.val e; simp at this; exact this))
  omega

/-- Row `r` of the scratch, row `u` of the source, as sets of elements; what is left of either before copy `k`. -/
def setE (r : ℕ) : Finset S1280x3584.Idx := Finset.univ.filter fun y => (y 0).val = r
def setS (u : ℕ) : Finset S2240x3584.Idx := Finset.univ.filter fun y => (y 0).val = u
def remE (uid : IVec SD 32) (base u0 k : ℕ) : Finset S1280x3584.Idx :=
  Finset.univ.filter fun y => ∀ t, t < k → (y 0).val ≠ rowAt uid base (u0 + t)
def remS (u0 k : ℕ) : Finset S2240x3584.Idx := Finset.univ.filter fun y => ¬ (u0 ≤ (y 0).val ∧ (y 0).val < u0 + k)

open Classical in
/-- The scratch after the copies: row `r` is the source's row `u` for the live entry `u` whose id is `base + r`, else zero. -/
def embF (uid : IVec SD 32) (base u0 n : ℕ) (S : S2240x3584.Idx → Elt F .f32) : S1280x3584.Idx → Elt F .f32 := fun y =>
  if h : ∃ t, t < n ∧ rowAt uid base (u0 + t) = (y 0).val then S (ix2 ⟨(u0 + h.choose) % 2240, by omega⟩ (y 1)) else zE

theorem embF_row {uid : IVec SD 32} {base u0 n : ℕ} (hr : Run uid base u0 n) (S : S2240x3584.Idx → Elt F .f32) (y : S1280x3584.Idx)
    (t : ℕ) (ht : t < n) (hy : rowAt uid base (u0 + t) = (y 0).val) :
    embF uid base u0 n S y = S (ix2 ⟨u0 + t, by have := hr.le; omega⟩ (y 1)) := by
  have hl := hr.le
  unfold embF
  have h : ∃ t, t < n ∧ rowAt uid base (u0 + t) = (y 0).val := ⟨t, ht, hy⟩
  rw [dif_pos h]
  have he : h.choose = t := by
    by_contra hne
    exact hr.row_ne _ t h.choose_spec.1 ht hne (h.choose_spec.2.trans hy.symm)
  have hm : (u0 + h.choose) % 2240 = u0 + t := by rw [he]; omega
  exact congrArg S (congrArg (fun a => ix2 a (y 1)) (Fin.ext hm))

theorem embF_rest {uid : IVec SD 32} {base u0 n : ℕ} (S : S2240x3584.Idx → Elt F .f32) (y : S1280x3584.Idx)
    (hy : ∀ t, t < n → (y 0).val ≠ rowAt uid base (u0 + t)) : embF uid base u0 n S y = zE := by
  unfold embF
  rw [dif_neg]
  rintro ⟨t, ht, he⟩
  exact hy t ht he.symm

theorem sliceE_set (off : Fin 2 → ℕ) (h) (r : ℕ) (ho : off = ![r, 0]) : (sliceE off h).view.set = setE r := by
  subst ho
  ext y
  simp only [Memref.view_slice, Memref.view_whole, View.set_slice_whole, setE, Finset.mem_filter, Finset.mem_univ, true_and]
  refine (Rect.mem_set_unit).trans ⟨fun hh => ?_, fun hh a => ?_⟩
  · have := hh 0
    simp at this
    omega
  · match a with
    | ⟨0, _⟩ => show r ≤ (y 0).val ∧ (y 0).val < r + 1; omega
    | ⟨1, _⟩ => show 0 ≤ (y 1).val ∧ (y 1).val < 0 + 3584; exact ⟨Nat.zero_le _, lt_of_lt_of_eq (y 1).isLt (by rfl)⟩

theorem sliceS_set (off : Fin 2 → ℕ) (h) (r : ℕ) (ho : off = ![r, 0]) : (sliceS off h).view.set = setS r := by
  subst ho
  ext y
  simp only [Memref.view_slice, Memref.view_whole, View.set_slice_whole, setS, Finset.mem_filter, Finset.mem_univ, true_and]
  refine (Rect.mem_set_unit).trans ⟨fun hh => ?_, fun hh a => ?_⟩
  · have := hh 0
    simp at this
    omega
  · match a with
    | ⟨0, _⟩ => show r ≤ (y 0).val ∧ (y 0).val < r + 1; omega
    | ⟨1, _⟩ => show 0 ≤ (y 1).val ∧ (y 1).val < 0 + 3584; exact ⟨Nat.zero_le _, lt_of_lt_of_eq (y 1).isLt (by rfl)⟩

/-- A copied row, as the scratch holds it. -/
theorem write_row (offE offS : Fin 2 → ℕ) (hE hS) (r u : ℕ) (hoE : offE = ![r, 0]) (hoS : offS = ![u, 0]) (hu : u < 2240)
    (f : S1280x3584.Idx → Elt F .f32) (S : S2240x3584.Idx → Elt F .f32) (y : S1280x3584.Idx) (hy : (y 0).val = r) :
    (sliceE offE hE).view.write (Elt F) f (ReadAs.same.apply ((sliceS offS hS).view.read (Elt F) S)) Finset.univ y
      = S (ix2 ⟨u, hu⟩ (y 1)) := by
  subst hoE hoS
  have e : y = (sliceE ![r, 0] hE).view.emb (ix2 (0 : Fin 1) (y 1)) := by
    funext a
    match a with
    | ⟨0, _⟩ => exact Fin.ext (by show (y 0).val = r + 0; omega)
    | ⟨1, _⟩ => exact Fin.ext (by show (y 1).val = 0 + 1 * (y 1).val; omega)
  refine (congrArg ((sliceE ![r, 0] hE).view.write (Elt F) f (ReadAs.same.apply ((sliceS ![u, 0] hS).view.read (Elt F) S)) Finset.univ) e).trans ?_
  refine (View.write_emb_of_mem _ _ (Finset.mem_univ _)).trans ?_
  show S ((sliceS ![u, 0] hS).view.emb (ix2 (0 : Fin 1) (y 1))) = _
  refine congrArg S ?_
  funext a
  match a with
  | ⟨0, _⟩ => exact Fin.ext (by show u + 0 = u; omega)
  | ⟨1, _⟩ => exact Fin.ext (by show 0 + 1 * (y 1).val = (y 1).val; omega)

section Loops

variable (c : Dev nD) (uid : IVec SD 32) (base u0 n : ℕ) (S : S2240x3584.Idx → Elt F .f32)

abbrev eAt (I : Finset S1280x3584.Idx) (f : S1280x3584.Idx → Elt F .f32) : sProp 𝕄 := mE.view.loc (c : Thread nD τ) ↦[I]{fullShare} f
abbrev sAt (I : Finset S2240x3584.Idx) (f : S2240x3584.Idx → Elt F .f32) : sProp 𝕄 := mS.view.loc (c : Thread nD τ) ↦[I]{fullShare} f
abbrev idHeld : sProp 𝕄 := mId.view.loc (c : Thread nD τ) ↦{fullShare.right} uid

/-- What copy `t` delivers: its row of the scratch at its final contents, and the source's row back. -/
abbrev deliv (t : Fin n) : sProp 𝕄 :=
  iprop(eAt c (setE (rowAt uid base (u0 + t.val))) (embF uid base u0 n S) ∗ sAt c (setS (u0 + t.val)) S)

/-- All `n` copies' batch on the semaphore, `k` started, `w` units waited for. -/
abbrev batch (k w : ℕ) : sProp 𝕄 :=
  Transfers.Batch (countersEmb (U := Pipeline.UD sig nD τ)) (c : Thread nD τ) (.dma 8) () NN (deliv c uid base u0 n S) k w

/-- Before start `k`: `k` copies in flight, the rest of both buffers in hand. -/
def issueAt (k : ℕ) (_ : Unit) : sProp 𝕄 :=
  iprop(batch c uid base u0 n S k 0 ∗ (∃ W, owes (c : Thread nD τ) 0 W) ∗ idHeld c uid
    ∗ eAt c (remE uid base u0 k) (fun _ => zE) ∗ sAt c (remS u0 k) S)

/-- Before wait `k`. -/
def waitAt (k : ℕ) (_ : Unit) : sProp 𝕄 :=
  iprop(⌜k ≤ n⌝ ∗ (∃ W, owes (c : Thread nD τ) 0 W) ∗ idHeld c uid ∗ batch c uid base u0 n S n (k * NN))

theorem remE_split (hr : Run uid base u0 n) (k : ℕ) (hk : k < n) :
    remE uid base u0 k = setE (rowAt uid base (u0 + k)) ∪ remE uid base u0 (k + 1) := by
  ext y
  simp only [remE, setE, Finset.mem_filter, Finset.mem_univ, true_and, Finset.mem_union]
  constructor
  · intro h
    by_cases e : (y 0).val = rowAt uid base (u0 + k)
    · exact .inl e
    · refine .inr fun t ht => ?_
      rcases Nat.lt_succ_iff_lt_or_eq.mp ht with h' | rfl
      · exact h t h'
      · exact e
  · rintro (e | h) t ht
    · rw [e]; exact hr.row_ne k t hk (by omega) (by omega)
    · exact h t (by omega)

theorem remE_disj (k : ℕ) : Disjoint (setE (rowAt uid base (u0 + k))) (remE uid base u0 (k + 1)) := by
  rw [Finset.disjoint_left]
  intro y h1 h2
  simp only [remE, setE, Finset.mem_filter, Finset.mem_univ, true_and] at h1 h2
  exact h2 k (by omega) h1

theorem remS_split (k : ℕ) : remS u0 k = setS (u0 + k) ∪ remS u0 (k + 1) := by
  ext y
  simp only [remS, setS, Finset.mem_filter, Finset.mem_univ, true_and, Finset.mem_union]
  omega

theorem remS_disj (k : ℕ) : Disjoint (setS (u0 + k)) (remS u0 (k + 1)) := by
  rw [Finset.disjoint_left]
  intro y h1 h2
  simp only [remS, setS, Finset.mem_filter, Finset.mem_univ, true_and] at h1 h2
  omega

end Loops

/-- The word a trip loads from the table. -/
theorem entry_load (uid : IVec SD 32) (w : BitVec 32) (hw : w.toNat < 2176) (off : Fin 2 → ℕ) (inb) (ho : off = entryOff w) (x : S1x1.Idx) :
    View.readAt (Elt F) mId.view (Rect.unit (s := S17x128) off S1x1.size inb).toLoadRect uid x = uid (ixD ⟨w.toNat, hw⟩) := by
  subst ho
  show uid _ = uid _
  refine congrArg uid ?_
  have h0 : (x 0).val = 0 := by have := (x 0).isLt; exact Nat.lt_one_iff.mp this
  have h1 : (x 1).val = 0 := by have := (x 1).isLt; exact Nat.lt_one_iff.mp this
  have e := entryOff_eq w hw
  funext a
  match a with
  | ⟨0, _⟩ => exact Fin.ext (by show entryOff w 0 + 1 * (x 0).val = w.toNat / 128; rw [e, h0]; rfl)
  | ⟨1, _⟩ => exact Fin.ext (by show entryOff w 1 + 1 * (x 1).val = w.toNat % 128; rw [e, h1]; rfl)

section Steps

variable (𝒱 : Variants) (c : Dev nD) (i : grid0.Coords) (arg1 : Memref sig .tc .smem S26 .i32) (harg1 : arg1.IsWhole) (arg3 : Memref sig .tc .vmem S2048x1280 .fp8e5m2) (harg3 : arg3.IsWhole) (arg4 : Memref sig .tc .vmem S2048x25 .f32) (harg4 : arg4.IsWhole) (arg5 : Memref sig .tc .vmem S3584x2048 .bf16) (harg5 : arg5.IsWhole) (arg7 : Memref sig .tc .vmem S1280x3584 .fp8e4m3) (harg7 : arg7.IsWhole) (arg8 : Memref sig .tc .vmem S1280x56 .f32) (harg8 : arg8.IsWhole) (arg9 : Memref sig .tc .vmem S5x2048x256 .bf16) (harg9 : arg9.IsWhole) (arg11 : Memref sig .tc .vmem S2x512x256 .f32) (harg11 : arg11.IsWhole) (arg12 : Memref sig .tc .vmem S56x256 .f32) (harg12 : arg12.IsWhole) (v1 v4 : Elt F .i32) (hw1 : k0_chk1 v1 v4)
  (uid : IVec SD 32) (n : ℕ) (S : S2240x3584.Idx → Elt F .f32)

abbrev wId : mId.IsWhole := Memref.isWhole_whole _

theorem issue_step (hr : Run uid ((i 0).val * 1280) v1.toNat n) (hn : (k0_t1_loop v1 v4).trips = n)
    (k : Fin (k0_t1_loop v1 v4).trips) (acc : Unit) :
    issueAt c uid ((i 0).val * 1280) v1.toNat n S k acc ⊢ wp frame (wpE defs₀ 𝒱 (c : Thread nD τ) none) Set.univ
      (k0_t1_body (F := F) i arg1 harg1 mId (Memref.isWhole_whole _) arg3 harg3 arg4 harg4 arg5 harg5 mS (Memref.isWhole_whole _) arg7 harg7 arg8 harg8 arg9 harg9 mE (Memref.isWhole_whole _) arg11 harg11 arg12 harg12 cc0_scratch4 v1 v4 hw1 k acc)
      (issueAt c uid ((i 0).val * 1280) v1.toNat n S (k.val + 1)) := by
  have hk : k.val < n := hn ▸ k.isLt
  unfold issueAt
  iintro ⟨HB, ⟨%W, HO⟩, Hid, HE, HS⟩
  unfold k0_t1_body
  sl_exec
  have hw : issue_step.sl.r v1 v4 hw1 uid k = uid (ixD ⟨v1.toNat + k.val, by have := hr.le; omega⟩) := by
    unfold issue_step.sl.r
    have hi := iv_toNat v1 k.val (by have := hr.le; omega)
    have hlt : (Scf.iv v1 1#32 k.val).toNat < 2176 := by have := hr.le; omega
    exact (entry_load (F := F) uid (Scf.iv v1 1#32 k.val) hlt _ _ (off3_eq v1 v4 k) _).trans
      (congrArg (fun u => uid (ixD u)) (Fin.ext hi))
  generalize hw' : issue_step.sl.r v1 v4 hw1 uid k = w at *
  have hb := hr.block ⟨v1.toNat + k.val, by have := hr.le; omega⟩ (by simp) (by simpa using hk)
  have hid : idAt uid ⟨v1.toNat + k.val, by have := hr.le; omega⟩ = w.toNat := by rw [hw]; rfl
  rw [hid] at hb
  have hc : k0_chk2 i w := chk2_of i w hb.1 hb.2
  have ho4 := off4_eq i w hb.1
  have hrow : rowAt uid ((i 0).val * 1280) (v1.toNat + k.val) = w.toNat - (i 0).val * 1280 := by
    unfold rowAt; rw [dif_pos (show v1.toNat + k.val < 2176 by have := hr.le; omega), hid]
  have ho5 : k0_off5 v1 v4 k = ![v1.toNat + k.val, 0] := by
    show ![(Scf.iv v1 1#32 k.val).toNat, 0] = _
    rw [iv_toNat v1 k.val (by have := hr.le; omega)]
  have hu : v1.toNat + k.val < 2240 := by have := hr.le; omega
  have hD : iprop((mE.view.loc (c : Thread nD τ) ↦[setE (rowAt uid ((i 0).val * 1280) (v1.toNat + k.val))]{fullShare}
        ((sliceE (k0_off4 i w) (k0_off4_inb i w hc)).view.write (Elt F) (fun _ => zE)
          (ReadAs.same.apply ((sliceS (k0_off5 v1 v4 k) (k0_off5_inb v1 v4 hw1 k)).view.read (Elt F) S)) Finset.univ))
      ∗ (mS.view.loc (c : Thread nD τ) ↦[(sliceS (k0_off5 v1 v4 k) (k0_off5_inb v1 v4 hw1 k)).view.set]{fullShare} S))
      ⊢ (deliv c uid ((i 0).val * 1280) v1.toNat n S ⟨k.val, hk⟩ : sProp 𝕄) := by
    rw [sliceS_set _ _ _ ho5]
    refine sep_mono (Entails.of_eq (pointsTo_congr fun y hy => ?_)) .rfl
    have hy' : (y 0).val = rowAt uid ((i 0).val * 1280) (v1.toNat + k.val) := (Finset.mem_filter.mp hy).2
    rw [write_row _ _ _ _ _ _ ho4 ho5 hu _ _ y (hy'.trans hrow), embF_row hr S y k.val hk hy'.symm]
  sl_exec
  ihave HE' := (Entails.of_eq (by rw [remE_split _ _ _ _ hr k.val hk])).trans (pointsTo_union (remE_disj uid ((i 0).val * 1280) v1.toNat k.val)).1 $$ HE
  ihave HS' := (Entails.of_eq (by rw [remS_split v1.toNat k.val])).trans (pointsTo_union (remS_disj v1.toNat k.val)).1 $$ HS
  icases HE' with ⟨HEr, HE⟩
  icases HS' with ⟨HSr, HS⟩
  iapply (Transfers.wp_dmaBatch (countersEmb (U := Pipeline.UD sig nD τ)) 𝒱 (c : Thread nD τ) none
    (src := sliceS (k0_off5 v1 v4 k) (k0_off5_inb v1 v4 hw1 k)) (dst := sliceE (k0_off4 i w) (k0_off4_inb i w hc))
    (Sd := setE (rowAt uid ((i 0).val * 1280) (v1.toNat + k.val))) (fd := fun _ => zE) (fs := S) (q := fullShare)
    () NN rfl (by rw [hrow]; exact (sliceE_set _ _ _ ho4).le) (D := deliv c uid ((i 0).val * 1280) v1.toNat n S) (j := k.val) (u := 0) hk (Nat.zero_le _) hD) $$ [HEr HSr HB]
  · isplitl [HSr]
    · rw [sliceS_set _ _ _ ho5]; iexact HSr
    isplitl [HEr]; · iexact HEr
    iexact HB
  iintro HB
  sl_step
  isplitl [HB]; · iexact HB
  isplitl [HO]; · iexists _; iexact HO
  isplitl [Hid]; · iexact Hid
  isplitl [HE] <;> iassumption

theorem wait_step (hr : Run uid ((i 0).val * 1280) v1.toNat n) (hn : (k0_t3_loop v1 v4).trips = n)
    (plan : Transfers.InterleavedWaits (c : Thread nD τ) (SemLoc.dma (sig := sig) 8))
    (k : Fin (k0_t3_loop v1 v4).trips) (acc : Unit) :
    waitAt c uid ((i 0).val * 1280) v1.toNat n S k acc ⊢ wp frame (wpE defs₀ 𝒱 (c : Thread nD τ) none) Set.univ
      (k0_t3_body (F := F) i arg1 harg1 mId (Memref.isWhole_whole _) arg3 harg3 arg4 harg4 arg5 harg5 mS (Memref.isWhole_whole _) arg7 harg7 arg8 harg8 arg9 harg9 mE (Memref.isWhole_whole _) arg11 harg11 arg12 harg12 cc0_scratch4 v1 v4 hw1 k acc)
      (waitAt c uid ((i 0).val * 1280) v1.toNat n S (k.val + 1)) := by
  have hk : k.val < n := hn ▸ k.isLt
  unfold waitAt
  rw [show (k.val + 1) * NN = k.val * NN + 1 * NN by simp only [NN]; omega]
  iintro ⟨-, ⟨%W, HO⟩, Hid, HB⟩
  unfold k0_t3_body
  sl_exec
  have hw : wait_step.sl.r v1 v4 hw1 uid k = uid (ixD ⟨v1.toNat + k.val, by have := hr.le; omega⟩) := by
    unfold wait_step.sl.r
    have hi := iv_toNat v1 k.val (by have := hr.le; omega)
    have hlt : (Scf.iv v1 1#32 k.val).toNat < 2176 := by have := hr.le; omega
    exact (entry_load (F := F) uid (Scf.iv v1 1#32 k.val) hlt _ _ (off9_eq v1 v4 k) _).trans
      (congrArg (fun u => uid (ixD u)) (Fin.ext hi))
  generalize hw' : wait_step.sl.r v1 v4 hw1 uid k = w at *
  have hb := hr.block ⟨v1.toNat + k.val, by have := hr.le; omega⟩ (by simp) (by simpa using hk)
  have hid : idAt uid ⟨v1.toNat + k.val, by have := hr.le; omega⟩ = w.toNat := by rw [hw]; rfl
  rw [hid] at hb
  have hc : k0_chk4 i w := chk4_of i w hb.1 hb.2
  sl_exec
  sl_step
  isplitr; · ipureintro; omega
  isplitl [HO]; · iexists _; iexact HO
  isplitl [Hid]; · iexact Hid
  iexact HB

end Steps

/-- After the last wait the scratch holds the run's rows, zeros elsewhere, and the source is whole again. -/
theorem collect (c : Dev nD) (uid : IVec SD 32) (base u0 n : ℕ) (hr : Run uid base u0 n) (S : S2240x3584.Idx → Elt F .f32) :
    iprop(bigSep Finset.univ (deliv c uid base u0 n S) ∗ eAt c (remE uid base u0 n) (fun _ => zE) ∗ sAt c (remS u0 n) S)
      ⊢ (iprop(eAt c Finset.univ (embF uid base u0 n S) ∗ sAt c Finset.univ S) : sProp 𝕄) := by
  have hl := hr.le
  have hE : ∀ y ∈ remE uid base u0 n, (fun _ => zE : S1280x3584.Idx → Elt F .f32) y = embF uid base u0 n S y := fun y hy =>
    (embF_rest S y fun t ht => (Finset.mem_filter.mp hy).2 t ht).symm
  have e1 : bigSep Finset.univ (deliv c uid base u0 n S)
      = (iprop(bigSep Finset.univ (fun t : Fin n => eAt c (setE (rowAt uid base (u0 + t.val))) (embF uid base u0 n S))
          ∗ bigSep Finset.univ (fun t : Fin n => sAt c (setS (u0 + t.val)) S)) : sProp 𝕄) := by
    exact bigSep_sep _ _ _
  have d1 : ∀ t ∈ (Finset.univ : Finset (Fin n)), ∀ t' ∈ (Finset.univ : Finset (Fin n)), t ≠ t' →
      Disjoint (setE (rowAt uid base (u0 + t.val))) (setE (rowAt uid base (u0 + t'.val))) := fun t _ t' _ hne => by
    rw [Finset.disjoint_left]
    intro y h1 h2
    simp only [setE, Finset.mem_filter, Finset.mem_univ, true_and] at h1 h2
    exact hr.row_ne t.val t'.val t.isLt t'.isLt (fun e => hne (Fin.ext e)) (h1.symm.trans h2)
  have d2 : ∀ t ∈ (Finset.univ : Finset (Fin n)), ∀ t' ∈ (Finset.univ : Finset (Fin n)), t ≠ t' →
      Disjoint (setS (u0 + t.val)) (setS (u0 + t'.val)) := fun t _ t' _ hne => by
    rw [Finset.disjoint_left]
    intro y h1 h2
    simp only [setS, Finset.mem_filter, Finset.mem_univ, true_and] at h1 h2
    exact hne (Fin.ext (by omega))
  have u1 : (Finset.univ.biUnion fun t : Fin n => setE (rowAt uid base (u0 + t.val))) ∪ remE uid base u0 n = Finset.univ := by
    ext y
    simp only [Finset.mem_union, Finset.mem_biUnion, setE, remE, Finset.mem_filter, Finset.mem_univ, true_and, iff_true]
    by_cases h : ∃ t, t < n ∧ (y 0).val = rowAt uid base (u0 + t)
    · obtain ⟨t, ht, e⟩ := h; exact .inl ⟨⟨t, ht⟩, e⟩
    · exact .inr fun t ht e => h ⟨t, ht, e⟩
  have x1 : Disjoint (Finset.univ.biUnion fun t : Fin n => setE (rowAt uid base (u0 + t.val))) (remE uid base u0 n) := by
    rw [Finset.disjoint_left]
    intro y h1 h2
    simp only [Finset.mem_biUnion, setE, remE, Finset.mem_filter, Finset.mem_univ, true_and] at h1 h2
    obtain ⟨t, e⟩ := h1; exact h2 t.val t.isLt e
  have u2 : (Finset.univ.biUnion fun t : Fin n => setS (u0 + t.val)) ∪ remS u0 n = Finset.univ := by
    ext y
    simp only [Finset.mem_union, Finset.mem_biUnion, setS, remS, Finset.mem_filter, Finset.mem_univ, true_and, iff_true]
    by_cases h : u0 ≤ (y 0).val ∧ (y 0).val < u0 + n
    · exact .inl ⟨⟨(y 0).val - u0, by omega⟩, by simp only; omega⟩
    · exact .inr h
  have x2 : Disjoint (Finset.univ.biUnion fun t : Fin n => setS (u0 + t.val)) (remS u0 n) := by
    rw [Finset.disjoint_left]
    intro y h1 h2
    simp only [Finset.mem_biUnion, setS, remS, Finset.mem_filter, Finset.mem_univ, true_and] at h1 h2
    obtain ⟨t, e⟩ := h1; have := t.isLt; omega
  have b1 : bigSep Finset.univ (fun t : Fin n => eAt c (setE (rowAt uid base (u0 + t.val))) (embF uid base u0 n S))
      ⊢ (eAt c (Finset.univ.biUnion fun t : Fin n => setE (rowAt uid base (u0 + t.val))) (embF uid base u0 n S) : sProp 𝕄) :=
    Entails.of_eq (pointsTo_biUnion (ℓ := mE.view.loc (c : Thread nD τ)) Finset.univ
      (fun t : Fin n => setE (rowAt uid base (u0 + t.val))) d1).symm
  have b2 : bigSep Finset.univ (fun t : Fin n => sAt c (setS (u0 + t.val)) S)
      ⊢ (sAt c (Finset.univ.biUnion fun t : Fin n => setS (u0 + t.val)) S : sProp 𝕄) :=
    Entails.of_eq (pointsTo_biUnion (ℓ := mS.view.loc (c : Thread nD τ)) Finset.univ
      (fun t : Fin n => setS (u0 + t.val)) d2).symm
  rw [e1]
  iintro ⟨⟨HEs, HSs⟩, HE, HS⟩
  isplitl [HEs HE]
  · ihave HEs' := b1 $$ HEs
    ihave HE' := Entails.of_eq (pointsTo_congr hE) $$ HE
    rw [← u1]
    iapply (pointsTo_union x1).2
    isplitl [HEs'] <;> iassumption
  · ihave HSs' := b2 $$ HSs
    rw [← u2]
    iapply (pointsTo_union x2).2
    isplitl [HSs'] <;> iassumption

end Cert.KernelIdeal.Hand
-- ==== Proof.KIStrip.lean ====
/-
  THE KERNEL'S STRIPS. One grid step's 1280 rows are finished in five strips of 256 rows: a strip's gradient is the
  product of `hxt` with the strip's slab of the dequantized logits gradient, plus the embedding rows of the strip, in
  seven blocks of 512 columns; each block is quantized in groups of 64 columns. What a strip leaves in the codes, in
  the scales and in the embedding scratch, and so what the five leave.
-/
module

public import proofs.«01_k».proof.Proof.KICopies

@[expose] public section

set_option maxRecDepth 8192
set_option maxHeartbeats 400000

noncomputable section

namespace Cert.KernelIdeal.Hand

open Cert.KernelIdeal Cert.KernelIdeal.Gen Cert.Tables
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ### One block of 512 columns -/

/-- Rows `512 m …` of `hxt`. -/
def hBlk (x5 : FVec F S3584x2048 .bf16) (m : Fin 7) : FVec F S512x2048 .bf16 :=
  fun j => x5 (ix2 ⟨512 * m.val + (j 0).val, by have h0 : (j 0).val < 512 := (j 0).isLt; omega⟩ (j 1))

/-- Slab `k` of the dequantized gradient. -/
def gSlab (x9 : FVec F S5x2048x256 .bf16) (k : Fin 5) : FVec F S1x2048x256 .bf16 :=
  fun j => x9 (ix3 k (j 1) (j 2))

/-- The block of the embedding scratch at rows `256 k …`, columns `512 m …`. -/
def eBlk (e : FVec F S1280x3584 .f32) (k : Fin 5) (m : Fin 7) : FVec F S256x512 .f32 :=
  fun j => e (ix2 ⟨256 * k.val + (j 0).val, by have h0 : (j 0).val < 256 := (j 0).isLt; omega⟩
    ⟨512 * m.val + (j 1).val, by have h0 : (j 1).val < 512 := (j 1).isLt; omega⟩)

/-- The product of the two, as the kernel's accumulator holds it. -/
def accOf (x5 : FVec F S3584x2048 .bf16) (x9 : FVec F S5x2048x256 .bf16) (k : Fin 5) (m : Fin 7) : FVec F S1x512x256 .f32 :=
  k0_pay9 (hBlk x5 m) (gSlab x9 k)

/-- The codes of a block, and the scales of its eight groups. -/
def codesQ (acc : FVec F S1x512x256 .f32) (e : FVec F S256x512 .f32) : FVec F S256x512 .fp8e4m3 :=
  k0_pay15 (k0_pay12 acc e) (k0_pay13 acc e)
def scaleQ (acc : FVec F S1x512x256 .f32) (e : FVec F S256x512 .f32) : FVec F S8x256 .f32 :=
  k0_pay17 (k0_pay16 (k0_pay13 acc e))

/-- The 56 scales of a strip's columns, before they are transposed. -/
def sctOf (x5 : FVec F S3584x2048 .bf16) (x9 : FVec F S5x2048x256 .bf16) (e : FVec F S1280x3584 .f32) (k : Fin 5) : FVec F S56x256 .f32 :=
  fun y => scaleQ (accOf x5 x9 k ⟨(y 0).val / 8, by have h0 : (y 0).val < 56 := (y 0).isLt; omega⟩)
    (eBlk e k ⟨(y 0).val / 8, by have h0 : (y 0).val < 56 := (y 0).isLt; omega⟩) (ix2 ⟨(y 0).val % 8, Nat.mod_lt _ (by omega)⟩ (y 1))

/-- THE CODES AND THE SCALES of a whole step. -/
def codesOf (x5 : FVec F S3584x2048 .bf16) (x9 : FVec F S5x2048x256 .bf16) (e : FVec F S1280x3584 .f32) : FVec F S1280x3584 .fp8e4m3 :=
  fun y => codesQ (accOf x5 x9 ⟨(y 0).val / 256, by have h0 : (y 0).val < 1280 := (y 0).isLt; omega⟩ ⟨(y 1).val / 512, by have h0 : (y 1).val < 3584 := (y 1).isLt; omega⟩)
    (eBlk e ⟨(y 0).val / 256, by have h0 : (y 0).val < 1280 := (y 0).isLt; omega⟩ ⟨(y 1).val / 512, by have h0 : (y 1).val < 3584 := (y 1).isLt; omega⟩)
    (ix2 ⟨(y 0).val % 256, Nat.mod_lt _ (by omega)⟩ ⟨(y 1).val % 512, Nat.mod_lt _ (by omega)⟩)
def scaleOf (x5 : FVec F S3584x2048 .bf16) (x9 : FVec F S5x2048x256 .bf16) (e : FVec F S1280x3584 .f32) : FVec F S1280x56 .f32 :=
  fun y => k0_pay8 (sctOf x5 x9 e ⟨(y 0).val / 256, by have h0 : (y 0).val < 1280 := (y 0).isLt; omega⟩)
    (ix2 ⟨(y 0).val % 256, Nat.mod_lt _ (by omega)⟩ (y 1))

/-! ### Where the strip's rectangles lie -/

theorem t5_trips : k0_t5_loop.trips = 5 := by decide +kernel

theorem off15_eq : ∀ k : Fin k0_t5_loop.trips, k0_off15 k = ![k.val, 0, 0] := by decide +kernel
theorem off16_eq : ∀ k : Fin k0_t5_loop.trips, k0_off16 k = ![256 * k.val, 0] := by decide +kernel
theorem off17_eq : ∀ k : Fin k0_t5_loop.trips, k0_off17 k = ![256 * k.val, 512] := by decide +kernel
theorem off18_eq : ∀ k : Fin k0_t5_loop.trips, k0_off18 k = ![256 * k.val, 1024] := by decide +kernel
theorem off19_eq : ∀ k : Fin k0_t5_loop.trips, k0_off19 k = ![256 * k.val, 1536] := by decide +kernel
theorem off20_eq : ∀ k : Fin k0_t5_loop.trips, k0_off20 k = ![256 * k.val, 2048] := by decide +kernel
theorem off21_eq : ∀ k : Fin k0_t5_loop.trips, k0_off21 k = ![256 * k.val, 2560] := by decide +kernel
theorem off22_eq : ∀ k : Fin k0_t5_loop.trips, k0_off22 k = ![256 * k.val, 3072] := by decide +kernel
theorem off23_eq : ∀ k : Fin k0_t5_loop.trips, k0_off23 k = ![256 * k.val, 0] := by decide +kernel

/-! ### What the strip's loads read -/

variable {κ : Kind} {sp : Space}

theorem load_h (v : View sig κ sp S3584x2048 .bf16) (X : v.ty.Contents (Elt F)) (m : Fin 7) (off : Fin 2 → ℕ) (ho : off = ![512 * m.val, 0])
    (h : ∀ a, off a + S512x2048.size a ≤ S3584x2048.size a) :
    v.readAt (Elt F) (Rect.unit (s := S3584x2048) off S512x2048.size h).toLoadRect X = hBlk (v.read (Elt F) X) m := by
  subst ho
  funext j
  rw [View.readAt_apply]
  unfold hBlk
  refine congrArg _ (funext fun a => ?_)
  match a with
  | ⟨0, _⟩ => exact Fin.ext (by show 512 * m.val + 1 * (j 0).val = 512 * m.val + (j 0).val; omega)
  | ⟨1, _⟩ => exact Fin.ext (by show 0 + 1 * (j 1).val = (j 1).val; omega)

theorem load_g (v : View sig κ sp S5x2048x256 .bf16) (X : v.ty.Contents (Elt F)) (k : Fin 5) (off : Fin 3 → ℕ) (ho : off = ![k.val, 0, 0])
    (h : ∀ a, off a + S1x2048x256.size a ≤ S5x2048x256.size a) :
    v.readAt (Elt F) (Rect.unit (s := S5x2048x256) off S1x2048x256.size h).toLoadRect X = gSlab (v.read (Elt F) X) k := by
  subst ho
  funext j
  rw [View.readAt_apply]
  unfold gSlab
  refine congrArg _ (funext fun a => ?_)
  match a with
  | ⟨0, _⟩ => exact Fin.ext (by
      have h0 : (j 0).val < 1 := (j 0).isLt
      show k.val + 1 * (j 0).val = k.val; omega)
  | ⟨1, _⟩ => exact Fin.ext (by show 0 + 1 * (j 1).val = (j 1).val; omega)
  | ⟨2, _⟩ => exact Fin.ext (by show 0 + 1 * (j 2).val = (j 2).val; omega)

theorem load_e (v : View sig κ sp S1280x3584 .f32) (X : v.ty.Contents (Elt F)) (k : Fin 5) (m : Fin 7) (off : Fin 2 → ℕ)
    (ho : off = ![256 * k.val, 512 * m.val])
    (h : ∀ a, off a + S256x512.size a ≤ S1280x3584.size a) :
    v.readAt (Elt F) (Rect.unit (s := S1280x3584) off S256x512.size h).toLoadRect X = eBlk (v.read (Elt F) X) k m := by
  subst ho
  funext j
  rw [View.readAt_apply]
  unfold eBlk
  refine congrArg _ (funext fun a => ?_)
  match a with
  | ⟨0, _⟩ => exact Fin.ext (by show 256 * k.val + 1 * (j 0).val = 256 * k.val + (j 0).val; omega)
  | ⟨1, _⟩ => exact Fin.ext (by show 512 * m.val + 1 * (j 1).val = 512 * m.val + (j 1).val; omega)

/-- A load of the rectangle the newest write went to reads its payload. -/
theorem cov_head {s : Shape} {e : EltTy} (v : View sig κ sp s e) (off sz : Fin s.rank → ℕ) (h h' : ∀ a, off a + sz a ≤ s.size a)
    (w : (Rect.unit (s := s) off sz h).shape.Idx → Elt F e) (L : List (View.Piece (Elt F) s e)) :
    v.readCov (⟨Rect.unit (s := s) off sz h, w⟩ :: L) (Rect.unit (s := s) off sz h').toLoadRect = w := by
  funext y
  unfold View.readCov
  rw [View.readAt_apply]
  exact View.read_writes_cons_emb v _ (Rect.unit (s := s) off sz h) w L y

/-- A load of one of the accumulator's two slots passes over a write to the other. -/
theorem cov_skip (v : View sig κ sp S2x512x256 .f32) (a b : ℕ) (hab : a ≠ b) (h : ∀ i, (![a, 0, 0] : Fin 3 → ℕ) i + S1x512x256.size i ≤ S2x512x256.size i)
    (h' : ∀ i, (![b, 0, 0] : Fin 3 → ℕ) i + S1x512x256.size i ≤ S2x512x256.size i)
    (w : (Rect.unit (s := S2x512x256) ![a, 0, 0] S1x512x256.size h).shape.Idx → Elt F .f32) (L : List (View.Piece (Elt F) S2x512x256 .f32)) :
    v.readCov (⟨Rect.unit (s := S2x512x256) ![a, 0, 0] S1x512x256.size h, w⟩ :: L) (Rect.unit (s := S2x512x256) ![b, 0, 0] S1x512x256.size h').toLoadRect
      = v.readCov L (Rect.unit (s := S2x512x256) ![b, 0, 0] S1x512x256.size h').toLoadRect := by
  funext y
  unfold View.readCov
  rw [View.readAt_apply, View.readAt_apply]
  refine View.read_writes_cons_miss v _ _ L _ (Rect.not_mem_set_of_axis _ _ (0 : Fin 3) a 1 rfl rfl rfl ?_)
  have h0 : (y 0).val < 1 := (y 0).isLt
  have h1 : ((Rect.unit (s := S2x512x256) ![b, 0, 0] S1x512x256.size h').toLoadRect.idx y 0).val = b + 1 * (y 0).val := rfl
  omega

/-- Where element `x` of the block at strip `k`, column block `m` lies. -/
def stripIx (k : Fin 5) (m : ℕ) (hm : m < 7) (x : S256x512.Idx) : S1280x3584.Idx :=
  ix2 ⟨256 * k.val + (x 0).val, by have h0 : (x 0).val < 256 := (x 0).isLt; omega⟩
    ⟨512 * m + (x 1).val, by have h0 : (x 1).val < 512 := (x 1).isLt; omega⟩

theorem stripIx_emb (k : Fin 5) (m : ℕ) (hm : m < 7) (h : ∀ a, (![256 * k.val, 512 * m] : Fin 2 → ℕ) a + S256x512.size a ≤ S1280x3584.size a)
    (x : S256x512.Idx) : (Rect.unit (s := S1280x3584) ![256 * k.val, 512 * m] S256x512.size h).emb x = stripIx k m hm x := by
  unfold stripIx
  funext a
  match a with
  | ⟨0, _⟩ => exact Fin.ext (by show 256 * k.val + 1 * (x 0).val = 256 * k.val + (x 0).val; omega)
  | ⟨1, _⟩ => exact Fin.ext (by show 512 * m + 1 * (x 1).val = 512 * m + (x 1).val; omega)

/-- Seven blocks written side by side are the strip written: it reads what they hold, and the other rows what they did. -/
theorem strip_read {e : EltTy} (v : View sig κ sp S1280x3584 e) (f : v.ty.Contents (Elt F)) (k : Fin 5) (G : S1280x3584.Idx → Elt F e)
    (o0 o1 o2 o3 o4 o5 o6 : Fin 2 → ℕ)
    (e0 : o0 = ![256 * k.val, 512 * 0]) (e1 : o1 = ![256 * k.val, 512 * 1]) (e2 : o2 = ![256 * k.val, 512 * 2]) (e3 : o3 = ![256 * k.val, 512 * 3])
    (e4 : o4 = ![256 * k.val, 512 * 4]) (e5 : o5 = ![256 * k.val, 512 * 5]) (e6 : o6 = ![256 * k.val, 512 * 6])
    (h0 : ∀ a, o0 a + S256x512.size a ≤ S1280x3584.size a) (h1 : ∀ a, o1 a + S256x512.size a ≤ S1280x3584.size a)
    (h2 : ∀ a, o2 a + S256x512.size a ≤ S1280x3584.size a) (h3 : ∀ a, o3 a + S256x512.size a ≤ S1280x3584.size a)
    (h4 : ∀ a, o4 a + S256x512.size a ≤ S1280x3584.size a) (h5 : ∀ a, o5 a + S256x512.size a ≤ S1280x3584.size a)
    (h6 : ∀ a, o6 a + S256x512.size a ≤ S1280x3584.size a)
    (w0 w1 w2 w3 w4 w5 w6 : S256x512.Idx → Elt F e)
    (g0 : ∀ x, w0 x = G (stripIx k 0 (by omega) x)) (g1 : ∀ x, w1 x = G (stripIx k 1 (by omega) x)) (g2 : ∀ x, w2 x = G (stripIx k 2 (by omega) x))
    (g3 : ∀ x, w3 x = G (stripIx k 3 (by omega) x)) (g4 : ∀ x, w4 x = G (stripIx k 4 (by omega) x)) (g5 : ∀ x, w5 x = G (stripIx k 5 (by omega) x))
    (g6 : ∀ x, w6 x = G (stripIx k 6 (by omega) x)) (y : S1280x3584.Idx) :
    v.read (Elt F) (v.writes (Elt F) f [⟨Rect.unit (s := S1280x3584) o6 S256x512.size h6, w6⟩, ⟨Rect.unit (s := S1280x3584) o5 S256x512.size h5, w5⟩,
      ⟨Rect.unit (s := S1280x3584) o4 S256x512.size h4, w4⟩, ⟨Rect.unit (s := S1280x3584) o3 S256x512.size h3, w3⟩, ⟨Rect.unit (s := S1280x3584) o2 S256x512.size h2, w2⟩,
      ⟨Rect.unit (s := S1280x3584) o1 S256x512.size h1, w1⟩, ⟨Rect.unit (s := S1280x3584) o0 S256x512.size h0, w0⟩]) y
      = if 256 * k.val ≤ (y 0).val ∧ (y 0).val < 256 * k.val + 256 then G y else v.read (Elt F) f y := by
  subst e0 e1 e2 e3 e4 e5 e6
  have hy1 : (y 1).val < 3584 := (y 1).isLt
  split
  · next hy =>
    have mem (m : ℕ) (h : ∀ a, (![256 * k.val, 512 * m] : Fin 2 → ℕ) a + S256x512.size a ≤ S1280x3584.size a)
        (hm : 512 * m ≤ (y 1).val ∧ (y 1).val < 512 * m + 512) : y ∈ (Rect.unit (s := S1280x3584) ![256 * k.val, 512 * m] S256x512.size h).set :=
      Rect.mem_set_unit.2 fun a => match a with
        | ⟨0, _⟩ => hy
        | ⟨1, _⟩ => hm
    refine View.read_writes_apply_of_pieces v f G _ ?_ y ?_
    · intro p hp
      simp only [List.mem_cons, List.not_mem_nil, _root_.or_false] at hp
      rcases hp with rfl | rfl | rfl | rfl | rfl | rfl | rfl <;> intro x
      · exact (g6 x).trans (congrArg G (stripIx_emb k 6 (by omega) h6 x).symm)
      · exact (g5 x).trans (congrArg G (stripIx_emb k 5 (by omega) h5 x).symm)
      · exact (g4 x).trans (congrArg G (stripIx_emb k 4 (by omega) h4 x).symm)
      · exact (g3 x).trans (congrArg G (stripIx_emb k 3 (by omega) h3 x).symm)
      · exact (g2 x).trans (congrArg G (stripIx_emb k 2 (by omega) h2 x).symm)
      · exact (g1 x).trans (congrArg G (stripIx_emb k 1 (by omega) h1 x).symm)
      · exact (g0 x).trans (congrArg G (stripIx_emb k 0 (by omega) h0 x).symm)
    · have hc : (y 1).val / 512 = 0 ∨ (y 1).val / 512 = 1 ∨ (y 1).val / 512 = 2 ∨ (y 1).val / 512 = 3 ∨ (y 1).val / 512 = 4 ∨ (y 1).val / 512 = 5
          ∨ (y 1).val / 512 = 6 := by omega
      rcases hc with hc | hc | hc | hc | hc | hc | hc
      · exact ⟨⟨Rect.unit (s := S1280x3584) ![256 * k.val, 512 * 0] S256x512.size h0, w0⟩, by simp only [List.mem_cons, _root_.true_or, _root_.or_true], mem 0 h0 (by omega)⟩
      · exact ⟨⟨Rect.unit (s := S1280x3584) ![256 * k.val, 512 * 1] S256x512.size h1, w1⟩, by simp only [List.mem_cons, _root_.true_or, _root_.or_true], mem 1 h1 (by omega)⟩
      · exact ⟨⟨Rect.unit (s := S1280x3584) ![256 * k.val, 512 * 2] S256x512.size h2, w2⟩, by simp only [List.mem_cons, _root_.true_or, _root_.or_true], mem 2 h2 (by omega)⟩
      · exact ⟨⟨Rect.unit (s := S1280x3584) ![256 * k.val, 512 * 3] S256x512.size h3, w3⟩, by simp only [List.mem_cons, _root_.true_or, _root_.or_true], mem 3 h3 (by omega)⟩
      · exact ⟨⟨Rect.unit (s := S1280x3584) ![256 * k.val, 512 * 4] S256x512.size h4, w4⟩, by simp only [List.mem_cons, _root_.true_or, _root_.or_true], mem 4 h4 (by omega)⟩
      · exact ⟨⟨Rect.unit (s := S1280x3584) ![256 * k.val, 512 * 5] S256x512.size h5, w5⟩, by simp only [List.mem_cons, _root_.true_or, _root_.or_true], mem 5 h5 (by omega)⟩
      · exact ⟨⟨Rect.unit (s := S1280x3584) ![256 * k.val, 512 * 6] S256x512.size h6, w6⟩, by simp only [List.mem_cons, _root_.true_or, _root_.or_true], mem 6 h6 (by omega)⟩
  · next hy =>
    have miss (o : Fin 2 → ℕ) (ho : o 0 = 256 * k.val) (h : ∀ a, o a + S256x512.size a ≤ S1280x3584.size a) : y ∉ (Rect.unit (s := S1280x3584) o S256x512.size h).set :=
      Rect.not_mem_set_of_axis _ y (0 : Fin 2) (256 * k.val) 256 ho rfl rfl (by omega)
    refine View.read_writes_apply_of_forall_not_mem v f y _ ?_
    intro p hp
    simp only [List.mem_cons, List.not_mem_nil, _root_.or_false] at hp
    rcases hp with rfl | rfl | rfl | rfl | rfl | rfl | rfl
    · exact miss ![256 * k.val, 512 * 6] rfl h6
    · exact miss ![256 * k.val, 512 * 5] rfl h5
    · exact miss ![256 * k.val, 512 * 4] rfl h4
    · exact miss ![256 * k.val, 512 * 3] rfl h3
    · exact miss ![256 * k.val, 512 * 2] rfl h2
    · exact miss ![256 * k.val, 512 * 1] rfl h1
    · exact miss ![256 * k.val, 512 * 0] rfl h0

/-- The strip's transposed scales: seven writes of eight rows each. -/
theorem rows_read (v : View sig κ sp S56x256 .f32) (G : S56x256.Idx → Elt F .f32)
    (h0 : ∀ a, (![0, 0] : Fin 2 → ℕ) a + S8x256.size a ≤ S56x256.size a) (h1 : ∀ a, (![8, 0] : Fin 2 → ℕ) a + S8x256.size a ≤ S56x256.size a)
    (h2 : ∀ a, (![16, 0] : Fin 2 → ℕ) a + S8x256.size a ≤ S56x256.size a) (h3 : ∀ a, (![24, 0] : Fin 2 → ℕ) a + S8x256.size a ≤ S56x256.size a)
    (h4 : ∀ a, (![32, 0] : Fin 2 → ℕ) a + S8x256.size a ≤ S56x256.size a) (h5 : ∀ a, (![40, 0] : Fin 2 → ℕ) a + S8x256.size a ≤ S56x256.size a)
    (h6 : ∀ a, (![48, 0] : Fin 2 → ℕ) a + S8x256.size a ≤ S56x256.size a) (h : ∀ a, (![0, 0] : Fin 2 → ℕ) a + S56x256.size a ≤ S56x256.size a)
    (w0 w1 w2 w3 w4 w5 w6 : S8x256.Idx → Elt F .f32)
    (g : ∀ (m : ℕ) (hm : m < 7) (x : S8x256.Idx), (![w0, w1, w2, w3, w4, w5, w6] : Fin 7 → S8x256.Idx → Elt F .f32) ⟨m, hm⟩ x
      = G (ix2 ⟨8 * m + (x 0).val, by have h0 : (x 0).val < 8 := (x 0).isLt; omega⟩ (x 1))) :
    v.readCov [⟨Rect.unit (s := S56x256) ![48, 0] S8x256.size h6, w6⟩, ⟨Rect.unit (s := S56x256) ![40, 0] S8x256.size h5, w5⟩,
      ⟨Rect.unit (s := S56x256) ![32, 0] S8x256.size h4, w4⟩, ⟨Rect.unit (s := S56x256) ![24, 0] S8x256.size h3, w3⟩, ⟨Rect.unit (s := S56x256) ![16, 0] S8x256.size h2, w2⟩,
      ⟨Rect.unit (s := S56x256) ![8, 0] S8x256.size h1, w1⟩, ⟨Rect.unit (s := S56x256) ![0, 0] S8x256.size h0, w0⟩]
      (Rect.unit (s := S56x256) ![0, 0] S56x256.size h).toLoadRect = G := by
  funext y
  have hy0 : (y 0).val < 56 := (y 0).isLt
  have hyy : (Rect.unit (s := S56x256) ![0, 0] S56x256.size h).toLoadRect.idx y = y := funext fun a => match a with
    | ⟨0, _⟩ => Fin.ext (by show 0 + 1 * (y 0).val = (y 0).val; omega)
    | ⟨1, _⟩ => Fin.ext (by show 0 + 1 * (y 1).val = (y 1).val; omega)
  unfold View.readCov
  rw [View.readAt_apply, hyy]
  have mem (m : ℕ) (h : ∀ a, (![m, 0] : Fin 2 → ℕ) a + S8x256.size a ≤ S56x256.size a)
      (hm : m ≤ (y 0).val ∧ (y 0).val < m + 8) : y ∈ (Rect.unit (s := S56x256) ![m, 0] S8x256.size h).set :=
    Rect.mem_set_unit.2 fun a => match a with
      | ⟨0, _⟩ => hm
      | ⟨1, _⟩ => ⟨Nat.zero_le _, by have h1 : (y 1).val < 256 := (y 1).isLt; show (y 1).val < 0 + 256; omega⟩
  have emb (m m' : ℕ) (hm : m < 7) (hmm : 8 * m = m') (h : ∀ a, (![m', 0] : Fin 2 → ℕ) a + S8x256.size a ≤ S56x256.size a) (x : S8x256.Idx) :
      (ix2 ⟨8 * m + (x 0).val, by have h0 : (x 0).val < 8 := (x 0).isLt; omega⟩ (x 1) : S56x256.Idx)
        = (Rect.unit (s := S56x256) ![m', 0] S8x256.size h).emb x := by
    subst hmm
    funext a
    match a with
    | ⟨0, _⟩ => exact Fin.ext (by show 8 * m + (x 0).val = 8 * m + 1 * (x 0).val; omega)
    | ⟨1, _⟩ => exact Fin.ext (by show (x 1).val = 0 + 1 * (x 1).val; omega)
  refine View.read_writes_apply_of_pieces v _ G _ ?_ y ?_
  · intro p hp
    simp only [List.mem_cons, List.not_mem_nil, _root_.or_false] at hp
    rcases hp with rfl | rfl | rfl | rfl | rfl | rfl | rfl <;> intro x
    · exact (g 6 (by omega) x).trans (congrArg G (emb 6 48 (by omega) rfl h6 x))
    · exact (g 5 (by omega) x).trans (congrArg G (emb 5 40 (by omega) rfl h5 x))
    · exact (g 4 (by omega) x).trans (congrArg G (emb 4 32 (by omega) rfl h4 x))
    · exact (g 3 (by omega) x).trans (congrArg G (emb 3 24 (by omega) rfl h3 x))
    · exact (g 2 (by omega) x).trans (congrArg G (emb 2 16 (by omega) rfl h2 x))
    · exact (g 1 (by omega) x).trans (congrArg G (emb 1 8 (by omega) rfl h1 x))
    · exact (g 0 (by omega) x).trans (congrArg G (emb 0 0 (by omega) rfl h0 x))
  · have hc : (y 0).val / 8 = 0 ∨ (y 0).val / 8 = 1 ∨ (y 0).val / 8 = 2 ∨ (y 0).val / 8 = 3 ∨ (y 0).val / 8 = 4 ∨ (y 0).val / 8 = 5
        ∨ (y 0).val / 8 = 6 := by omega
    rcases hc with hc | hc | hc | hc | hc | hc | hc
    · exact ⟨⟨Rect.unit (s := S56x256) ![0, 0] S8x256.size h0, w0⟩, by simp only [List.mem_cons, _root_.true_or, _root_.or_true], mem 0 h0 (by omega)⟩
    · exact ⟨⟨Rect.unit (s := S56x256) ![8, 0] S8x256.size h1, w1⟩, by simp only [List.mem_cons, _root_.true_or, _root_.or_true], mem 8 h1 (by omega)⟩
    · exact ⟨⟨Rect.unit (s := S56x256) ![16, 0] S8x256.size h2, w2⟩, by simp only [List.mem_cons, _root_.true_or, _root_.or_true], mem 16 h2 (by omega)⟩
    · exact ⟨⟨Rect.unit (s := S56x256) ![24, 0] S8x256.size h3, w3⟩, by simp only [List.mem_cons, _root_.true_or, _root_.or_true], mem 24 h3 (by omega)⟩
    · exact ⟨⟨Rect.unit (s := S56x256) ![32, 0] S8x256.size h4, w4⟩, by simp only [List.mem_cons, _root_.true_or, _root_.or_true], mem 32 h4 (by omega)⟩
    · exact ⟨⟨Rect.unit (s := S56x256) ![40, 0] S8x256.size h5, w5⟩, by simp only [List.mem_cons, _root_.true_or, _root_.or_true], mem 40 h5 (by omega)⟩
    · exact ⟨⟨Rect.unit (s := S56x256) ![48, 0] S8x256.size h6, w6⟩, by simp only [List.mem_cons, _root_.true_or, _root_.or_true], mem 48 h6 (by omega)⟩

theorem codesOf_strip (x5 : FVec F S3584x2048 .bf16) (x9 : FVec F S5x2048x256 .bf16) (e : FVec F S1280x3584 .f32) (k : Fin 5) (m : ℕ) (hm : m < 7)
    (x : S256x512.Idx) : codesQ (accOf x5 x9 k ⟨m, hm⟩) (eBlk e k ⟨m, hm⟩) x = codesOf x5 x9 e (stripIx k m hm x) := by
  have h0 : (x 0).val < 256 := (x 0).isLt
  have h1 : (x 1).val < 512 := (x 1).isLt
  have a0 : (256 * k.val + (x 0).val) / 256 = k.val := by omega
  have a1 : (512 * m + (x 1).val) / 512 = m := by omega
  have b0 : (256 * k.val + (x 0).val) % 256 = (x 0).val := by omega
  have b1 : (512 * m + (x 1).val) % 512 = (x 1).val := by omega
  have c0 : (⟨(256 * k.val + (x 0).val) / 256, by omega⟩ : Fin 5) = k := Fin.ext a0
  have c1 : (⟨(512 * m + (x 1).val) / 512, by omega⟩ : Fin 7) = ⟨m, hm⟩ := Fin.ext a1
  have c2 : (ix2 ⟨(256 * k.val + (x 0).val) % 256, by omega⟩ ⟨(512 * m + (x 1).val) % 512, by omega⟩ : S256x512.Idx) = x := funext fun a => match a with
    | ⟨0, _⟩ => Fin.ext b0
    | ⟨1, _⟩ => Fin.ext b1
  show _ = codesQ (accOf x5 x9 ⟨(256 * k.val + (x 0).val) / 256, _⟩ ⟨(512 * m + (x 1).val) / 512, _⟩)
    (eBlk e ⟨(256 * k.val + (x 0).val) / 256, _⟩ ⟨(512 * m + (x 1).val) / 512, _⟩) (ix2 ⟨(256 * k.val + (x 0).val) % 256, _⟩ ⟨(512 * m + (x 1).val) % 512, _⟩)
  rw [c0, c1, c2]

theorem sctOf_rows (x5 : FVec F S3584x2048 .bf16) (x9 : FVec F S5x2048x256 .bf16) (e : FVec F S1280x3584 .f32) (k : Fin 5) (m : ℕ) (hm : m < 7)
    (x : S8x256.Idx) : scaleQ (accOf x5 x9 k ⟨m, hm⟩) (eBlk e k ⟨m, hm⟩) x
      = sctOf x5 x9 e k (ix2 ⟨8 * m + (x 0).val, by have h0 : (x 0).val < 8 := (x 0).isLt; omega⟩ (x 1)) := by
  have h0 : (x 0).val < 8 := (x 0).isLt
  have c1 : (⟨(8 * m + (x 0).val) / 8, by omega⟩ : Fin 7) = ⟨m, hm⟩ := Fin.ext (by show (8 * m + (x 0).val) / 8 = m; omega)
  have c2 : (ix2 ⟨(8 * m + (x 0).val) % 8, by omega⟩ (x 1) : S8x256.Idx) = x := funext fun a => match a with
    | ⟨0, _⟩ => Fin.ext (by show (8 * m + (x 0).val) % 8 = (x 0).val; omega)
    | ⟨1, _⟩ => rfl
  show _ = scaleQ (accOf x5 x9 k ⟨(8 * m + (x 0).val) / 8, _⟩) (eBlk e k ⟨(8 * m + (x 0).val) / 8, _⟩) (ix2 ⟨(8 * m + (x 0).val) % 8, _⟩ (x 1))
  rw [c1, c2]

/-- One write of the strip's scales. -/
theorem scale_read (v : View sig κ sp S1280x56 .f32) (f : v.ty.Contents (Elt F)) (k : Fin 5) (G : S1280x56.Idx → Elt F .f32)
    (o : Fin 2 → ℕ) (eo : o = ![256 * k.val, 0]) (h : ∀ a, o a + S256x56.size a ≤ S1280x56.size a) (w : S256x56.Idx → Elt F .f32)
    (g : ∀ x : S256x56.Idx, w x = G (ix2 ⟨256 * k.val + (x 0).val, by have h0 : (x 0).val < 256 := (x 0).isLt; omega⟩ (x 1))) (y : S1280x56.Idx) :
    v.read (Elt F) (v.writes (Elt F) f [⟨Rect.unit (s := S1280x56) o S256x56.size h, w⟩]) y
      = if 256 * k.val ≤ (y 0).val ∧ (y 0).val < 256 * k.val + 256 then G y else v.read (Elt F) f y := by
  subst eo
  split
  · next hy =>
    have e := View.read_writes_cons_hit_of_coords v f (Rect.unit (s := S1280x56) ![256 * k.val, 0] S256x56.size h) w []
      (ix2 ⟨(y 0).val - 256 * k.val, by omega⟩ (y 1)) y (fun a => match a with
        | ⟨0, _⟩ => by show (y 0).val = 256 * k.val + 1 * ((y 0).val - 256 * k.val); omega
        | ⟨1, _⟩ => by show (y 1).val = 0 + 1 * (y 1).val; omega)
    refine (e.trans (g _)).trans (congrArg G (funext fun a => match a with
        | ⟨0, _⟩ => Fin.ext (by show 256 * k.val + ((y 0).val - 256 * k.val) = (y 0).val; omega)
        | ⟨1, _⟩ => rfl))
  · next hy =>
    exact View.read_writes_cons_miss v f _ [] y
      (Rect.not_mem_set_of_axis _ y (0 : Fin 2) (256 * k.val) 256 rfl rfl rfl (by omega))

theorem scaleOf_strip (x5 : FVec F S3584x2048 .bf16) (x9 : FVec F S5x2048x256 .bf16) (e : FVec F S1280x3584 .f32) (k : Fin 5) (x : S256x56.Idx) :
    k0_pay8 (sctOf x5 x9 e k) x = scaleOf x5 x9 e (ix2 ⟨256 * k.val + (x 0).val, by have h0 : (x 0).val < 256 := (x 0).isLt; omega⟩ (x 1)) := by
  have h0 : (x 0).val < 256 := (x 0).isLt
  have c0 : (⟨(256 * k.val + (x 0).val) / 256, by omega⟩ : Fin 5) = k := Fin.ext (by show (256 * k.val + (x 0).val) / 256 = k.val; omega)
  have c2 : (ix2 ⟨(256 * k.val + (x 0).val) % 256, by omega⟩ (x 1) : S256x56.Idx) = x := funext fun a => match a with
    | ⟨0, _⟩ => Fin.ext (by show (256 * k.val + (x 0).val) % 256 = (x 0).val; omega)
    | ⟨1, _⟩ => rfl
  show _ = k0_pay8 (sctOf x5 x9 e ⟨(256 * k.val + (x 0).val) / 256, _⟩) (ix2 ⟨(256 * k.val + (x 0).val) % 256, _⟩ (x 1))
  rw [c0, c2]

/-- ONE STRIP: the codes and the scales of its rows are `codesOf`, `scaleOf` of what the embedding scratch held, which is cleared there; the
    other rows are as they were. -/
theorem strip_trip (𝒱 : Variants) (c : Dev nD) (i : grid0.Coords) (arg1 : Memref sig .tc .smem S26 .i32) (harg1 : arg1.IsWhole) (arg2 : Memref sig .tc .smem S17x128 .i32) (harg2 : arg2.IsWhole) (arg3 : Memref sig .tc .vmem S2048x1280 .fp8e5m2) (harg3 : arg3.IsWhole) (arg4 : Memref sig .tc .vmem S2048x25 .f32) (harg4 : arg4.IsWhole) (arg5 : Memref sig .tc .vmem S3584x2048 .bf16) (harg5 : arg5.IsWhole) (arg6 : Memref sig .tc .hbm S2240x3584 .f32) (harg6 : arg6.IsWhole) (arg7 : Memref sig .tc .vmem S1280x3584 .fp8e4m3) (harg7 : arg7.IsWhole) (arg8 : Memref sig .tc .vmem S1280x56 .f32) (harg8 : arg8.IsWhole) (arg9 : Memref sig .tc .vmem S5x2048x256 .bf16) (harg9 : arg9.IsWhole) (arg10 : Memref sig .tc .vmem S1280x3584 .f32) (harg10 : arg10.IsWhole) (arg11 : Memref sig .tc .vmem S2x512x256 .f32) (harg11 : arg11.IsWhole) (arg12 : Memref sig .tc .vmem S56x256 .f32) (harg12 : arg12.IsWhole) (arg13 : DmaSems sig S_) (X5 : BufTy.Contents (Elt F) arg5.view.ty) (X9 : BufTy.Contents (Elt F) arg9.view.ty) (k : Fin k0_t5_loop.trips)
   (f7 : BufTy.Contents (Elt F) arg7.view.ty) (f8 : BufTy.Contents (Elt F) arg8.view.ty) (f10 : BufTy.Contents (Elt F) arg10.view.ty) (f11 : BufTy.Contents (Elt F) arg11.view.ty) (f12 : BufTy.Contents (Elt F) arg12.view.ty) :
      (Trip_k0_t5 (F := F) c arg5 arg9 arg7 arg8 arg10 arg11 arg12 X5 X9 f7 f8 f10 f11 f12 : sProp 𝕄)
      ⊢ wp frame (wpE (defs₀ (F := F)) 𝒱 (c : Thread nD τ) none) Set.univ (k0_t5_body (F := F) i arg1 harg1 arg2 harg2 arg3 harg3 arg4 harg4 arg5 harg5 arg6 harg6 arg7 harg7 arg8 harg8 arg9 harg9 arg10 harg10 arg11 harg11 arg12 harg12 arg13 k PUnit.unit)
          (fun _ => iprop(∃ (g7 : BufTy.Contents (Elt F) arg7.view.ty) (g8 : BufTy.Contents (Elt F) arg8.view.ty) (g10 : BufTy.Contents (Elt F) arg10.view.ty) (g11 : BufTy.Contents (Elt F) arg11.view.ty) (g12 : BufTy.Contents (Elt F) arg12.view.ty), Trip_k0_t5 (F := F) c arg5 arg9 arg7 arg8 arg10 arg11 arg12 X5 X9 g7 g8 g10 g11 g12 ∗ ⌜(∀ y, arg7.view.read (Elt F) g7 y = if 256 * k.val ≤ (y 0).val ∧ (y 0).val < 256 * k.val + 256 then codesOf (arg5.view.read (Elt F) X5) (arg9.view.read (Elt F) X9) (arg10.view.read (Elt F) f10) y else arg7.view.read (Elt F) f7 y) ∧ (∀ y, arg8.view.read (Elt F) g8 y = if 256 * k.val ≤ (y 0).val ∧ (y 0).val < 256 * k.val + 256 then scaleOf (arg5.view.read (Elt F) X5) (arg9.view.read (Elt F) X9) (arg10.view.read (Elt F) f10) y else arg8.view.read (Elt F) f8 y)
        ∧ ∀ y, arg10.view.read (Elt F) g10 y = if 256 * k.val ≤ (y 0).val ∧ (y 0).val < 256 * k.val + 256 then zE else arg10.view.read (Elt F) f10 y⌝)) := by
  have hk : k.val < 5 := Nat.lt_of_lt_of_le k.isLt k0_t5_abs.2.1
  unfold k0_t5_body
  iintro ⟨HR_arg5, HR_arg9, HW_arg7, HW_arg8, HW_arg10, HW_arg11, HW_arg12⟩
  sl_exec
  sl_step
  iexists _, _, _, _, _
  isplitl
  · isplitl [HR_arg5]; · iexact HR_arg5
    isplitl [HR_arg9]; · iexact HR_arg9
    isplitl [HW_arg7]; · iexact HW_arg7
    isplitl [HW_arg8]; · iexact HW_arg8
    isplitl [HW_arg10]; · iexact HW_arg10
    isplitl [HW_arg11]; · iexact HW_arg11
    iexact HW_arg12
  ipureintro
  obtain ⟨K, hK⟩ : ∃ K : Fin 5, K.val = k.val := ⟨⟨k.val, hk⟩, rfl⟩
  rw [← hK]
  have ho (n : ℕ) : (![256 * k.val, n] : Fin 2 → ℕ) = ![256 * K.val, n] := by rw [hK]
  have hg : k0_off15 k = ![K.val, 0, 0] := by rw [off15_eq, hK]
  have a0 : strip_trip.sl.v108 arg5 arg9 arg11 X5 X9 k = accOf (arg5.view.read (Elt F) X5) (arg9.view.read (Elt F) X9) K ⟨0, by omega⟩ := by
    unfold strip_trip.sl.v108 strip_trip.sl.HW_arg11_2
    rw [cov_skip _ _ _ (by decide), cov_head]
    rw [load_h arg5.view X5 ⟨0, by omega⟩ ![0, 0] rfl, load_g _ _ K _ hg]
    rfl
  have a1 : strip_trip.sl.v179 arg5 arg9 arg11 X5 X9 k = accOf (arg5.view.read (Elt F) X5) (arg9.view.read (Elt F) X9) K ⟨1, by omega⟩ := by
    unfold strip_trip.sl.v179 strip_trip.sl.HW_arg11_3
    rw [cov_skip _ _ _ (by decide)]
    unfold strip_trip.sl.HW_arg11_2
    rw [cov_head]
    rw [load_h arg5.view X5 ⟨1, by omega⟩ ![512, 0] rfl, load_g _ _ K _ hg]
    rfl
  have a2 : strip_trip.sl.v250 arg5 arg9 arg11 X5 X9 k = accOf (arg5.view.read (Elt F) X5) (arg9.view.read (Elt F) X9) K ⟨2, by omega⟩ := by
    unfold strip_trip.sl.v250 strip_trip.sl.HW_arg11_4
    rw [cov_skip _ _ _ (by decide)]
    unfold strip_trip.sl.HW_arg11_3
    rw [cov_head]
    rw [load_h arg5.view X5 ⟨2, by omega⟩ ![1024, 0] rfl, load_g _ _ K _ hg]
    rfl
  have a3 : strip_trip.sl.v321 arg5 arg9 arg11 X5 X9 k = accOf (arg5.view.read (Elt F) X5) (arg9.view.read (Elt F) X9) K ⟨3, by omega⟩ := by
    unfold strip_trip.sl.v321 strip_trip.sl.HW_arg11_5
    rw [cov_skip _ _ _ (by decide)]
    unfold strip_trip.sl.HW_arg11_4
    rw [cov_head]
    unfold strip_trip.sl.r_5
    rw [load_h arg5.view X5 ⟨3, by omega⟩ ![1536, 0] rfl, load_g _ _ K _ hg]
    rfl
  have a4 : strip_trip.sl.v392 arg5 arg9 arg11 X5 X9 k = accOf (arg5.view.read (Elt F) X5) (arg9.view.read (Elt F) X9) K ⟨4, by omega⟩ := by
    unfold strip_trip.sl.v392 strip_trip.sl.HW_arg11_6
    rw [cov_skip _ _ _ (by decide)]
    unfold strip_trip.sl.HW_arg11_5
    rw [cov_head]
    rw [load_h arg5.view X5 ⟨4, by omega⟩ ![2048, 0] rfl, load_g _ _ K _ hg]
    rfl
  have a5 : strip_trip.sl.v463 arg5 arg9 arg11 X5 X9 k = accOf (arg5.view.read (Elt F) X5) (arg9.view.read (Elt F) X9) K ⟨5, by omega⟩ := by
    unfold strip_trip.sl.v463 strip_trip.sl.HW_arg11_7
    rw [cov_skip _ _ _ (by decide)]
    unfold strip_trip.sl.HW_arg11_6
    rw [cov_head]
    rw [load_h arg5.view X5 ⟨5, by omega⟩ ![2560, 0] rfl, load_g _ _ K _ hg]
    rfl
  have a6 : strip_trip.sl.v526 arg5 arg9 arg11 X5 X9 k = accOf (arg5.view.read (Elt F) X5) (arg9.view.read (Elt F) X9) K ⟨6, by omega⟩ := by
    unfold strip_trip.sl.v526 strip_trip.sl.HW_arg11_7
    rw [cov_head]
    rw [load_h arg5.view X5 ⟨6, by omega⟩ ![3072, 0] rfl, load_g _ _ K _ hg]
    rfl
  have b1 : strip_trip.sl.v182 arg10 k f10 = eBlk (arg10.view.read (Elt F) f10) K ⟨1, by omega⟩ :=
    load_e _ _ K ⟨1, by omega⟩ _ ((off17_eq k).trans (ho _)) _
  have b2 : strip_trip.sl.v253 arg10 k f10 = eBlk (arg10.view.read (Elt F) f10) K ⟨2, by omega⟩ :=
    load_e _ _ K ⟨2, by omega⟩ _ ((off18_eq k).trans (ho _)) _
  have b3 : strip_trip.sl.v324 arg10 k f10 = eBlk (arg10.view.read (Elt F) f10) K ⟨3, by omega⟩ :=
    load_e _ _ K ⟨3, by omega⟩ _ ((off19_eq k).trans (ho _)) _
  have b4 : strip_trip.sl.v395 arg10 k f10 = eBlk (arg10.view.read (Elt F) f10) K ⟨4, by omega⟩ :=
    load_e _ _ K ⟨4, by omega⟩ _ ((off20_eq k).trans (ho _)) _
  have b5 : strip_trip.sl.v466 arg10 k f10 = eBlk (arg10.view.read (Elt F) f10) K ⟨5, by omega⟩ :=
    load_e _ _ K ⟨5, by omega⟩ _ ((off21_eq k).trans (ho _)) _
  have b6 : strip_trip.sl.v529 arg10 k f10 = eBlk (arg10.view.read (Elt F) f10) K ⟨6, by omega⟩ :=
    load_e _ _ K ⟨6, by omega⟩ _ ((off22_eq k).trans (ho _)) _
  have b0 : arg10.view.readAt (Elt F) (Rect.unit (s := S1280x3584) (k0_off16 k) S256x512.size (k0_off16_inb k)).toLoadRect f10
      = eBlk (arg10.view.read (Elt F) f10) K ⟨0, by omega⟩ :=
    load_e _ _ K ⟨0, by omega⟩ _ ((off16_eq k).trans (ho _)) _
  have hs : strip_trip.sl.v587 arg5 arg9 arg10 arg11 arg12 X5 X9 k f10
      = sctOf (arg5.view.read (Elt F) X5) (arg9.view.read (Elt F) X9) (arg10.view.read (Elt F) f10) K := by
    unfold strip_trip.sl.v587 strip_trip.sl.HW_arg12_7
    refine rows_read arg12.view _ _ _ _ _ _ _ _ _ _ _ _ _ _ _ _ ?_
    intro m hm x
    rw [← sctOf_rows _ _ _ _ m hm]
    obtain rfl | rfl | rfl | rfl | rfl | rfl | rfl : m = 0 ∨ m = 1 ∨ m = 2 ∨ m = 3 ∨ m = 4 ∨ m = 5 ∨ m = 6 := by omega
    · rw [← a0, ← b0]; rfl
    · rw [← a1, ← b1]; rfl
    · rw [← a2, ← b2]; rfl
    · rw [← a3, ← b3]; rfl
    · rw [← a4, ← b4]; rfl
    · rw [← a5, ← b5]; rfl
    · rw [← a6, ← b6]; rfl
  refine ⟨fun y => ?_, fun y => ?_, fun y => ?_⟩
  · refine strip_read arg7.view f7 K _ _ _ _ _ _ _ _ ((off16_eq k).trans (ho _)) ((off17_eq k).trans (ho _)) ((off18_eq k).trans (ho _)) ((off19_eq k).trans (ho _)) ((off20_eq k).trans (ho _)) ((off21_eq k).trans (ho _)) ((off22_eq k).trans (ho _)) _ _ _ _ _ _ _ _ _ _ _ _ _ _ ?_ ?_ ?_ ?_ ?_ ?_ ?_ y
    · intro x; rw [← codesOf_strip, ← a0, ← b0]; rfl
    · intro x; rw [← codesOf_strip, ← a1, ← b1]; rfl
    · intro x; rw [← codesOf_strip, ← a2, ← b2]; rfl
    · intro x; rw [← codesOf_strip, ← a3, ← b3]; rfl
    · intro x; rw [← codesOf_strip, ← a4, ← b4]; rfl
    · intro x; rw [← codesOf_strip, ← a5, ← b5]; rfl
    · intro x; rw [← codesOf_strip, ← a6, ← b6]; rfl
  · refine scale_read arg8.view f8 K _ _ ((off23_eq k).trans (ho _)) _ _ ?_ y
    intro x
    rw [hs]
    exact scaleOf_strip _ _ _ K x
  · exact strip_read arg10.view f10 K (fun _ => zE) _ _ _ _ _ _ _ ((off16_eq k).trans (ho _)) ((off17_eq k).trans (ho _)) ((off18_eq k).trans (ho _)) ((off19_eq k).trans (ho _)) ((off20_eq k).trans (ho _)) ((off21_eq k).trans (ho _)) ((off22_eq k).trans (ho _)) _ _ _ _ _ _ _ _ _ _ _ _ _ _
      (fun _ => rfl) (fun _ => rfl) (fun _ => rfl) (fun _ => rfl) (fun _ => rfl) (fun _ => rfl) (fun _ => rfl) y

/-! ### The five strips -/

theorem eBlk_congr (e e' : FVec F S1280x3584 .f32) (k : Fin 5) (m : Fin 7) (h : ∀ z : S1280x3584.Idx, 256 * k.val ≤ (z 0).val → e z = e' z) :
    eBlk e k m = eBlk e' k m := funext fun j => h _ (Nat.le_add_right _ _)

theorem codesOf_congr (x5 : FVec F S3584x2048 .bf16) (x9 : FVec F S5x2048x256 .bf16) (e e' : FVec F S1280x3584 .f32) (k : ℕ)
    (h : ∀ z : S1280x3584.Idx, 256 * k ≤ (z 0).val → e z = e' z) (y : S1280x3584.Idx) (hy : 256 * k ≤ (y 0).val) :
    codesOf x5 x9 e y = codesOf x5 x9 e' y := by
  unfold codesOf
  rw [eBlk_congr e e' _ _ fun z hz => h z (by
    have h1 : 256 * ((y 0).val / 256) ≤ (z 0).val := hz
    have h2 : k ≤ (y 0).val / 256 := by omega
    omega)]

theorem scaleOf_congr (x5 : FVec F S3584x2048 .bf16) (x9 : FVec F S5x2048x256 .bf16) (e e' : FVec F S1280x3584 .f32) (k : ℕ)
    (h : ∀ z : S1280x3584.Idx, 256 * k ≤ (z 0).val → e z = e' z) (y : S1280x56.Idx) (hy : 256 * k ≤ (y 0).val) :
    scaleOf x5 x9 e y = scaleOf x5 x9 e' y := by
  have hs : sctOf x5 x9 e ⟨(y 0).val / 256, by have h0 : (y 0).val < 1280 := (y 0).isLt; omega⟩
      = sctOf x5 x9 e' ⟨(y 0).val / 256, by have h0 : (y 0).val < 1280 := (y 0).isLt; omega⟩ := funext fun z => by
    unfold sctOf
    rw [eBlk_congr e e' _ _ fun z hz => h z (by
      have h1 : 256 * ((y 0).val / 256) ≤ (z 0).val := hz
      have h2 : k ≤ (y 0).val / 256 := by omega
      omega)]
  unfold scaleOf
  rw [hs]

/-- BEFORE STRIP `k`: the codes and the scales of the rows below `256 k` are final, the embedding scratch is clear there and holds `E` beyond. -/
def stripAt (c : Dev nD) (arg5 : Memref sig .tc .vmem S3584x2048 .bf16) (arg7 : Memref sig .tc .vmem S1280x3584 .fp8e4m3)
    (arg8 : Memref sig .tc .vmem S1280x56 .f32) (arg9 : Memref sig .tc .vmem S5x2048x256 .bf16) (arg10 : Memref sig .tc .vmem S1280x3584 .f32)
    (arg11 : Memref sig .tc .vmem S2x512x256 .f32) (arg12 : Memref sig .tc .vmem S56x256 .f32)
    (X5 : BufTy.Contents (Elt F) arg5.view.ty) (X9 : BufTy.Contents (Elt F) arg9.view.ty) (E : FVec F S1280x3584 .f32) (k : ℕ) (acc : PUnit) : sProp 𝕄 :=
  iprop(∃ (f7 : BufTy.Contents (Elt F) arg7.view.ty) (f8 : BufTy.Contents (Elt F) arg8.view.ty) (f10 : BufTy.Contents (Elt F) arg10.view.ty) (f11 : BufTy.Contents (Elt F) arg11.view.ty) (f12 : BufTy.Contents (Elt F) arg12.view.ty),
    Trip_k0_t5 (F := F) c arg5 arg9 arg7 arg8 arg10 arg11 arg12 X5 X9 f7 f8 f10 f11 f12
    ∗ ⌜(∀ y : S1280x3584.Idx, (y 0).val < 256 * k → arg7.view.read (Elt F) f7 y = codesOf (arg5.view.read (Elt F) X5) (arg9.view.read (Elt F) X9) E y)
      ∧ (∀ y : S1280x56.Idx, (y 0).val < 256 * k → arg8.view.read (Elt F) f8 y = scaleOf (arg5.view.read (Elt F) X5) (arg9.view.read (Elt F) X9) E y)
      ∧ ∀ y : S1280x3584.Idx, arg10.view.read (Elt F) f10 y = if (y 0).val < 256 * k then zE else E y⌝)

theorem strip_step (𝒱 : Variants) (c : Dev nD) (i : grid0.Coords) (arg1 : Memref sig .tc .smem S26 .i32) (harg1 : arg1.IsWhole) (arg2 : Memref sig .tc .smem S17x128 .i32) (harg2 : arg2.IsWhole) (arg3 : Memref sig .tc .vmem S2048x1280 .fp8e5m2) (harg3 : arg3.IsWhole) (arg4 : Memref sig .tc .vmem S2048x25 .f32) (harg4 : arg4.IsWhole) (arg5 : Memref sig .tc .vmem S3584x2048 .bf16) (harg5 : arg5.IsWhole) (arg6 : Memref sig .tc .hbm S2240x3584 .f32) (harg6 : arg6.IsWhole) (arg7 : Memref sig .tc .vmem S1280x3584 .fp8e4m3) (harg7 : arg7.IsWhole) (arg8 : Memref sig .tc .vmem S1280x56 .f32) (harg8 : arg8.IsWhole) (arg9 : Memref sig .tc .vmem S5x2048x256 .bf16) (harg9 : arg9.IsWhole) (arg10 : Memref sig .tc .vmem S1280x3584 .f32) (harg10 : arg10.IsWhole) (arg11 : Memref sig .tc .vmem S2x512x256 .f32) (harg11 : arg11.IsWhole) (arg12 : Memref sig .tc .vmem S56x256 .f32) (harg12 : arg12.IsWhole) (arg13 : DmaSems sig S_) (X5 : BufTy.Contents (Elt F) arg5.view.ty) (X9 : BufTy.Contents (Elt F) arg9.view.ty)
    (E : FVec F S1280x3584 .f32) (k : Fin k0_t5_loop.trips) (acc : PUnit) :
    stripAt (F := F) c arg5 arg7 arg8 arg9 arg10 arg11 arg12 X5 X9 E k.val acc
      ⊢ wp frame (wpE (defs₀ (F := F)) 𝒱 (c : Thread nD τ) none) Set.univ (k0_t5_body (F := F) i arg1 harg1 arg2 harg2 arg3 harg3 arg4 harg4 arg5 harg5 arg6 harg6 arg7 harg7 arg8 harg8 arg9 harg9 arg10 harg10 arg11 harg11 arg12 harg12 arg13 k acc)
          (stripAt (F := F) c arg5 arg7 arg8 arg9 arg10 arg11 arg12 X5 X9 E (k.val + 1)) := by
  unfold stripAt
  iintro ⟨%f7, %f8, %f10, %f11, %f12, H, %h⟩
  obtain ⟨h7, h8, h10⟩ := h
  iapply (wp_wand_r frame (wpE (defs₀ (F := F)) 𝒱 (c : Thread nD τ) none) Set.univ)
  isplitl [H]
  · iapply strip_trip
    iexact H
  iintro %acc' ⟨%g7, %g8, %g10, %g11, %g12, H, %g⟩
  obtain ⟨g7', g8', g10'⟩ := g
  iexists g7, g8, g10, g11, g12
  isplitl [H]
  · iexact H
  ipureintro
  have hE (z : S1280x3584.Idx) (hz : 256 * k.val ≤ (z 0).val) : arg10.view.read (Elt F) f10 z = E z := by
    rw [h10 z, if_neg (by omega)]
  refine ⟨fun y hy => ?_, fun y hy => ?_, fun y => ?_⟩
  · rw [g7' y]
    split
    · next hc => exact codesOf_congr _ _ _ _ k.val hE y hc.1
    · next hc => exact h7 y (by omega)
  · rw [g8' y]
    split
    · next hc => exact scaleOf_congr _ _ _ _ k.val hE y hc.1
    · next hc => exact h8 y (by omega)
  · rw [g10' y]
    by_cases h1 : 256 * k.val ≤ (y 0).val ∧ (y 0).val < 256 * k.val + 256
    · rw [if_pos h1, if_pos (by omega)]
    · rw [if_neg h1, h10 y]
      by_cases h2 : (y 0).val < 256 * k.val
      · rw [if_pos h2, if_pos (by omega)]
      · rw [if_neg h2, if_neg (by omega)]

end Cert.KernelIdeal.Hand
-- ==== Proof.KIBody.lean ====
/-
  THE KERNEL'S BODY, run whole at one grid step: it starts the step's row copies, dequantizes the step's columns of the
  logits gradient while they fly, waits for them, and finishes the step in five strips.
-/
module

public import proofs.«01_k».proof.Proof.KIStrip

@[expose] public section

set_option maxRecDepth 8192
set_option maxHeartbeats 1000000

noncomputable section

namespace Cert.KernelIdeal.Hand

open Cert.KernelIdeal Cert.KernelIdeal.Gen Cert.Tables
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The table of boundaries. -/
abbrev mU : Memref sig .tc .smem S26 .i32 := Memref.whole main_arg0

/-! ### The dequantized gradient -/

/-- Columns `128 t …` of the step's codes. -/
def gCol (x3 : FVec F S2048x1280 .fp8e5m2) (t : Fin 10) : FVec F S2048x128 .fp8e5m2 :=
  fun j => x3 (ix2 (j 0) ⟨128 * t.val + (j 1).val, by have h0 : (j 1).val < 128 := (j 1).isLt; omega⟩)

/-- The codes times the step's column of scales, laid out in five slabs of 256 columns. -/
def gOf (i : grid0.Coords) (x3 : FVec F S2048x1280 .fp8e5m2) (x4 : FVec F S2048x25 .f32) : FVec F S5x2048x256 .bf16 :=
  fun y => k0_pay67 i x4 (gCol x3 ⟨2 * (y 0).val + (y 2).val / 128, by
      have h0 : (y 0).val < 5 := (y 0).isLt
      have h2 : (y 2).val < 256 := (y 2).isLt
      omega⟩) (ix3 0 (y 1) ⟨(y 2).val % 128, Nat.mod_lt _ (by omega)⟩)

variable {κ : Kind} {sp : Space}

theorem load_c (v : View sig κ sp S2048x1280 .fp8e5m2) (X : v.ty.Contents (Elt F)) (t : Fin 10) (off : Fin 2 → ℕ) (ho : off = ![0, 128 * t.val])
    (h : ∀ a, off a + S2048x128.size a ≤ S2048x1280.size a) :
    v.readAt (Elt F) (Rect.unit (s := S2048x1280) off S2048x128.size h).toLoadRect X = gCol (v.read (Elt F) X) t := by
  subst ho
  funext j
  rw [View.readAt_apply]
  unfold gCol
  refine congrArg _ (funext fun a => ?_)
  match a with
  | ⟨0, _⟩ => exact Fin.ext (by show 0 + 1 * (j 0).val = (j 0).val; omega)
  | ⟨1, _⟩ => exact Fin.ext (by show 128 * t.val + 1 * (j 1).val = 128 * t.val + (j 1).val; omega)

theorem load_s (v : View sig κ sp S2048x25 .f32) (X : v.ty.Contents (Elt F)) (h : ∀ a, (![0, 0] : Fin 2 → ℕ) a + S2048x25.size a ≤ S2048x25.size a) :
    v.readAt (Elt F) (Rect.unit (s := S2048x25) ![0, 0] S2048x25.size h).toLoadRect X = v.read (Elt F) X := by
  funext j
  rw [View.readAt_apply]
  refine congrArg _ (funext fun a => ?_)
  match a with
  | ⟨0, _⟩ => exact Fin.ext (by show 0 + 1 * (j 0).val = (j 0).val; omega)
  | ⟨1, _⟩ => exact Fin.ext (by show 0 + 1 * (j 1).val = (j 1).val; omega)

/-- The word the kernel loads from the table of boundaries. -/
theorem bound_load (ust : IVec SU 32) (j : Fin 26) (off : Fin 1 → ℕ) (inb) (ho : off = ![j.val]) (x : S1.Idx) :
    View.readAt (Elt F) mU.view (Rect.unit (s := S26) off S1.size inb).toLoadRect ust x = ust (ixU j) := by
  subst ho
  show ust _ = ust _
  refine congrArg ust ?_
  have h0 : (x 0).val = 0 := by have := (x 0).isLt; exact Nat.lt_one_iff.mp this
  funext a
  match a with
  | ⟨0, _⟩ => exact Fin.ext (by show j.val + 1 * (x 0).val = j.val; omega)

/-- Where element `x` of column block `t` lies. -/
def slabIx (t : ℕ) (ht : t < 10) (x : S1x2048x128.Idx) : S5x2048x256.Idx :=
  ix3 ⟨t / 2, by omega⟩ (x 1) ⟨128 * (t % 2) + (x 2).val, by have h2 : (x 2).val < 128 := (x 2).isLt; omega⟩

theorem slabIx_emb (t a b : ℕ) (ht : t < 10) (ha : a = t / 2) (hb : b = 128 * (t % 2))
    (h : ∀ i, (![a, 0, b] : Fin 3 → ℕ) i + S1x2048x128.size i ≤ S5x2048x256.size i) (x : S1x2048x128.Idx) :
    (Rect.unit (s := S5x2048x256) ![a, 0, b] S1x2048x128.size h).emb x = slabIx t ht x := by
  subst ha hb
  unfold slabIx
  have h0 : (x 0).val < 1 := (x 0).isLt
  funext i
  match i with
  | ⟨0, _⟩ => exact Fin.ext (by show t / 2 + 1 * (x 0).val = t / 2; omega)
  | ⟨1, _⟩ => exact Fin.ext (by show 0 + 1 * (x 1).val = (x 1).val; omega)
  | ⟨2, _⟩ => exact Fin.ext (by show 128 * (t % 2) + 1 * (x 2).val = 128 * (t % 2) + (x 2).val; omega)

/-- Ten column blocks, two to a slab, are the scratch written. -/
theorem slabs_read (v : View sig κ sp S5x2048x256 .bf16) (f : v.ty.Contents (Elt F)) (G : S5x2048x256.Idx → Elt F .bf16)
    (h0 : ∀ i, (![0, 0, 0] : Fin 3 → ℕ) i + S1x2048x128.size i ≤ S5x2048x256.size i)
    (h1 : ∀ i, (![0, 0, 128] : Fin 3 → ℕ) i + S1x2048x128.size i ≤ S5x2048x256.size i)
    (h2 : ∀ i, (![1, 0, 0] : Fin 3 → ℕ) i + S1x2048x128.size i ≤ S5x2048x256.size i)
    (h3 : ∀ i, (![1, 0, 128] : Fin 3 → ℕ) i + S1x2048x128.size i ≤ S5x2048x256.size i)
    (h4 : ∀ i, (![2, 0, 0] : Fin 3 → ℕ) i + S1x2048x128.size i ≤ S5x2048x256.size i)
    (h5 : ∀ i, (![2, 0, 128] : Fin 3 → ℕ) i + S1x2048x128.size i ≤ S5x2048x256.size i)
    (h6 : ∀ i, (![3, 0, 0] : Fin 3 → ℕ) i + S1x2048x128.size i ≤ S5x2048x256.size i)
    (h7 : ∀ i, (![3, 0, 128] : Fin 3 → ℕ) i + S1x2048x128.size i ≤ S5x2048x256.size i)
    (h8 : ∀ i, (![4, 0, 0] : Fin 3 → ℕ) i + S1x2048x128.size i ≤ S5x2048x256.size i)
    (h9 : ∀ i, (![4, 0, 128] : Fin 3 → ℕ) i + S1x2048x128.size i ≤ S5x2048x256.size i)
    (w0 w1 w2 w3 w4 w5 w6 w7 w8 w9 : S1x2048x128.Idx → Elt F .bf16)
    (g0 : ∀ x, w0 x = G (slabIx 0 (by omega) x))
    (g1 : ∀ x, w1 x = G (slabIx 1 (by omega) x))
    (g2 : ∀ x, w2 x = G (slabIx 2 (by omega) x))
    (g3 : ∀ x, w3 x = G (slabIx 3 (by omega) x))
    (g4 : ∀ x, w4 x = G (slabIx 4 (by omega) x))
    (g5 : ∀ x, w5 x = G (slabIx 5 (by omega) x))
    (g6 : ∀ x, w6 x = G (slabIx 6 (by omega) x))
    (g7 : ∀ x, w7 x = G (slabIx 7 (by omega) x))
    (g8 : ∀ x, w8 x = G (slabIx 8 (by omega) x))
    (g9 : ∀ x, w9 x = G (slabIx 9 (by omega) x)) :
    v.read (Elt F) (v.writes (Elt F) f [⟨Rect.unit (s := S5x2048x256) ![4, 0, 128] S1x2048x128.size h9, w9⟩,
      ⟨Rect.unit (s := S5x2048x256) ![4, 0, 0] S1x2048x128.size h8, w8⟩,
      ⟨Rect.unit (s := S5x2048x256) ![3, 0, 128] S1x2048x128.size h7, w7⟩,
      ⟨Rect.unit (s := S5x2048x256) ![3, 0, 0] S1x2048x128.size h6, w6⟩,
      ⟨Rect.unit (s := S5x2048x256) ![2, 0, 128] S1x2048x128.size h5, w5⟩,
      ⟨Rect.unit (s := S5x2048x256) ![2, 0, 0] S1x2048x128.size h4, w4⟩,
      ⟨Rect.unit (s := S5x2048x256) ![1, 0, 128] S1x2048x128.size h3, w3⟩,
      ⟨Rect.unit (s := S5x2048x256) ![1, 0, 0] S1x2048x128.size h2, w2⟩,
      ⟨Rect.unit (s := S5x2048x256) ![0, 0, 128] S1x2048x128.size h1, w1⟩,
      ⟨Rect.unit (s := S5x2048x256) ![0, 0, 0] S1x2048x128.size h0, w0⟩]) = G := by
  funext y
  have hy0 : (y 0).val < 5 := (y 0).isLt
  have hy2 : (y 2).val < 256 := (y 2).isLt
  have mem (a b : ℕ) (h : ∀ i, (![a, 0, b] : Fin 3 → ℕ) i + S1x2048x128.size i ≤ S5x2048x256.size i)
      (ha : (y 0).val = a) (hb : b ≤ (y 2).val ∧ (y 2).val < b + 128) : y ∈ (Rect.unit (s := S5x2048x256) ![a, 0, b] S1x2048x128.size h).set :=
    Rect.mem_set_unit.2 fun i => match i with
      | ⟨0, _⟩ => ⟨ha.ge, by show (y 0).val < a + 1; omega⟩
      | ⟨1, _⟩ => ⟨Nat.zero_le _, by have h1 : (y 1).val < 2048 := (y 1).isLt; show (y 1).val < 0 + 2048; omega⟩
      | ⟨2, _⟩ => hb
  refine View.read_writes_apply_of_pieces v f G _ ?_ y ?_
  · intro p hp
    simp only [List.mem_cons, List.not_mem_nil, _root_.or_false] at hp
    rcases hp with rfl | rfl | rfl | rfl | rfl | rfl | rfl | rfl | rfl | rfl <;> intro x
    · exact (g9 x).trans (congrArg G (slabIx_emb 9 4 128 (by omega) (by omega) (by omega) h9 x).symm)
    · exact (g8 x).trans (congrArg G (slabIx_emb 8 4 0 (by omega) (by omega) (by omega) h8 x).symm)
    · exact (g7 x).trans (congrArg G (slabIx_emb 7 3 128 (by omega) (by omega) (by omega) h7 x).symm)
    · exact (g6 x).trans (congrArg G (slabIx_emb 6 3 0 (by omega) (by omega) (by omega) h6 x).symm)
    · exact (g5 x).trans (congrArg G (slabIx_emb 5 2 128 (by omega) (by omega) (by omega) h5 x).symm)
    · exact (g4 x).trans (congrArg G (slabIx_emb 4 2 0 (by omega) (by omega) (by omega) h4 x).symm)
    · exact (g3 x).trans (congrArg G (slabIx_emb 3 1 128 (by omega) (by omega) (by omega) h3 x).symm)
    · exact (g2 x).trans (congrArg G (slabIx_emb 2 1 0 (by omega) (by omega) (by omega) h2 x).symm)
    · exact (g1 x).trans (congrArg G (slabIx_emb 1 0 128 (by omega) (by omega) (by omega) h1 x).symm)
    · exact (g0 x).trans (congrArg G (slabIx_emb 0 0 0 (by omega) (by omega) (by omega) h0 x).symm)
  · have hc : ((y 0).val = 0 ∧ 0 ≤ (y 2).val ∧ (y 2).val < 0 + 128) ∨ ((y 0).val = 0 ∧ 128 ≤ (y 2).val ∧ (y 2).val < 128 + 128) ∨ ((y 0).val = 1 ∧ 0 ≤ (y 2).val ∧ (y 2).val < 0 + 128) ∨ ((y 0).val = 1 ∧ 128 ≤ (y 2).val ∧ (y 2).val < 128 + 128) ∨ ((y 0).val = 2 ∧ 0 ≤ (y 2).val ∧ (y 2).val < 0 + 128) ∨ ((y 0).val = 2 ∧ 128 ≤ (y 2).val ∧ (y 2).val < 128 + 128) ∨ ((y 0).val = 3 ∧ 0 ≤ (y 2).val ∧ (y 2).val < 0 + 128) ∨ ((y 0).val = 3 ∧ 128 ≤ (y 2).val ∧ (y 2).val < 128 + 128) ∨ ((y 0).val = 4 ∧ 0 ≤ (y 2).val ∧ (y 2).val < 0 + 128) ∨ ((y 0).val = 4 ∧ 128 ≤ (y 2).val ∧ (y 2).val < 128 + 128) := by omega
    rcases hc with hc | hc | hc | hc | hc | hc | hc | hc | hc | hc
    · exact ⟨⟨Rect.unit (s := S5x2048x256) ![0, 0, 0] S1x2048x128.size h0, w0⟩, by simp only [List.mem_cons, _root_.true_or, _root_.or_true], mem 0 0 h0 hc.1 hc.2⟩
    · exact ⟨⟨Rect.unit (s := S5x2048x256) ![0, 0, 128] S1x2048x128.size h1, w1⟩, by simp only [List.mem_cons, _root_.true_or, _root_.or_true], mem 0 128 h1 hc.1 hc.2⟩
    · exact ⟨⟨Rect.unit (s := S5x2048x256) ![1, 0, 0] S1x2048x128.size h2, w2⟩, by simp only [List.mem_cons, _root_.true_or, _root_.or_true], mem 1 0 h2 hc.1 hc.2⟩
    · exact ⟨⟨Rect.unit (s := S5x2048x256) ![1, 0, 128] S1x2048x128.size h3, w3⟩, by simp only [List.mem_cons, _root_.true_or, _root_.or_true], mem 1 128 h3 hc.1 hc.2⟩
    · exact ⟨⟨Rect.unit (s := S5x2048x256) ![2, 0, 0] S1x2048x128.size h4, w4⟩, by simp only [List.mem_cons, _root_.true_or, _root_.or_true], mem 2 0 h4 hc.1 hc.2⟩
    · exact ⟨⟨Rect.unit (s := S5x2048x256) ![2, 0, 128] S1x2048x128.size h5, w5⟩, by simp only [List.mem_cons, _root_.true_or, _root_.or_true], mem 2 128 h5 hc.1 hc.2⟩
    · exact ⟨⟨Rect.unit (s := S5x2048x256) ![3, 0, 0] S1x2048x128.size h6, w6⟩, by simp only [List.mem_cons, _root_.true_or, _root_.or_true], mem 3 0 h6 hc.1 hc.2⟩
    · exact ⟨⟨Rect.unit (s := S5x2048x256) ![3, 0, 128] S1x2048x128.size h7, w7⟩, by simp only [List.mem_cons, _root_.true_or, _root_.or_true], mem 3 128 h7 hc.1 hc.2⟩
    · exact ⟨⟨Rect.unit (s := S5x2048x256) ![4, 0, 0] S1x2048x128.size h8, w8⟩, by simp only [List.mem_cons, _root_.true_or, _root_.or_true], mem 4 0 h8 hc.1 hc.2⟩
    · exact ⟨⟨Rect.unit (s := S5x2048x256) ![4, 0, 128] S1x2048x128.size h9, w9⟩, by simp only [List.mem_cons, _root_.true_or, _root_.or_true], mem 4 128 h9 hc.1 hc.2⟩

theorem gOf_slab (i : grid0.Coords) (x3 : FVec F S2048x1280 .fp8e5m2) (x4 : FVec F S2048x25 .f32) (t : ℕ) (ht : t < 10) (x : S1x2048x128.Idx) :
    k0_pay67 i x4 (gCol x3 ⟨t, ht⟩) x = gOf i x3 x4 (slabIx t ht x) := by
  have h0 : (x 0).val < 1 := (x 0).isLt
  have h2 : (x 2).val < 128 := (x 2).isLt
  have c1 : (⟨2 * (t / 2) + (128 * (t % 2) + (x 2).val) / 128, by omega⟩ : Fin 10) = ⟨t, ht⟩ := Fin.ext (by
    show 2 * (t / 2) + (128 * (t % 2) + (x 2).val) / 128 = t; omega)
  have c2 : (ix3 0 (x 1) ⟨(128 * (t % 2) + (x 2).val) % 128, Nat.mod_lt _ (by omega)⟩ : S1x2048x128.Idx) = x := funext fun a => match a with
    | ⟨0, _⟩ => Fin.ext (by show 0 = (x 0).val; omega)
    | ⟨1, _⟩ => rfl
    | ⟨2, _⟩ => Fin.ext (by show (128 * (t % 2) + (x 2).val) % 128 = (x 2).val; omega)
  show _ = k0_pay67 i x4 (gCol x3 ⟨2 * (t / 2) + (128 * (t % 2) + (x 2).val) / 128, _⟩) (ix3 0 (x 1) ⟨(128 * (t % 2) + (x 2).val) % 128, _⟩)
  rw [c1, c2]

theorem pay65_eq (y : S1280x3584.Idx) : (k0_pay65 (F := F)) y = zE := by
  unfold zE k0_pay65
  rfl

theorem write_whole (v : View sig κ sp S1280x3584 .f32) (f : v.ty.Contents (Elt F))
    (h : ∀ a, (![0, 0] : Fin 2 → ℕ) a + S1280x3584.size a ≤ S1280x3584.size a) (w : S1280x3584.Idx → Elt F .f32) (y : S1280x3584.Idx) :
    v.read (Elt F) (v.writes (Elt F) f [⟨Rect.unit (s := S1280x3584) ![0, 0] S1280x3584.size h, w⟩]) y = w y :=
  View.read_writes_cons_hit_of_coords v f (Rect.unit (s := S1280x3584) ![0, 0] S1280x3584.size h) w [] y y
    (fun a => match a with
      | ⟨0, _⟩ => by show (y 0).val = 0 + 1 * (y 0).val; omega
      | ⟨1, _⟩ => by show (y 1).val = 0 + 1 * (y 1).val; omega)

/-- Cleared at the first step, and clear already at every other. -/
theorem clear_eq (E0 : S1280x3584.Idx → Elt F .f32) (p : Prop) [Decidable p] (hp : ¬ p → E0 = fun _ => zE)
    (h : ∀ a, (![0, 0] : Fin 2 → ℕ) a + S1280x3584.size a ≤ S1280x3584.size a) :
    (if hc : p then mE.view.writes (Elt F) E0 [⟨Rect.unit (s := S1280x3584) ![0, 0] S1280x3584.size h, k0_pay65⟩] else E0)
      = (fun _ => zE : S1280x3584.Idx → Elt F .f32) := by
  split
  · funext y
    have e := (write_whole mE.view E0 h k0_pay65 y).trans (pay65_eq y)
    rw [View.read_whole] at e
    exact e
  · next hn => exact hp hn

theorem setE_univ : mE.view.set = (Finset.univ : Finset S1280x3584.Idx) := View.set_whole _

theorem remE_zero (uid : IVec SD 32) (base u0 : ℕ) : remE uid base u0 0 = Finset.univ := by
  ext y; simp only [remE, Finset.mem_filter, Finset.mem_univ, _root_.true_and, iff_true]
  exact fun t ht => absurd ht (Nat.not_lt_zero t)

theorem remS_zero (u0 : ℕ) : remS u0 0 = Finset.univ := by
  ext y; simp only [remS, Finset.mem_filter, Finset.mem_univ, _root_.true_and, iff_true]
  omega

theorem off1_eq (i : grid0.Coords) : k0_off1 i = ![(i 0).val] := by
  have hi : (i 0).val < 25 := (i 0).isLt
  show ![(BitVec.ofNat 32 (i 0).val).toNat] = _
  rw [BitVec.toNat_ofNat]
  refine congrArg (fun n => ![n]) ?_
  omega

theorem off2_eq (i : grid0.Coords) : k0_off2 i = ![(i 0).val + 1] := by
  have hi : (i 0).val < 25 := (i 0).isLt
  show ![(BitVec.ofNat 32 (i 0).val + 1#32).toNat] = _
  rw [BitVec.toNat_add, BitVec.toNat_ofNat]
  refine congrArg (fun n => ![n]) ?_
  show (_ + 1) % _ = _
  omega

theorem body_run (𝒱 : Variants) (c : Dev nD) (i : grid0.Coords) (arg3 : Memref sig .tc .vmem S2048x1280 .fp8e5m2) (harg3 : arg3.IsWhole) (arg4 : Memref sig .tc .vmem S2048x25 .f32) (harg4 : arg4.IsWhole) (arg5 : Memref sig .tc .vmem S3584x2048 .bf16) (harg5 : arg5.IsWhole) (arg7 : Memref sig .tc .vmem S1280x3584 .fp8e4m3) (harg7 : arg7.IsWhole) (arg8 : Memref sig .tc .vmem S1280x56 .f32) (harg8 : arg8.IsWhole) (arg9 : Memref sig .tc .vmem S5x2048x256 .bf16) (harg9 : arg9.IsWhole) (arg11 : Memref sig .tc .vmem S2x512x256 .f32) (harg11 : arg11.IsWhole) (arg12 : Memref sig .tc .vmem S56x256 .f32) (harg12 : arg12.IsWhole)
    (X3 : BufTy.Contents (Elt F) arg3.view.ty) (X4 : BufTy.Contents (Elt F) arg4.view.ty) (X5 : BufTy.Contents (Elt F) arg5.view.ty)
    (f7 : BufTy.Contents (Elt F) arg7.view.ty) (f8 : BufTy.Contents (Elt F) arg8.view.ty) (f9 : BufTy.Contents (Elt F) arg9.view.ty)
    (f11 : BufTy.Contents (Elt F) arg11.view.ty) (f12 : BufTy.Contents (Elt F) arg12.view.ty)
    (ust : IVec SU 32) (uid : IVec SD 32) (hs : Sorted ust uid) (S : S2240x3584.Idx → Elt F .f32)
    (E0 : S1280x3584.Idx → Elt F .f32) (hE0 : (i 0).val ≠ 0 → E0 = fun _ => zE) :
    (iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ eAt c Finset.univ E0 ∗ (arg11.view.loc (c : Thread nD τ) ↦[arg11.view.set]{fullShare} f11)
      ∗ (arg12.view.loc (c : Thread nD τ) ↦[arg12.view.set]{fullShare} f12)
      ∗ (mU.view.loc (c : Thread nD τ) ↦{fullShare.right} ust) ∗ idHeld c uid ∗ sAt c Finset.univ S
      ∗ semVal ((c : Thread nD τ), SemLoc.dma 8) 0 ∗ (∃ W, owes (c : Thread nD τ) 0 W)) : sProp 𝕄)
      ⊢ wp frame (wpE (defs₀ (F := F)) 𝒱 (c : Thread nD τ) none) Set.univ
        (cc0_main (F := F) i mU (Memref.isWhole_whole _) mId (Memref.isWhole_whole _) arg3 harg3 arg4 harg4 arg5 harg5 mS (Memref.isWhole_whole _) arg7 harg7 arg8 harg8 arg9 harg9 mE (Memref.isWhole_whole _) arg11 harg11 arg12 harg12 cc0_scratch4)
        (fun _ => iprop(∃ (g7 : BufTy.Contents (Elt F) arg7.view.ty) (g8 : BufTy.Contents (Elt F) arg8.view.ty) (g9 : BufTy.Contents (Elt F) arg9.view.ty)
            (g11 : BufTy.Contents (Elt F) arg11.view.ty) (g12 : BufTy.Contents (Elt F) arg12.view.ty),
          (arg3.view.loc (c : Thread nD τ) ↦[arg3.view.set]{fullShare} X3) ∗ (arg4.view.loc (c : Thread nD τ) ↦[arg4.view.set]{fullShare} X4)
          ∗ (arg5.view.loc (c : Thread nD τ) ↦[arg5.view.set]{fullShare} X5) ∗ (arg7.view.loc (c : Thread nD τ) ↦[arg7.view.set]{fullShare} g7)
          ∗ (arg8.view.loc (c : Thread nD τ) ↦[arg8.view.set]{fullShare} g8) ∗ (arg9.view.loc (c : Thread nD τ) ↦[arg9.view.set]{fullShare} g9)
          ∗ eAt c Finset.univ (fun _ => zE) ∗ (arg11.view.loc (c : Thread nD τ) ↦[arg11.view.set]{fullShare} g11)
          ∗ (arg12.view.loc (c : Thread nD τ) ↦[arg12.view.set]{fullShare} g12)
          ∗ (mU.view.loc (c : Thread nD τ) ↦{fullShare.right} ust) ∗ idHeld c uid ∗ sAt c Finset.univ S
          ∗ semVal ((c : Thread nD τ), SemLoc.dma 8) 0 ∗ (∃ W, owes (c : Thread nD τ) 0 W)
          ∗ ⌜arg7.view.read (Elt F) g7 = codesOf (arg5.view.read (Elt F) X5) (gOf i (arg3.view.read (Elt F) X3) (arg4.view.read (Elt F) X4))
                (embF uid ((i 0).val * 1280) (lo ust ⟨(i 0).val, by have h : (i 0).val < 25 := (i 0).isLt; omega⟩)
                  (lo ust ⟨(i 0).val + 1, by have h : (i 0).val < 25 := (i 0).isLt; omega⟩ - lo ust ⟨(i 0).val, by have h : (i 0).val < 25 := (i 0).isLt; omega⟩) S)
            ∧ arg8.view.read (Elt F) g8 = scaleOf (arg5.view.read (Elt F) X5) (gOf i (arg3.view.read (Elt F) X3) (arg4.view.read (Elt F) X4))
                (embF uid ((i 0).val * 1280) (lo ust ⟨(i 0).val, by have h : (i 0).val < 25 := (i 0).isLt; omega⟩)
                  (lo ust ⟨(i 0).val + 1, by have h : (i 0).val < 25 := (i 0).isLt; omega⟩ - lo ust ⟨(i 0).val, by have h : (i 0).val < 25 := (i 0).isLt; omega⟩) S)⌝)) := by
  have hi : (i 0).val < 25 := (i 0).isLt
  simp only [cc0_main_eq_skeleton]
  unfold cc0_main_skel
  iintro ⟨H3, H4, H5, H7, H8, H9, HE, H11, H12, Hu, Hid, HS, Hc, ⟨%W, HO⟩⟩
  sl_exec
  sl_step
  sl_step
  sl_exec
  generalize hw1 : View.readAt (Elt F) mU.view (Rect.unit (s := S26) (k0_off1 i) S1.size _).toLoadRect ust (Shape.Idx.first _) = w1 at *
  generalize hw4 : body_run.sl.r c i ust = w4 at *
  have e1 : w1 = ust (ixU ⟨(i 0).val, by omega⟩) := by
    rw [← hw1]; exact bound_load (F := F) ust ⟨(i 0).val, by omega⟩ _ _ (off1_eq i) _
  have e4 : w4 = ust (ixU ⟨(i 0).val + 1, by omega⟩) := by
    rw [← hw4]; exact bound_load (F := F) ust ⟨(i 0).val + 1, by omega⟩ _ _ (off2_eq i) _
  have l1 : lo ust ⟨(i 0).val, by omega⟩ = w1.toNat := by rw [e1]; rfl
  have l4 : lo ust ⟨(i 0).val + 1, by omega⟩ = w4.toNat := by rw [e4]; rfl
  have h14 : w1.toNat ≤ w4.toNat := by rw [← l1, ← l4]; exact hs.mono ⟨(i 0).val, hi⟩
  have h4 : w4.toNat ≤ 2176 := by rw [← l4]; exact hs.le ⟨(i 0).val, hi⟩
  have hc : k0_chk1 w1 w4 := chk1_of w1 w4 h14 h4
  have hr : Run uid ((i 0).val * 1280) w1.toNat (w4.toNat - w1.toNat) :=
    { le := by omega
      block := fun u hu hl => hs.block ⟨(i 0).val, hi⟩ u (l1.trans_le hu) (lt_of_lt_of_eq (show u.val < w4.toNat by omega) l4.symm)
      ne := fun u u' hu hl hu' hl' hne => hs.ne ⟨(i 0).val, hi⟩ u u' (l1.trans_le hu) (lt_of_lt_of_eq (show u.val < w4.toNat by omega) l4.symm)
        (l1.trans_le hu') (lt_of_lt_of_eq (show u'.val < w4.toNat by omega) l4.symm) hne }
  simp only [l1, l4]
  have htr1 := trips1 w1 w4 h14 h4
  have htr3 := trips3 w1 w4 h14 h4
  have htr2 := trips2 w1 w4 h4
  have htr4 := trips4 w1 w4 h4
  sl_exec
  rw [clear_eq E0 _ (fun hn => hE0 fun h0 => hn (by rw [h0]; decide)) _]
  imod (Transfers.batch_alloc' (Lvl := ℕ) (countersEmb (U := Pipeline.UD sig nD τ)) (c : Thread nD τ) () NN
    (deliv c uid ((i 0).val * 1280) w1.toNat (w4.toNat - w1.toNat) S) (sm := .dma 8) (E := Set.univ)) $$ Hc with HB
  sl_for (issueAt c uid ((i 0).val * 1280) w1.toNat (w4.toNat - w1.toNat) S) $$ [HB HO Hid HE HS]
  case region =>
    intro k acc
    exact issue_step 𝒱 c i mU (Memref.isWhole_whole _) arg3 harg3 arg4 harg4 arg5 harg5 arg7 harg7 arg8 harg8 arg9 harg9 arg11 harg11 arg12 harg12
      w1 w4 hc uid _ S hr htr1 k acc
  · unfold issueAt
    isplitl [HB]; · iexact HB
    isplitl [HO]; · iexists _; iexact HO
    isplitl [Hid]; · iexact Hid
    isplitl [HE]
    · iapply (Entails.of_eq (by rw [remE_zero])); iexact HE
    · iapply (Entails.of_eq (by rw [remS_zero])); iexact HS
  iintro %acc HL
  unfold issueAt
  icases HL with ⟨HB, ⟨%W', HO⟩, Hid, HE, HS⟩
  rw [show (Scf.trips (k0_t1_loop w1 w4).lb (k0_t1_loop w1 w4).ub (k0_t1_loop w1 w4).st) = _ from htr1]
  sl_exec
  sl_for (waitAt c uid ((i 0).val * 1280) w1.toNat (w4.toNat - w1.toNat) S) $$ [HB HO Hid]
  case region =>
    intro k acc
    exact wait_step 𝒱 c i mU (Memref.isWhole_whole _) arg3 harg3 arg4 harg4 arg5 harg5 arg7 harg7 arg8 harg8 arg9 harg9 arg11 harg11 arg12 harg12
      w1 w4 hc uid _ S hr htr3 trivial k acc
  · unfold waitAt
    isplitr; · ipureintro; omega
    isplitl [HO]; · iexists _; iexact HO
    isplitl [Hid]; · iexact Hid
    rw [Nat.zero_mul]; iexact HB
  iintro %acc2 HL
  unfold waitAt
  icases HL with ⟨-, ⟨%W2, HO⟩, Hid, HB⟩
  rw [show (Scf.trips (k0_t3_loop w1 w4).lb (k0_t3_loop w1 w4).ub (k0_t3_loop w1 w4).st) = _ from htr3]
  rw [Nat.mul_comm (w4.toNat - w1.toNat) NN]
  imod (Transfers.batch_collect' (countersEmb (U := Pipeline.UD sig nD τ)) (c : Thread nD τ) (N := NN) (by decide)
    (D := deliv c uid ((i 0).val * 1280) w1.toNat (w4.toNat - w1.toNat) S)) $$ HB with ⟨Hall, Hc⟩
  ihave Hes := (collect c uid ((i 0).val * 1280) w1.toNat (w4.toNat - w1.toNat) hr S) $$ [Hall HE HS]
  · isplitl [Hall]; · iexact Hall
    isplitl [HE] <;> iassumption
  icases Hes with ⟨HE, HS⟩
  sl_for (fun (_ : ℕ) (_ : PUnit) => (iprop(emp) : sProp 𝕄)) $$ []
  case region =>
    intro k acc
    exact absurd (lt_of_lt_of_eq k.isLt htr4) (Nat.not_lt_zero _)
  · iempintro
  iintro %acc4 -
  have hg9 : arg9.view.read (Elt F) (arg9.view.writes (Elt F) arg9.view.junk (body_run.sl.H9_10 i arg3 arg4 X3 X4))
      = gOf i (arg3.view.read (Elt F) X3) (arg4.view.read (Elt F) X4) := by
    unfold body_run.sl.H9_10 body_run.sl.r_1 body_run.sl.r_2 body_run.sl.r_3
    have hs4 := load_s arg4.view X4 inb_S2048x25_S2048x25_0_0
    refine slabs_read arg9.view _ _ _ _ _ _ _ _ _ _ _ _ _ _ _ _ _ _ _ _ _ _ ?_ ?_ ?_ ?_ ?_ ?_ ?_ ?_ ?_ ?_ <;> intro x
    · exact (congrFun (congrArg₂ (k0_pay67 i) hs4 (load_c arg3.view X3 0 ![0, 0] rfl _)) x).trans (gOf_slab i _ _ 0 (by omega) x)
    · exact (congrFun (congrArg₂ (k0_pay67 i) hs4 (load_c arg3.view X3 1 ![0, 128] rfl _)) x).trans (gOf_slab i _ _ 1 (by omega) x)
    · exact (congrFun (congrArg₂ (k0_pay67 i) hs4 (load_c arg3.view X3 2 ![0, 256] rfl _)) x).trans (gOf_slab i _ _ 2 (by omega) x)
    · exact (congrFun (congrArg₂ (k0_pay67 i) hs4 (load_c arg3.view X3 3 ![0, 384] rfl _)) x).trans (gOf_slab i _ _ 3 (by omega) x)
    · exact (congrFun (congrArg₂ (k0_pay67 i) hs4 (load_c arg3.view X3 4 ![0, 512] rfl _)) x).trans (gOf_slab i _ _ 4 (by omega) x)
    · exact (congrFun (congrArg₂ (k0_pay67 i) hs4 (load_c arg3.view X3 5 ![0, 640] rfl _)) x).trans (gOf_slab i _ _ 5 (by omega) x)
    · exact (congrFun (congrArg₂ (k0_pay67 i) hs4 (load_c arg3.view X3 6 ![0, 768] rfl _)) x).trans (gOf_slab i _ _ 6 (by omega) x)
    · exact (congrFun (congrArg₂ (k0_pay67 i) hs4 (load_c arg3.view X3 7 ![0, 896] rfl _)) x).trans (gOf_slab i _ _ 7 (by omega) x)
    · exact (congrFun (congrArg₂ (k0_pay67 i) hs4 (load_c arg3.view X3 8 ![0, 1024] rfl _)) x).trans (gOf_slab i _ _ 8 (by omega) x)
    · exact (congrFun (congrArg₂ (k0_pay67 i) hs4 (load_c arg3.view X3 9 ![0, 1152] rfl _)) x).trans (gOf_slab i _ _ 9 (by omega) x)
  generalize arg9.view.writes (Elt F) arg9.view.junk (body_run.sl.H9_10 i arg3 arg4 X3 X4) = g9 at *
  rw [← hg9]
  sl_for (stripAt c arg5 arg7 arg8 arg9 mE arg11 arg12 X5 g9 (embF uid ((i 0).val * 1280) w1.toNat (w4.toNat - w1.toNat) S)) $$ [H5 H7 H8 H9 HE H11 H12]
  case region =>
    intro k acc
    exact strip_step 𝒱 c i mU (Memref.isWhole_whole _) mId (Memref.isWhole_whole _) arg3 harg3 arg4 harg4 arg5 harg5 mS (Memref.isWhole_whole _)
      arg7 harg7 arg8 harg8 arg9 harg9 mE (Memref.isWhole_whole _) arg11 harg11 arg12 harg12 cc0_scratch4 X5 g9 _ k acc
  · unfold stripAt
    iexists f7, f8, (embF uid ((i 0).val * 1280) w1.toNat (w4.toNat - w1.toNat) S), f11, f12
    isplitl [H5 H7 H8 H9 HE H11 H12]
    · unfold Trip_k0_t5
      isplitl [H5]; · iexact H5
      isplitl [H9]; · iexact H9
      isplitl [H7]; · iexact H7
      isplitl [H8]; · iexact H8
      isplitl [HE]
      · iapply (Entails.of_eq (by rw [setE_univ])); iexact HE
      isplitl [H11] <;> iassumption
    · ipureintro
      exact ⟨fun y hy => absurd hy (by omega), fun y hy => absurd hy (by omega), fun y => by rw [if_neg (by omega)]; rfl⟩
  iintro %acc3 HL
  unfold stripAt
  icases HL with ⟨%g7, %g8, %g10, %g11, %g12, HT, %hL⟩
  rw [show (Scf.trips k0_t5_loop.lb k0_t5_loop.ub k0_t5_loop.st) = 5 from t5_trips] at hL
  obtain ⟨r7, r8, r10⟩ := hL
  unfold Trip_k0_t5
  icases HT with ⟨H5, H9, H7, H8, HE, H11, H12⟩
  have hg10 : g10 = fun _ => zE := funext fun y => (r10 y).trans (if_pos (by have h0 : (y 0).val < 1280 := (y 0).isLt; omega))
  subst hg10
  sl_step
  iexists g7, g8, g9, g11, g12
  isplitl [H3]; · iexact H3
  isplitl [H4]; · iexact H4
  isplitl [H5]; · iexact H5
  isplitl [H7]; · iexact H7
  isplitl [H8]; · iexact H8
  isplitl [H9]; · iexact H9
  isplitl [HE]
  · iapply (Entails.of_eq (show (mE.view.loc (c : Thread nD τ) ↦[mE.view.set]{fullShare} (fun _ => zE : S1280x3584.Idx → Elt F .f32) : sProp 𝕄)
        = eAt c Finset.univ (fun _ => zE) by rw [setE_univ]))
    iexact HE
  isplitl [H11]; · iexact H11
  isplitl [H12]; · iexact H12
  isplitl [Hu]; · iexact Hu
  isplitl [Hid]; · iexact Hid
  isplitl [HS]; · iexact HS
  isplitl [Hc]; · iexact Hc
  isplitl [HO]; · iexists _; iexact HO
  ipureintro
  exact ⟨funext fun y => r7 y (by have h0 : (y 0).val < 1280 := (y 0).isLt; omega),
    funext fun y => r8 y (by have h0 : (y 0).val < 1280 := (y 0).isLt; omega)⟩

end Cert.KernelIdeal.Hand
-- ==== Proof.KIFrame.lean ====
/-
  THE KERNEL'S RUN: the twenty-five grid steps, each the body of `KIBody`, under the pipeline's launch theorem. The run ends,
  its arguments are unchanged, every semaphore is at zero, and each of the two results holds, block by block, what the
  body computed from the blocks of the arguments.
-/
module

public import proofs.«01_k».proof.Proof.KIBody
public import proofs.«01_k».proof.Proof.Gen.KernelIdeal.Launch
public import Idealize.ShloMosaic.Lib.Pipeline.Frame
public import Idealize.ShloMosaic.Lib.Pipeline.FrameBody
public import Idealize.ShloMosaic.Lib.Pipeline.Value

@[expose] public section

set_option maxRecDepth 8192
set_option maxHeartbeats 1000000

noncomputable section

namespace Cert.KernelIdeal.Hand

open Cert.KernelIdeal Cert.KernelIdeal.Gen Cert.Tables
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The launch contents and the two tables -/

abbrev V (c : Dev nD) (b : Ref sig .tc) : Buf (Elt F) ((c : Thread nD τ).loc b) := m ((c : Thread nD τ).loc b)

theorem hmain (𝒱₀ : Variants) : Pipeline.HMainP (Ix := Unit) (Name := ℕ) (U := Pipeline.UD sig nD τ) (Lvl := ℕ) (pcfgs (F := F)) 0 defs₀ 𝒱₀ m main (V m) :=
  Pipeline.hmainP_region pcfgs 0 defs₀ 𝒱₀ m main fun c => (main_chain c).trans rfl

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev adm : (pcfg0 (F := F)).Adm := ⟨tbl m, trivial⟩
abbrev cfgM : Cfg sig Λ₀ := cfg0 (adm m)

/-- The boundaries, the ids and the table of rows, as launched. -/
abbrev ustM : IVec SU 32 := V m (0 : Dev nD) main_arg0
abbrev uidM : IVec SD 32 := V m (0 : Dev nD) main_arg1
abbrev rowsM (c : Dev nD) : S2240x3584.Idx → Elt F .f32 := V m c main_arg5

theorem PhiT0_eq (c : Dev nD) : (Pipeline.ΦT pre0 (tbl m) c : sProp 𝕄)
    = iprop((mU.view.loc (c : Thread nD τ) ↦{fullShare.right} ustM m) ∗ idHeld c (uidM m)) := by
  unfold Pipeline.ΦT Pipeline.prefHeld
  rw [show (Finset.univ : Finset (Fin 2)) = insert (0 : Fin 2) {(1 : Fin 2)} from by decide, bigSep_insert (by decide), bigSep_singleton]
  rfl

/-! ### The buffers the body uses beside its blocks -/

abbrev mG : Memref sig .tc .vmem S5x2048x256 .bf16 := Memref.whole cc0_scratch0
abbrev mA : Memref sig .tc .vmem S2x512x256 .f32 := Memref.whole cc0_scratch2
abbrev mT : Memref sig .tc .vmem S56x256 .f32 := Memref.whole cc0_scratch3

abbrev osem0 : Fin 1 → SemLoc sig := fun j => (![SemLoc.dma 8] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 8) 0 := by
  rw [Pipeline.ownSems0_eq_of_list c osem0 [0] (by decide) (by decide)]; rfl
def H0 : Finset (Ref sig .tc) := {main_arg5}
theorem H0_sub : H0 ⊆ Pipeline.restRefsP sig pre0 spec0 := by decide
theorem hbmPts0_eq (c : Dev nD) :
    (bigSep H0 (fun b => ((c : Thread nD τ).loc b) ↦{fullShare} V m c b) : sProp 𝕄) = sAt c Finset.univ (rowsM m c) := by
  rw [BI.bigSep_eq_bigSepL_of_eq [main_arg5] (by decide) (by decide)]; rfl

theorem PhiD0_eq (c : Dev nD) : (Pipeline.ΦD osem0 spec0 H0 (V m) c : sProp 𝕄)
    = iprop(((∃ f : S5x2048x256.Idx → Elt F .bf16, mG.view.loc (c : Thread nD τ) ↦[Finset.univ]{fullShare} f)
        ∗ (∃ f : S1280x3584.Idx → Elt F .f32, eAt c Finset.univ f)
        ∗ (∃ f : S2x512x256.Idx → Elt F .f32, mA.view.loc (c : Thread nD τ) ↦[Finset.univ]{fullShare} f)
        ∗ (∃ f : S56x256.Idx → Elt F .f32, mT.view.loc (c : Thread nD τ) ↦[Finset.univ]{fullShare} f))
      ∗ (∃ r, prngReg c r) ∗ semVal ((c : Thread nD τ), SemLoc.dma 8) 0 ∗ sAt c Finset.univ (rowsM m c)) := by
  unfold Pipeline.ΦD
  rw [scopedRest0_eq, ownSems00_eq, hbmPts0_eq]; rfl

/-- The invariant before step `n`: the scratch buffers at anything, the accumulated rows all zero after the first step, the
    copies' semaphore at zero, the tables and the rows as launched. -/
def PhiAt (c : Dev nD) (n : ℕ) : sProp 𝕄 :=
  iprop(∃ (f9 : S5x2048x256.Idx → Elt F .bf16) (E0 : S1280x3584.Idx → Elt F .f32) (f11 : S2x512x256.Idx → Elt F .f32) (f12 : S56x256.Idx → Elt F .f32),
    ⌜n ≠ 0 → E0 = fun _ => zE⌝ ∗ (mG.view.loc (c : Thread nD τ) ↦[Finset.univ]{fullShare} f9) ∗ eAt c Finset.univ E0
      ∗ (mA.view.loc (c : Thread nD τ) ↦[Finset.univ]{fullShare} f11) ∗ (mT.view.loc (c : Thread nD τ) ↦[Finset.univ]{fullShare} f12)
      ∗ (mU.view.loc (c : Thread nD τ) ↦{fullShare.right} ustM m) ∗ idHeld c (uidM m) ∗ sAt c Finset.univ (rowsM m c)
      ∗ semVal ((c : Thread nD τ), SemLoc.dma 8) 0 ∗ (∃ r, prngReg c r))

theorem phi_in (c : Dev nD) : (iprop(Pipeline.ΦD osem0 spec0 H0 (V m) c ∗ Pipeline.ΦT pre0 (tbl m) c) : sProp 𝕄) ⊢ PhiAt m c 0 := by
  rw [PhiD0_eq, PhiT0_eq]
  unfold PhiAt
  iintro ⟨⟨⟨⟨%f9, H9⟩, ⟨%E0, HE⟩, ⟨%f11, H11⟩, ⟨%f12, H12⟩⟩, Hg, Hc, HS⟩, Hu, Hid⟩
  iexists f9, E0, f11, f12
  isplitr; · ipureintro; exact fun h => absurd rfl h
  isplitl [H9]; · iexact H9
  isplitl [HE]; · iexact HE
  isplitl [H11]; · iexact H11
  isplitl [H12]; · iexact H12
  isplitl [Hu]; · iexact Hu
  isplitl [Hid]; · iexact Hid
  isplitl [HS]; · iexact HS
  isplitl [Hc]; · iexact Hc
  iexact Hg

theorem phi_out (c : Dev nD) (n : ℕ) : (PhiAt m c n : sProp 𝕄) ⊢ Pipeline.ΦD osem0 spec0 H0 (V m) c := by
  rw [PhiD0_eq]
  unfold PhiAt
  iintro ⟨%f9, %E0, %f11, %f12, -, H9, HE, H11, H12, -, -, HS, Hc, Hg⟩
  isplitl [H9 HE H11 H12]
  · isplitl [H9]; · iexists _; iexact H9
    isplitl [HE]; · iexists _; iexact HE
    isplitl [H11]; · iexists _; iexact H11
    iexists _; iexact H12
  isplitl [Hg]; · iexact Hg
  isplitl [Hc]; · iexact Hc
  iexact HS

/-! ### What each step leaves in the two results' blocks -/

/-- The block of window `w` at step `t`, of the launch contents. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The rows added at the grid coordinates `i`. -/
def embAt (c : Dev nD) (i : grid0.Coords) : S1280x3584.Idx → Elt F .f32 :=
  embF (uidM m) ((i 0).val * 1280) (lo (ustM m) ⟨(i 0).val, by have h : (i 0).val < 25 := (i 0).isLt; omega⟩)
    (lo (ustM m) ⟨(i 0).val + 1, by have h : (i 0).val < 25 := (i 0).isLt; omega⟩ - lo (ustM m) ⟨(i 0).val, by have h : (i 0).val < 25 := (i 0).isLt; omega⟩)
    (rowsM m c)

def codesAt (c : Dev nD) (t : Fin (cfgM m).N) : Vec F S1280x3584 .fp8e4m3 :=
  codesOf (iblk m c 2 t) (gOf (grid0.coords t) (iblk m c 0 t) (iblk m c 1 t)) (embAt m c (grid0.coords t))
def scaleAt (c : Dev nD) (t : Fin (cfgM m).N) : Vec F S1280x56 .f32 :=
  scaleOf (iblk m c 2 t) (gOf (grid0.coords t) (iblk m c 0 t) (iblk m c 1 t)) (embAt m c (grid0.coords t))

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesAt m c t
    | ⟨4, _⟩ => scaleAt m c t
  Φ t := PhiAt m c t.val
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = codesAt m c t := by dsimp only [dats]; try rfl
theorem after0_4 (c : Dev nD) (t : Fin (cfgM m).N) : (dats m 0 c).after 4 t = scaleAt m c t := by dsimp only [dats]; try rfl

theorem before0_0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfgM m).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ### The body at a step -/

abbrev ms0_0 (t : Fin (cfgM m).N) : Memref sig .tc .vmem S2048x1280 .fp8e5m2 := spec0_0.stage ((cfgM m).slots t 0)
abbrev ms0_1 (t : Fin (cfgM m).N) : Memref sig .tc .vmem S2048x25 .f32 := spec0_1.stage ((cfgM m).slots t 1)
abbrev ms0_2 (t : Fin (cfgM m).N) : Memref sig .tc .vmem S3584x2048 .bf16 := spec0_2.stage ((cfgM m).slots t 2)
abbrev ms0_3 (t : Fin (cfgM m).N) : Memref sig .tc .vmem S1280x3584 .fp8e4m3 := spec0_3.stage ((cfgM m).slots t 3)
abbrev ms0_4 (t : Fin (cfgM m).N) : Memref sig .tc .vmem S1280x56 .f32 := spec0_4.stage ((cfgM m).slots t 4)
abbrev hs0_0 (t : Fin (cfgM m).N) : (ms0_0 m t).IsWhole := hstage0_0 (((cfgM m).slots t 0).cast nbuf0_0)
abbrev hs0_1 (t : Fin (cfgM m).N) : (ms0_1 m t).IsWhole := hstage0_1 (((cfgM m).slots t 1).cast nbuf0_1)
abbrev hs0_2 (t : Fin (cfgM m).N) : (ms0_2 m t).IsWhole := hstage0_2 (((cfgM m).slots t 2).cast nbuf0_2)
abbrev hs0_3 (t : Fin (cfgM m).N) : (ms0_3 m t).IsWhole := hstage0_3 (((cfgM m).slots t 3).cast nbuf0_3)
abbrev hs0_4 (t : Fin (cfgM m).N) : (ms0_4 m t).IsWhole := hstage0_4 (((cfgM m).slots t 4).cast nbuf0_4)

def bodyAt0 (t : Fin (cfgM m).N) : Prog (TpuEff nD τ sig (Elt F) Λ₀ .tc) PUnit :=
  cc0_main (F := F) (grid0.coords t) mU (Memref.isWhole_whole _) mId (Memref.isWhole_whole _) (ms0_0 m t) (hs0_0 m t) (ms0_1 m t) (hs0_1 m t)
    (ms0_2 m t) (hs0_2 m t) mS (Memref.isWhole_whole _) (ms0_3 m t) (hs0_3 m t) (ms0_4 m t) (hs0_4 m t) mG (Memref.isWhole_whole _)
    mE (Memref.isWhole_whole _) mA (Memref.isWhole_whole _) mT (Memref.isWhole_whole _) cc0_scratch4

theorem defs₀_row (t : Fin (cfgM m).N) : defs₀ (F := F) .tc (cfgM m).body ((cfgM m).bodyArgs t ((cfgM m).slots t)) = bodyAt0 m t := by
  unfold defs₀; rw [Defs.onTc_tc]; rfl

theorem coords_val : ∀ t : Fin grid0.N, (grid0.coords t 0).val = t.val := by decide +kernel

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d)))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t))

theorem setG : mG.view.set = Finset.univ := View.set_whole _
theorem setA : mA.view.set = Finset.univ := View.set_whole _
theorem setT : mT.view.set = Finset.univ := View.set_whole _

theorem sound_body (hs : Sorted (ustM m) (uidM m)) (c : Dev nD) (t : Fin (cfgM m).N) :
    bodyPre m c t ⊢ wp frame (wpE (defs₀ (F := F)) Variants.none c none) Set.univ (bodyAt0 m t) (fun _ => bodyPost m c t) := by
  unfold bodyPre bodyPost bodyAt0
  rw [show (dats m 0 c).Φ t.succ = PhiAt m c (t.val + 1) from rfl, after0_0, after0_1, after0_2, after0_3, after0_4]
  rw [show (dats m 0 c).Φ t.castSucc = PhiAt m c t.val from rfl]
  simp only [before0_0, before0_1, before0_2]
  unfold Dat.owesAt Pipeline.owesWithin
  rw [show (dats m 0 c).owed t.castSucc = 0 from rfl, show (dats m 0 c).owed t.succ = 0 from rfl]
  unfold PhiAt owns
  iintro ⟨⟨%f9, %E0, %f11, %f12, %hE0, H9, HE, H11, H12, Hu, Hid, HS, Hc, Hg⟩, ⟨%W, -, HW⟩, ⟨%d0, %X3, %hX3, H3⟩, ⟨%d1, %X4, %hX4, H4⟩, ⟨%d2, %X5, %hX5, H5⟩, ⟨%d3, %f7, -, H7⟩, ⟨%d4, %f8, -, H8⟩⟩
  iapply (wp_wand_r Idealize.ShloMosaic.frame (wpE (defs₀ (F := F)) Variants.none (c : Thread nD τ) none) Set.univ)
  isplitl [H3 H4 H5 H7 H8 H9 HE H11 H12 Hu Hid HS Hc HW]
  · iapply (body_run Variants.none c (grid0.coords t) (ms0_0 m t) (hs0_0 m t) (ms0_1 m t) (hs0_1 m t) (ms0_2 m t) (hs0_2 m t)
      (ms0_3 m t) (hs0_3 m t) (ms0_4 m t) (hs0_4 m t) mG (Memref.isWhole_whole _) mA (Memref.isWhole_whole _) mT (Memref.isWhole_whole _)
      X3 X4 X5 f7 f8 f9 f11 f12 (ustM m) (uidM m) hs (rowsM m c) E0 (fun h => hE0 (by rw [← coords_val t]; exact h)))
    rw [setG, setA, setT]
    isplitl [H3]; · iexact H3
    isplitl [H4]; · iexact H4
    isplitl [H5]; · iexact H5
    isplitl [H7]; · iexact H7
    isplitl [H8]; · iexact H8
    isplitl [H9]; · iexact H9
    isplitl [HE]; · iexact HE
    isplitl [H11]; · iexact H11
    isplitl [H12]; · iexact H12
    isplitl [Hu]; · iexact Hu
    isplitl [Hid]; · iexact Hid
    isplitl [HS]; · iexact HS
    isplitl [Hc]; · iexact Hc
    iexists W; iexact HW
  iintro %_ ⟨%g7, %g8, %g9, %g11, %g12, H3, H4, H5, H7, H8, H9, HE, H11, H12, Hu, Hid, HS, Hc, ⟨%W', HW⟩, %hv⟩
  rw [setG, setA, setT]
  isplitl [H9 HE H11 H12 Hu Hid HS Hc Hg]
  · iexists g9, _, g11, g12
    isplitr; swap
    · isplitl [H9]; · iexact H9
      isplitl [HE]; · iexact HE
      isplitl [H11]; · iexact H11
      isplitl [H12]; · iexact H12
      isplitl [Hu]; · iexact Hu
      isplitl [Hid]; · iexact Hid
      isplitl [HS]; · iexact HS
      isplitl [Hc]; · iexact Hc
      iexact Hg
    ipureintro; exact fun _ => rfl
  isplitl [HW]
  · iexists W'; isplitr; · ipureintro; exact fun _ _ => Or.inl trivial
    iexact HW
  isplitl [H3]; · iexists X3; isplitr; · ipureintro; exact hX3
                  iexact H3
  isplitl [H4]; · iexists X4; isplitr; · ipureintro; exact hX4
                  iexact H4
  isplitl [H5]; · iexists X5; isplitr; · ipureintro; exact hX5
                  iexact H5
  obtain ⟨hv7, hv8⟩ := hv
  rw [hX3, hX4, hX5] at hv7 hv8
  isplitl [H7]; · iexists g7; isplitr; · ipureintro; exact hv7
                  iexact H7
  iexists g8; isplitr; · ipureintro; exact hv8
  iexact H8

theorem body_obligation (hs : Sorted (ustM m) (uidM m)) (c : Dev nD) :
    BodyObligation (dats (F := F) m 0 c) (defs₀ (F := F)) Variants.none () Set.univ := fun t => by
  rw [bigSep_W0, bigSep_W0, defs₀_row]
  exact triple_restated (sound_body m hs c t) rfl .rfl fun _ => .rfl

/-! ### The run -/

set_option backward.isDefEq.respectTransparency.types false in
theorem run_main (hs : Sorted (ustM m) (uidM m)) : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m hs c).loose) (hshare := fun c => (dats m 0 c).share_full fun _ => rfl)
    (howed := fun _ _ => rfl) (V := V m) (hmain := hmain m Variants.none) (hA := A_eq m) (hpf := V_pre m)
    (hin := phi_in m) (hout := fun c => phi_out m c _)

theorem kept (r : PUnit × MemSt nD τ sig (Elt F)) (h : Pipeline.FramePost (Pipeline.pin pcfgs fun _ => adm m) (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(h c).2 main_arg0 (Pipeline.mem_restRefs_of (win := spec0) main_arg0 (by decide) (by decide)),
   (h c).2 main_arg1 (Pipeline.mem_restRefs_of (win := spec0) main_arg1 (by decide) (by decide)),
   ((h c).1 0).trans (((dats m 0 c).arrAt_in 0 rfl _).trans (A_eq m c 0)),
   ((h c).1 1).trans (((dats m 0 c).arrAt_in 1 rfl _).trans (A_eq m c 1)),
   ((h c).1 2).trans (((dats m 0 c).arrAt_in 2 rfl _).trans (A_eq m c 2)),
   (h c).2 main_arg5 (Pipeline.mem_restRefs_of (win := spec0) main_arg5 (by decide) (by decide))⟩

/-- The kernel's frame: the run ends, the six arguments are as launched, every semaphore is at zero. -/
theorem frame_run (hs : Sorted (ustM m) (uidM m)) : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run defs _ _).mono (fun r h => ⟨kept m r h.1, h.2⟩) (run_main m ρ hs)

/-! ### The two results, block by block -/

theorem idx_inj3 : ∀ t t' : Fin (cfgM m).N, ((cfgM m).win 3).index t = ((cfgM m).win 3).index t' → t = t' :=
  (by decide +kernel : ∀ t t' : Fin grid0.N, cc0_transform_4 (grid0.coords t) = cc0_transform_4 (grid0.coords t') → t = t')
theorem idx_inj4 : ∀ t t' : Fin (cfgM m).N, ((cfgM m).win 4).index t = ((cfgM m).win 4).index t' → t = t' :=
  (by decide +kernel : ∀ t t' : Fin grid0.N, cc0_transform_5 (grid0.coords t) = cc0_transform_5 (grid0.coords t') → t = t')

theorem disjoint3 : ∀ t t' : Fin (cfgM m).N, ((cfgM m).win 3).flush t = true → ((cfgM m).win 3).flush t' = true → t ≠ t' →
    Disjoint (((cfgM m).win 3).blk t).view.set (((cfgM m).win 3).blk t').view.set :=
  fun t t' _ _ hne => ((cfgM m).win 3).disjoint_blk fun h => hne (idx_inj3 m t t' h)
theorem disjoint4 : ∀ t t' : Fin (cfgM m).N, ((cfgM m).win 4).flush t = true → ((cfgM m).win 4).flush t' = true → t ≠ t' →
    Disjoint (((cfgM m).win 4).blk t).view.set (((cfgM m).win 4).blk t').view.set :=
  fun t t' _ _ hne => ((cfgM m).win 4).disjoint_blk fun h => hne (idx_inj4 m t t' h)

theorem blocks3 (c : Dev nD) (t : Fin (cfgM m).N) (hf : ((cfgM m).win 3).flush t = true) :
    (((cfgM m).win 3).blk t).view.read (Elt F) ((dats m 0 c).arrAt 3 (cfgM m).N) = codesAt m c t :=
  ((dats m 0 c).read_blk_arrAt_eq_flushed 3 (disjoint3 m) (cfgM m).N t t.isLt hf).trans rfl
theorem blocks4 (c : Dev nD) (t : Fin (cfgM m).N) (hf : ((cfgM m).win 4).flush t = true) :
    (((cfgM m).win 4).blk t).view.read (Elt F) ((dats m 0 c).arrAt 4 (cfgM m).N) = scaleAt m c t :=
  ((dats m 0 c).read_blk_arrAt_eq_flushed 4 (disjoint4 m) (cfgM m).N t t.isLt hf).trans rfl

end Cert.KernelIdeal.Hand
-- ==== Proof.Frames.lean ====
/-
  THE FRAMES: the kernel, read at either instance, and the reference run to their ends, keep their arguments and leave every
  semaphore at zero.
-/
module

public import proofs.«01_k».proof.Defs
public import proofs.«01_k».proof.Proof.Pre
public import proofs.«01_k».proof.Proof.KFrame
public import proofs.«01_k».proof.Proof.KIFrame
public import proofs.«01_k».proof.Proof.Gen.ReferenceIdeal.Frame

@[expose] public section

noncomputable section

namespace Cert.Proof

open Idealize.ShloMosaic Idealize.SL.Sem

theorem quiescent_kernel : Cert.quiescent_Kernel (hKernel := Cert.Kernel.Gen.facts) (hPre_tables_sorted := Cert.Pre_tables_sorted.Gen.facts) :=
  fun m g hp => Cert.Kernel.Hand.frame_run m g (Cert.Tables.sorted_of_fn _ _ _ _ _ _ (hp 0))

theorem quiescent_kernelIdeal : Cert.quiescent_KernelIdeal (hKernelIdeal := Cert.KernelIdeal.Gen.facts) (hPre_tables_sorted := Cert.Pre_tables_sorted.Gen.facts) :=
  fun m g hp => Cert.KernelIdeal.Hand.frame_run m g (Cert.Tables.sorted_of_fn _ _ _ _ _ _ (hp 0))

theorem quiescent_referenceIdeal : Cert.quiescent_ReferenceIdeal (hReferenceIdeal := Cert.ReferenceIdeal.Gen.facts) :=
  fun m g _ => Cert.ReferenceIdeal.Gen.frame m g

end Cert.Proof

end
-- ==== Proof.Scale.lean ====
/-
  THE SCALE, scalar by scalar: the kernel builds a group's power of two and its reciprocal out of the words of the floats, the
  reference by `exp2`; on every extended real the two agree.
-/
module

public import Idealize.ShloMosaic.Lib.Pointwise
public import Idealize.ShloMosaic.Lib.Tactic
public import Idealize.ShloMosaic.PureOps.Ideal

@[expose] public section

set_option maxRecDepth 8192

noncomputable section

namespace Cert.Scale

open Idealize.ShloMosaic

/-- The float whose exponent field is `k + 1` and whose other bits are zero, as the kernel builds it. -/
def T (k : Fin 255) : EReal := Ideal.ofBits .f32 (IntOp.shli ArithUnit.vector (IntOp.addi (BitVec.ofNat 32 k.val) 1#32) 23#32)

/-- How many of those are not above `y`. -/
def cnt (y : EReal) : ℕ := (Finset.univ.filter fun k : Fin 255 => ¬ y < T k).card

/-- The word of the scale, of the exponent field `n`. -/
def word (n : BitVec 32) : BitVec 32 :=
  Scalar.select (IntOp.cmpi CmpIPredicate.slt (IntOp.shli ArithUnit.vector n 23#32) 8388608#32) 1065353216#32
    (IntOp.addi (IntOp.andi (IntOp.shli ArithUnit.vector n 23#32) 2139095040#32) 8388608#32)

def kScale (y : EReal) : EReal := Ideal.ofBits .f32 (word (BitVec.ofNat 32 (cnt y)))
def kInv (y : EReal) : EReal := Ideal.ofBits .f32 (IntOp.subi 2130706432#32 (word (BitVec.ofNat 32 (cnt y))))

/-- The reference's count of the powers of two not above `y`. -/
def rCnt (y : EReal) : EReal :=
  ∑ j : Fin 253, if Ideal.exp2 (((j.val : ℝ) : EReal) - Ideal.ofBits .f32 1123811328#32) ≤ y then 1 else 0
def rScale (y : EReal) : EReal :=
  if y < Ideal.ofBits .f32 8388608#32 then 1
  else if y < Ideal.ofBits .f32 2130706432#32 then Ideal.exp2 (rCnt y - Ideal.ofBits .f32 1123811328#32)
  else if y < Ideal.ofBits .f32 2139095040#32 then Ideal.ofBits .f32 2139095040#32 else 0
def rInv (y : EReal) : EReal :=
  if y < Ideal.ofBits .f32 8388608#32 then 1
  else if y < Ideal.ofBits .f32 2122317824#32 then Ideal.exp2 (Ideal.ofBits .f32 1123811328#32 - rCnt y)
  else if y < Ideal.ofBits .f32 2130706432#32 then 0
  else if y < Ideal.ofBits .f32 2139095040#32 then Ideal.ofBits .f32 4286578688#32 else Ideal.ofBits .f32 4278190080#32

/-! ### The words -/

theorem bits_fin : ∀ e : Fin 256, ((BitVec.ofNat 32 (e.val * 2 ^ 23)).extractLsb' 23 8).toNat = e.val
    ∧ ((BitVec.ofNat 32 (e.val * 2 ^ 23)).extractLsb' 0 23).toNat = 0 ∧ (BitVec.ofNat 32 (e.val * 2 ^ 23)).extractLsb' 31 1 = 0#1 := by
  decide +kernel

/-- The float of exponent field `e` is `2 ^ (e - 127)`. -/
theorem ofBits_pow (e : ℕ) (h1 : 1 ≤ e) (h2 : e ≤ 254) :
    Ideal.ofBits .f32 (BitVec.ofNat 32 (e * 2 ^ 23)) = (((2 : ℝ) ^ ((e : ℤ) - 127) : ℝ) : EReal) := by
  obtain ⟨a, b, d⟩ := bits_fin ⟨e, by omega⟩
  simp only at a b d
  show Ideal.ieee 8 23 _ = _
  unfold Ideal.ieee
  simp only [show (8 + 23 : ℕ) = 31 from rfl, a, b, d]
  rw [if_neg (by omega), if_neg (by omega)]
  congr 1
  have : ((e : ℤ) - (2 ^ (8 - 1) - 1) - (23 : ℕ)) = ((e : ℤ) - 127) + (-23) := by norm_num; ring
  rw [this, zpow_add₀ (by norm_num)]
  simp
  norm_num
  ring

theorem ofBits_top : Ideal.ofBits .f32 2139095040#32 = ⊤ := by simp [Ideal.ofBits, Ideal.ieee]
theorem ofBits_bot : Ideal.ofBits .f32 4286578688#32 = ⊥ := by simp [Ideal.ofBits, Ideal.ieee]
theorem ofBits_negzero : Ideal.ofBits .f32 2147483648#32 = 0 := by simp [Ideal.ofBits, Ideal.ieee]
theorem ofBits_zero : Ideal.ofBits .f32 0#32 = 0 := by simp [Ideal.ofBits, Ideal.ieee]
theorem ofBits_126 : Ideal.ofBits .f32 1123811328#32 = ((126 : ℝ) : EReal) := by
  simp [Ideal.ofBits, Ideal.ieee, -EReal.coe_mul]; norm_num

theorem T_word : ∀ k : Fin 255, IntOp.shli ArithUnit.vector (IntOp.addi (BitVec.ofNat 32 k.val) 1#32) 23#32 = BitVec.ofNat 32 ((k.val + 1) * 2 ^ 23) := by
  decide +kernel

theorem word_zero : word (BitVec.ofNat 32 0) = BitVec.ofNat 32 (127 * 2 ^ 23) := by decide +kernel
theorem word_fin : ∀ e : Fin 256, 1 ≤ e.val → word (BitVec.ofNat 32 e.val) = BitVec.ofNat 32 ((e.val + 1) * 2 ^ 23) := by decide +kernel
theorem inv_zero : IntOp.subi 2130706432#32 (word (BitVec.ofNat 32 0)) = BitVec.ofNat 32 (127 * 2 ^ 23) := by decide +kernel
theorem inv_fin : ∀ e : Fin 254, 1 ≤ e.val → IntOp.subi 2130706432#32 (word (BitVec.ofNat 32 e.val)) = BitVec.ofNat 32 ((253 - e.val) * 2 ^ 23) := by decide +kernel
theorem inv_253 : IntOp.subi 2130706432#32 (word (BitVec.ofNat 32 253)) = 0#32 := by decide +kernel
theorem inv_254 : IntOp.subi 2130706432#32 (word (BitVec.ofNat 32 254)) = 4286578688#32 := by decide +kernel
theorem inv_255 : IntOp.subi 2130706432#32 (word (BitVec.ofNat 32 255)) = 4278190080#32 := by decide +kernel

theorem T_pow (k : Fin 255) (h : k.val ≤ 253) : T k = (((2 : ℝ) ^ ((k.val : ℤ) - 126) : ℝ) : EReal) := by
  unfold T
  rw [T_word, ofBits_pow _ (by omega) (by omega)]
  congr 2
  push_cast; ring
theorem T_top : T ⟨254, by omega⟩ = ⊤ := by unfold T; rw [T_word]; exact ofBits_top

theorem T_mono (k k' : Fin 255) (h : k ≤ k') : T k ≤ T k' := by
  have hk := k.isLt; have hk' := k'.isLt
  by_cases h' : k'.val ≤ 253
  · have hle : k.val ≤ k'.val := h
    rw [T_pow k (by omega), T_pow k' h']
    exact EReal.coe_le_coe_iff.mpr (zpow_le_zpow_right₀ (by norm_num) (by omega))
  · have e : k' = ⟨254, by omega⟩ := Fin.ext (by show k'.val = 254; omega)
    rw [e, T_top]; exact le_top

/-! ### The count decides every comparison -/

theorem cnt_le (y : EReal) : cnt y ≤ 255 := by
  unfold cnt; exact (Finset.card_le_univ _).trans (by simp)

/-- `T k` is not above `y` just when `k` is below the count. -/
theorem le_iff (y : EReal) (k : Fin 255) : T k ≤ y ↔ k.val < cnt y := by
  constructor
  · intro h
    have hsub : (Finset.univ.filter fun j : Fin 255 => j ≤ k) ⊆ Finset.univ.filter fun j : Fin 255 => ¬ y < T j := fun j hj => by
      simp only [Finset.mem_filter, Finset.mem_univ, _root_.true_and] at hj ⊢
      exact not_lt.mpr ((T_mono j k hj).trans h)
    have := Finset.card_le_card hsub
    have hc : (Finset.univ.filter fun j : Fin 255 => j ≤ k).card = k.val + 1 := by
      rw [show (Finset.univ.filter fun j : Fin 255 => j ≤ k) = Finset.Iic k from by ext; simp]; simp
    unfold cnt; omega
  · intro h
    by_contra hn
    have hsub : (Finset.univ.filter fun j : Fin 255 => ¬ y < T j) ⊆ Finset.univ.filter fun j : Fin 255 => j < k := fun j hj => by
      simp only [Finset.mem_filter, Finset.mem_univ, _root_.true_and] at hj ⊢
      by_contra hjk
      exact hj ((not_le.mp hn).trans_le (T_mono k j (not_lt.mp hjk)))
    have := Finset.card_le_card hsub
    have hc : (Finset.univ.filter fun j : Fin 255 => j < k).card = k.val := by
      rw [show (Finset.univ.filter fun j : Fin 255 => j < k) = Finset.Iio k from by ext; simp]; simp
    unfold cnt at h; omega

theorem lt_iff (y : EReal) (k : Fin 255) : y < T k ↔ cnt y ≤ k.val := by
  rw [← not_le, le_iff]; omega

theorem wc0 : IntOp.shli ArithUnit.vector (IntOp.addi (BitVec.ofNat 32 0) 1#32) 23#32 = 8388608#32 := by decide +kernel
theorem c0 (y : EReal) : y < Ideal.ofBits .f32 8388608#32 ↔ cnt y ≤ 0 := by
  have h := lt_iff y ⟨0, by omega⟩
  rw [T, wc0] at h
  exact h
theorem wc252 : IntOp.shli ArithUnit.vector (IntOp.addi (BitVec.ofNat 32 252) 1#32) 23#32 = 2122317824#32 := by decide +kernel
theorem c252 (y : EReal) : y < Ideal.ofBits .f32 2122317824#32 ↔ cnt y ≤ 252 := by
  have h := lt_iff y ⟨252, by omega⟩
  rw [T, wc252] at h
  exact h
theorem wc253 : IntOp.shli ArithUnit.vector (IntOp.addi (BitVec.ofNat 32 253) 1#32) 23#32 = 2130706432#32 := by decide +kernel
theorem c253 (y : EReal) : y < Ideal.ofBits .f32 2130706432#32 ↔ cnt y ≤ 253 := by
  have h := lt_iff y ⟨253, by omega⟩
  rw [T, wc253] at h
  exact h
theorem wc254 : IntOp.shli ArithUnit.vector (IntOp.addi (BitVec.ofNat 32 254) 1#32) 23#32 = 2139095040#32 := by decide +kernel
theorem c254 (y : EReal) : y < Ideal.ofBits .f32 2139095040#32 ↔ cnt y ≤ 254 := by
  have h := lt_iff y ⟨254, by omega⟩
  rw [T, wc254] at h
  exact h

theorem exp2_sub (a b : ℤ) : Ideal.exp2 (((a : ℝ) : EReal) - ((b : ℝ) : EReal)) = (((2 : ℝ) ^ (a - b) : ℝ) : EReal) := by
  rw [← EReal.coe_sub, Ideal.exp2_coe, Real.rpow_eq_pow, ← Int.cast_sub, Real.rpow_intCast]

theorem rCnt_eq (y : EReal) (h : cnt y ≤ 253) : rCnt y = ((((cnt y : ℕ) : ℤ) : ℝ) : EReal) := by
  have hj : ∀ j : Fin 253, (if Ideal.exp2 (((j.val : ℝ) : EReal) - Ideal.ofBits .f32 1123811328#32) ≤ y then (1 : EReal) else 0)
      = if j.val < cnt y then 1 else 0 := fun j => by
    have e : Ideal.exp2 (((j.val : ℝ) : EReal) - Ideal.ofBits .f32 1123811328#32) = T ⟨j.val, by omega⟩ := by
      rw [ofBits_126, T_pow _ (by show j.val ≤ 253; omega)]
      have := exp2_sub j.val 126
      simpa using this
    simp only [e, le_iff]
  unfold rCnt
  rw [Finset.sum_congr rfl fun j _ => hj j]
  rw [Finset.sum_boole]
  have hc : (Finset.univ.filter fun j : Fin 253 => j.val < cnt y).card = cnt y := by
    rw [Fin.card_filter_val_lt]; omega
  rw [hc]; simp

theorem scale_eq (y : EReal) : kScale y = rScale y := by
  unfold kScale rScale
  have hle := cnt_le y
  simp only [c0, c253, c254]
  by_cases h0 : cnt y ≤ 0
  · rw [if_pos h0, show cnt y = 0 by omega, word_zero, ofBits_pow _ (by omega) (by omega)]; norm_num
  rw [if_neg h0, show word (BitVec.ofNat 32 (cnt y)) = BitVec.ofNat 32 ((cnt y + 1) * 2 ^ 23) from
    word_fin ⟨cnt y, by omega⟩ (by show 1 ≤ cnt y; omega)]
  by_cases h1 : cnt y ≤ 253
  · rw [if_pos h1, rCnt_eq y h1, ofBits_126, ofBits_pow _ (by omega) (by show cnt y + 1 ≤ 254; omega)]
    have := exp2_sub (cnt y : ℤ) 126
    norm_num at this ⊢
    rw [this]
    congr 2
    ring
  rw [if_neg h1]
  by_cases h2 : cnt y ≤ 254
  · rw [if_pos h2, show cnt y = 254 by omega, show BitVec.ofNat 32 ((254 + 1) * 2 ^ 23) = 2139095040#32 by decide +kernel]
  · rw [if_neg h2, show cnt y = 255 by omega, show BitVec.ofNat 32 ((255 + 1) * 2 ^ 23) = 2147483648#32 by decide +kernel]
    exact ofBits_negzero

theorem inv_eq (y : EReal) : kInv y = rInv y := by
  unfold kInv rInv
  have hle := cnt_le y
  simp only [c0, c252, c253, c254]
  by_cases h0 : cnt y ≤ 0
  · rw [if_pos h0, show cnt y = 0 by omega, inv_zero, ofBits_pow _ (by omega) (by omega)]; norm_num
  rw [if_neg h0]
  by_cases h1 : cnt y ≤ 252
  · rw [if_pos h1, rCnt_eq y (by omega), ofBits_126, inv_fin ⟨cnt y, by omega⟩ (by show 1 ≤ cnt y; omega),
      ofBits_pow _ (by show 1 ≤ 253 - cnt y; omega) (by show 253 - cnt y ≤ 254; omega)]
    have := exp2_sub 126 (cnt y : ℤ)
    rw [show ((126 : ℝ) : EReal) = (((126 : ℤ) : ℝ) : EReal) by norm_num, this]
    congr 2
    show ((253 - cnt y : ℕ) : ℤ) - 127 = _
    omega
  rw [if_neg h1]
  by_cases h2 : cnt y ≤ 253
  · rw [if_pos h2, show cnt y = 253 by omega, inv_253]
    exact ofBits_zero
  rw [if_neg h2]
  by_cases h3 : cnt y ≤ 254
  · rw [if_pos h3, show cnt y = 254 by omega, inv_254]
  · rw [if_neg h3, show cnt y = 255 by omega, inv_255]

/-- The kernel's sum of ones and zeros, a word, is the count. -/
theorem fold_count {n : ℕ} (p : Fin n → Prop) [DecidablePred p] :
    Finset.fold IntOp.addi (0#32) (fun x => if p x then 0#32 else 1#32) Finset.univ
      = BitVec.ofNat 32 (Finset.univ.filter fun x => ¬ p x).card := by
  have key : ∀ s : Finset (Fin n), Finset.fold IntOp.addi (0#32) (fun x => if p x then 0#32 else 1#32) s
      = BitVec.ofNat 32 (s.filter fun x => ¬ p x).card := fun s => by
    induction s using Finset.induction_on with
    | empty => rfl
    | insert a s ha ih =>
      rw [Finset.fold_insert ha, ih]
      by_cases hp : p a
      · rw [if_pos hp, Finset.filter_insert, if_neg (not_not.mpr hp)]
        show 0#32 + _ = _
        simp
      · rw [if_neg hp, Finset.filter_insert, if_pos hp, Finset.card_insert_of_notMem (by simp [ha])]
        show 1#32 + _ = _
        rw [Nat.add_comm, BitVec.ofNat_add]
  exact key _

/-! ### A group's scale and an entry's code -/

/-- The greatest magnitude of a group of 64. -/
def amax (g : Fin 64 → Ideal .f32) : Ideal .f32 :=
  Finset.fold max (Ideal.ofBits .f32 4286578688#32) (fun d => FloatOps.absf (g d)) Finset.univ
/-- Which, over 448, gives the scale. -/
def gy (g : Fin 64 → Ideal .f32) : EReal := amax g * Ideal.ofBits .f32 991054117#32
/-- An entry's code. -/
def code (x s : EReal) : EReal := min (Ideal.ofBits .f32 1138753536#32) (max (Ideal.ofBits .f32 3286237184#32) (x * s))

end Cert.Scale
-- ==== Proof.KPay.lean ====
/-
  WHAT A STEP OF THE KERNEL STORES, index by index over the extended reals: each code and each scale, in terms of the
  row's gradient values.
-/
module

public import proofs.«01_k».proof.Proof.KIBody
public import proofs.«01_k».proof.Proof.Scale

@[expose] public section

set_option maxRecDepth 8192

noncomputable section

namespace Cert.KernelIdeal.Hand

open Cert.KernelIdeal Cert.KernelIdeal.Gen Cert.Tables Cert.Scale
open Idealize.ShloMosaic Idealize.ShloMosaic.TcCoe Idealize.ShloMosaic.Tactic

/-! ### The payloads -/

theorem pay14_eq (x : FVec Ideal S8x256 .f32) (a : Fin 8) (b : Fin 256) :
    k0_pay14 x (ix3 a 0 b) = word (BitVec.ofNat 32 (cnt (x (ix2 a b) * Ideal.ofBits .f32 991054117#32))) := by
  have key : k0_pay14 x (ix3 a 0 b) = word (Finset.fold IntOp.addi (0#32) (fun k : Fin 255 => if x (ix2 a b) * Ideal.ofBits .f32 991054117#32
      < Ideal.ofBits .f32 (IntOp.shli ArithUnit.vector (IntOp.addi (BitVec.ofNat 32 k.val) 1#32) 23#32) then 0#32 else 1#32) Finset.univ) := by
    unfold word
    pointwise [k0_pay14]
  rw [key, fold_count]
  rfl

theorem pay17_eq (x : FVec Ideal S8x256 .f32) (a : Fin 8) (b : Fin 256) :
    k0_pay17 (k0_pay16 x) (ix2 a b) = kScale (x (ix2 a b) * Ideal.ofBits .f32 991054117#32) := by
  have key : k0_pay17 (k0_pay16 x) (ix2 a b) = Ideal.ofBits .f32 (k0_pay14 x (ix3 a 0 b)) := by
    pointwise [k0_pay16, k0_pay17]
  rw [key, pay14_eq]
  rfl

theorem pay13_eq (x : FVec Ideal S1x512x256 .f32) (y : FVec Ideal S256x512 .f32) (a : Fin 8) (b : Fin 256) :
    k0_pay13 x y (ix2 a b) = amax fun d => k0_pay12 x y (ix3 a d b) := by
  generalize hz : (amax fun d => k0_pay12 x y (ix3 a d b)) = z
  pointwise [k0_pay13]
  rw [← hz]
  rfl

theorem pay12_eq (x : FVec Ideal S1x512x256 .f32) (y : FVec Ideal S256x512 .f32) (a : Fin 8) (d : Fin 64) (b : Fin 256) :
    k0_pay12 x y (ix3 a d b) = x (ix3 0 ⟨a.val * 64 + d.val, by omega⟩ b) + y (ix2 b ⟨a.val * 64 + d.val, by omega⟩) := by
  pointwise [k0_pay12]

theorem pay15_eq (x : FVec Ideal S8x64x256 .f32) (y : FVec Ideal S8x256 .f32) (a : Fin 256) (b : Fin 512) :
    k0_pay15 x y (ix2 a b) = code (x (ix3 ⟨b.val / 64, by omega⟩ ⟨b.val % 64, by omega⟩ a))
      (kInv (y (ix2 ⟨b.val / 64, by omega⟩ a) * Ideal.ofBits .f32 991054117#32)) := by
  have key : k0_pay15 x y (ix2 a b) = min (Ideal.ofBits .f32 1138753536#32) (max (Ideal.ofBits .f32 3286237184#32)
      (x (ix3 ⟨b.val / 64, by omega⟩ ⟨b.val % 64, by omega⟩ a) * Ideal.ofBits .f32 (IntOp.subi 2130706432#32 (k0_pay14 y (ix3 ⟨b.val / 64, by omega⟩ 0 a))))) := by
    pointwise [k0_pay15]
  rw [key, pay14_eq]
  rfl

theorem pay9_eq (x : FVec Ideal S512x2048 .bf16) (y : FVec Ideal S1x2048x256 .bf16) (a : Fin 512) (b : Fin 256) :
    (k0_pay9 (F := Ideal) x y (ix3 0 a b) : EReal) = ∑ t, (x (ix2 a t) : EReal) * y (ix3 0 t b) := by
  pointwise [k0_pay9]

theorem pay67_eq (i : grid0.Coords) (x : FVec Ideal S2048x25 .f32) (y : FVec Ideal S2048x128 .fp8e5m2) (a : Fin 2048) (b : Fin 128) (l : Fin 25) (hl : (i 0).val = l.val) :
    (k0_pay67 (F := Ideal) i x y (ix3 0 a b) : EReal) = (y (ix2 a b) : EReal) * x (ix2 a l) := by
  have key : (k0_pay67 (F := Ideal) i x y (ix3 0 a b) : EReal) = (y (ix2 a b) : EReal) * ∑ j : Fin 25, Scalar.select (IntOp.cmpi .eq (BitVec.ofNat 32 j.val) (BitVec.ofNat 32 (i 0).val)) (x (ix2 a j) : EReal) 0 := by
    pointwise [k0_pay67, k0_pay66]
  rw [key, Finset.sum_eq_single l]
  · rw [hl]; simp [Scalar.select, IntOp.cmpi]
  · intro j _ hj
    have : ¬ BitVec.ofNat 32 j.val = BitVec.ofNat 32 (i 0).val := fun e => hj (Fin.ext (by
      have := congrArg BitVec.toNat e
      simp only [BitVec.toNat_ofNat] at this
      omega))
    have e : IntOp.cmpi .eq (BitVec.ofNat 32 j.val) (BitVec.ofNat 32 (i 0).val) = 0#1 := by
      show BitVec.ofBool (BitVec.ofNat 32 j.val == BitVec.ofNat 32 (i 0).val) = 0#1
      rw [beq_eq_false_iff_ne.mpr this]; rfl
    rw [e]; rfl
  · intro h; exact absurd (Finset.mem_univ l) h

theorem pay8_eq (x : FVec Ideal S56x256 .f32) (a : Fin 256) (b : Fin 56) : k0_pay8 x (ix2 a b) = x (ix2 b a) := by
  pointwise [k0_pay8]

/-! ### A step's blocks -/

variable (x5 : FVec Ideal S3584x2048 .bf16) (x9 : FVec Ideal S5x2048x256 .bf16) (e : FVec Ideal S1280x3584 .f32)

/-- The gradient of row `v` of the block, at column `d`. -/
def dOf (v : Fin 1280) (d : Fin 3584) : EReal :=
  (∑ t : Fin 2048, (x5 (ix2 d t) : EReal) * x9 (ix3 ⟨v.val / 256, by omega⟩ t ⟨v.val % 256, by omega⟩)) + e (ix2 v d)

theorem pay12_at (v : Fin 1280) (m : Fin 7) (a : Fin 8) (d : Fin 64) :
    k0_pay12 (accOf x5 x9 ⟨v.val / 256, by omega⟩ m) (eBlk e ⟨v.val / 256, by omega⟩ m) (ix3 a d ⟨v.val % 256, by omega⟩)
      = dOf x5 x9 e v ⟨(m.val * 8 + a.val) * 64 + d.val, by omega⟩ := by
  rw [pay12_eq]
  unfold accOf dOf
  rw [pay9_eq]
  congr 1
  · refine Finset.sum_congr rfl fun t _ => ?_
    congr 1
    unfold hBlk
    exact congrArg x5 (congrArg (fun q => ix2 q t) (Fin.ext (by show 512 * m.val + (a.val * 64 + d.val) = _; simp only; omega)))
  · unfold eBlk
    have e1 : (⟨256 * (v.val / 256) + v.val % 256, by omega⟩ : Fin 1280) = v := Fin.ext (by show 256 * (v.val / 256) + v.val % 256 = v.val; omega)
    have e2 : (⟨512 * m.val + (a.val * 64 + d.val), by omega⟩ : Fin 3584) = ⟨(m.val * 8 + a.val) * 64 + d.val, by omega⟩ := Fin.ext (by simp only; omega)
    exact congrArg e (congrArg₂ ix2 e1 e2)

theorem scaleOf_eq (v : Fin 1280) (c : Fin 56) :
    scaleOf x5 x9 e (ix2 v c) = kScale (gy fun d => dOf x5 x9 e v ⟨c.val * 64 + d.val, by omega⟩) := by
  unfold scaleOf
  refine (pay8_eq _ _ _).trans ?_
  unfold sctOf scaleQ
  refine (pay17_eq _ _ _).trans ?_
  refine (congrArg (fun q : EReal => kScale (q * Ideal.ofBits .f32 991054117#32)) (pay13_eq _ _ _ _)).trans ?_
  unfold gy
  refine congrArg (fun q => kScale (amax q * Ideal.ofBits .f32 991054117#32)) (funext fun d => ?_)
  refine (pay12_at x5 x9 e v ⟨c.val / 8, by omega⟩ ⟨c.val % 8, by omega⟩ d).trans ?_
  exact congrArg (dOf x5 x9 e v) (Fin.ext (by show (c.val / 8 * 8 + c.val % 8) * 64 + d.val = c.val * 64 + d.val; omega))

theorem codesOf_eq (v : Fin 1280) (c : Fin 3584) :
    codesOf x5 x9 e (ix2 v c) = code (dOf x5 x9 e v c) (kInv (gy fun d => dOf x5 x9 e v ⟨c.val / 64 * 64 + d.val, by omega⟩)) := by
  unfold codesOf codesQ
  refine (pay15_eq _ _ _ _).trans ?_
  rw [pay13_eq]
  have e1 := pay12_at x5 x9 e v ⟨c.val / 512, by omega⟩ ⟨c.val % 512 / 64, by omega⟩ ⟨c.val % 512 % 64, by omega⟩
  have e1' : dOf x5 x9 e v ⟨((c.val / 512) * 8 + (c.val % 512 / 64)) * 64 + c.val % 512 % 64, by omega⟩ = dOf x5 x9 e v c :=
    congrArg (dOf x5 x9 e v) (Fin.ext (by simp only; omega))
  refine congrArg₂ code (e1.trans e1') ?_
  unfold gy
  refine congrArg (fun q => kInv (amax q * Ideal.ofBits .f32 991054117#32)) (funext fun d => ?_)
  refine (pay12_at x5 x9 e v ⟨c.val / 512, by omega⟩ ⟨c.val % 512 / 64, by omega⟩ d).trans ?_
  exact congrArg (dOf x5 x9 e v) (Fin.ext (by show (c.val / 512 * 8 + c.val % 512 / 64) * 64 + d.val = c.val / 64 * 64 + d.val; omega))

/-- The dequantized gradient of the step's column of scales. -/
theorem gOf_eq (i : grid0.Coords) (x3 : FVec Ideal S2048x1280 .fp8e5m2) (x4 : FVec Ideal S2048x25 .f32) (l : Fin 25) (hl : (i 0).val = l.val) (v : Fin 1280) (t : Fin 2048) :
    (gOf (F := Ideal) i x3 x4 (ix3 ⟨v.val / 256, by omega⟩ t ⟨v.val % 256, by omega⟩) : EReal) = (x3 (ix2 t v) : EReal) * x4 (ix2 t l) := by
  unfold gOf
  refine (pay67_eq i x4 _ _ _ l hl).trans ?_
  refine congrArg (fun q : EReal => q * (x4 (ix2 t l) : EReal)) ?_
  unfold gCol
  exact congrArg x3 (congrArg (ix2 t) (Fin.ext (by
    show 128 * (2 * (v.val / 256) + v.val % 256 / 128) + v.val % 256 % 128 = v.val; omega)))

end Cert.KernelIdeal.Hand
-- ==== Proof.Spec.lean ====
/-
  WHAT BOTH PROGRAMS COMPUTE, element by element: the gradient of vocabulary row `v` at column `d` (`grad`: the contraction
  over the 2048 tokens plus the row of embeddings whose id is `v`), the code and the scale of its group of 64 columns.
-/
module

public import proofs.«01_k».proof.Proof.Scale
public import proofs.«01_k».proof.Proof.Tables

@[expose] public section

noncomputable section

namespace Cert.Spec

open Idealize.ShloMosaic Cert.Tables Cert.Scale

/-- The shapes of the arguments. -/
abbrev SS : Shape := ⟨2, ![2240, 3584]⟩
abbrev SH : Shape := ⟨2, ![3584, 2048]⟩
abbrev SQ : Shape := ⟨2, ![2048, 32000]⟩
abbrev SB : Shape := ⟨2, ![2048, 25]⟩

/-- The sum over the list's entries: entry `x` counts if its id is `v` and it lies between the first and the last boundary. -/
def embS (ust : IVec SU 32) (uid : IVec SD 32) (S : SS.Idx → EReal) (v : Fin 32000) (d : Fin 3584) : EReal :=
  ∑ x : Fin 2176, Scalar.select (IntOp.andi (IntOp.andi (IntOp.cmpi .eq (uid (ixD x)) (BitVec.ofNat 32 v.val))
      (IntOp.cmpi .sge (BitVec.ofNat 32 x.val) (ust (ix1 0)))) (IntOp.cmpi .slt (BitVec.ofNat 32 x.val) (ust (ix1 25))))
    (S (ix2 ⟨x.val, by omega⟩ d)) 0

variable (ust : IVec SU 32) (uid : IVec SD 32) (q : SQ.Idx → EReal) (s : SB.Idx → EReal) (h : SH.Idx → EReal) (S : SS.Idx → EReal)

/-- The gradient of row `v` at column `d`. -/
def grad (v : Fin 32000) (d : Fin 3584) : EReal :=
  (∑ t : Fin 2048, q (ix2 t v) * s (ix2 t ⟨v.val / 1280, by omega⟩) * h (ix2 d t)) + embS ust uid S v d

/-- The code of row `v` at column `d`, the scale of row `v`'s group `c` of 64 columns. -/
def codeAt (v : Fin 32000) (d : Fin 3584) : EReal :=
  code (grad ust uid q s h S v d) (rInv (gy fun k => grad ust uid q s h S v ⟨d.val / 64 * 64 + k.val, by omega⟩))
def scaleAt (v : Fin 32000) (c : Fin 56) : EReal :=
  rScale (gy fun k => grad ust uid q s h S v ⟨c.val * 64 + k.val, by omega⟩)

end Cert.Spec

end
-- ==== Proof.KEmbed.lean ====
/-
  THE ROWS ADDED BY A STEP ARE THE SUM OVER THE LIST: the copies of step `b` leave in row `v` the source's row of the entry
  whose id is `1280 b + v`, or zero; the sum over all entries between the first and the last boundary has that one term,
  because every entry between them lies in some block's run and a run's ids are distinct ids of its block.
-/
module

public import proofs.«01_k».proof.Proof.KICopies
public import proofs.«01_k».proof.Proof.Spec

@[expose] public section

noncomputable section

namespace Cert.KernelIdeal.Hand

open Cert.KernelIdeal Cert.KernelIdeal.Gen Cert.Tables Cert.Spec
open Idealize.ShloMosaic

variable {ust : IVec SU 32} {uid : IVec SD 32}

/-- An entry between the first and the last boundary lies in some block's run. -/
theorem run_of_mem (hs : Sorted ust uid) (u : ℕ) (h0 : lo ust 0 ≤ u) :
    ∀ n : ℕ, ∀ hn : n < 26, u < lo ust ⟨n, hn⟩ → ∃ c : Fin 25, lo ust c.castSucc ≤ u ∧ u < lo ust c.succ
  | 0, hn, h => absurd h (by show ¬ u < lo ust 0; omega)
  | n + 1, hn, h => by
    by_cases hc : u < lo ust ⟨n, by omega⟩
    · exact run_of_mem hs u h0 n (by omega) hc
    · exact ⟨⟨n, by omega⟩, by show lo ust ⟨n, _⟩ ≤ u; omega, h⟩

/-- The boundaries rise. -/
theorem lo_mono (hs : Sorted ust uid) (a : ℕ) (ha : a < 26) : ∀ d : ℕ, ∀ hd : a + d < 26, lo ust ⟨a, ha⟩ ≤ lo ust ⟨a + d, hd⟩
  | 0, hd => Nat.le_refl _
  | d + 1, hd => Nat.le_trans (lo_mono hs a ha d (by omega)) (hs.mono ⟨a + d, by omega⟩)

theorem lo_le (hs : Sorted ust uid) (a : ℕ) (ha : a < 26) : lo ust ⟨a, ha⟩ ≤ 2176 := by
  have h := lo_mono hs a ha (25 - a) (by omega)
  have e : (⟨a + (25 - a), by omega⟩ : Fin 26) = Fin.succ (24 : Fin 25) := Fin.ext (by show a + (25 - a) = 25; omega)
  rw [e] at h
  exact h.trans (hs.le 24)

/-- The condition of the sum, as a fact about natural numbers. -/
theorem cond_eq (hs : Sorted ust uid) (x : Fin 2176) (v : Fin 32000) (A B : EReal) :
    Scalar.select (IntOp.andi (IntOp.andi (IntOp.cmpi .eq (uid (ixD x)) (BitVec.ofNat 32 v.val))
        (IntOp.cmpi .sge (BitVec.ofNat 32 x.val) (ust (ix1 0)))) (IntOp.cmpi .slt (BitVec.ofNat 32 x.val) (ust (ix1 25)))) A B
      = if idAt uid x = v.val ∧ lo ust 0 ≤ x.val ∧ x.val < lo ust 25 then A else B := by
  have l0 : lo ust 0 ≤ 2176 := lo_le hs 0 (by omega)
  have l25 : lo ust 25 ≤ 2176 := lo_le hs 25 (by omega)
  have e1 : IntOp.cmpi .eq (uid (ixD x)) (BitVec.ofNat 32 v.val) = BitVec.ofBool (decide (idAt uid x = v.val)) := by
    show BitVec.ofBool (uid (ixD x) == BitVec.ofNat 32 v.val) = _
    refine congrArg BitVec.ofBool (Bool.eq_iff_iff.mpr ?_)
    rw [beq_iff_eq, decide_eq_true_iff]
    constructor
    · intro h; unfold idAt; rw [h, BitVec.toNat_ofNat]; omega
    · intro h; rw [← h]; exact (ofNat_toNat _).symm
  have hx : (BitVec.ofNat 32 x.val).toInt = x.val := WordArith.toInt_ofNat_small _ (by omega)
  have t0 : (ust (ix1 0)).toInt = lo ust 0 := by
    have := ofNat_toNat (ust (ix1 0))
    rw [← this]; exact WordArith.toInt_ofNat_small _ (by show lo ust 0 < 2 ^ 31; omega)
  have t25 : (ust (ix1 25)).toInt = lo ust 25 := by
    have := ofNat_toNat (ust (ix1 25))
    rw [← this]; exact WordArith.toInt_ofNat_small _ (by show lo ust 25 < 2 ^ 31; omega)
  have e2 : IntOp.cmpi .sge (BitVec.ofNat 32 x.val) (ust (ix1 0)) = BitVec.ofBool (decide (lo ust 0 ≤ x.val)) := by
    show BitVec.ofBool (BitVec.sle (ust (ix1 0)) (BitVec.ofNat 32 x.val)) = _
    refine congrArg BitVec.ofBool (Bool.eq_iff_iff.mpr ?_)
    rw [BitVec.sle_iff_toInt_le, decide_eq_true_iff, hx, t0]; omega
  have e3 : IntOp.cmpi .slt (BitVec.ofNat 32 x.val) (ust (ix1 25)) = BitVec.ofBool (decide (x.val < lo ust 25)) := by
    show BitVec.ofBool (BitVec.slt (BitVec.ofNat 32 x.val) (ust (ix1 25))) = _
    refine congrArg BitVec.ofBool (Bool.eq_iff_iff.mpr ?_)
    rw [BitVec.slt_iff_toInt_lt, decide_eq_true_iff, hx, t25]; omega
  rw [e1, e2, e3]
  by_cases h1 : idAt uid x = v.val <;> by_cases h2 : lo ust 0 ≤ x.val <;> by_cases h3 : x.val < lo ust 25 <;>
    simp [h1, h2, h3, IntOp.andi, Scalar.select]

/-- Row `v` of step `b`, at column `d`. -/
theorem emb_eq (hs : Sorted ust uid) (S : S2240x3584.Idx → Elt Ideal .f32) (b : Fin 25) (v : Fin 1280) (d : Fin 3584) :
    (embF (F := Ideal) uid (b.val * 1280) (lo ust b.castSucc) (lo ust b.succ - lo ust b.castSucc) S (ix2 v d) : EReal)
      = embS ust uid S ⟨b.val * 1280 + v.val, by omega⟩ d := by
  have hm := hs.mono b
  have hle := hs.le b
  have hr : Run uid (b.val * 1280) (lo ust b.castSucc) (lo ust b.succ - lo ust b.castSucc) :=
    { le := by omega
      block := fun u hu hl => hs.block b u hu (by omega)
      ne := fun u u' hu hl hu' hl' hne => hs.ne b u u' hu (by omega) hu' (by omega) hne }
  -- an entry of the list with this id, between the boundaries, lies in run `b`
  have hin : ∀ x : Fin 2176, idAt uid x = b.val * 1280 + v.val → lo ust 0 ≤ x.val → x.val < lo ust 25 →
      lo ust b.castSucc ≤ x.val ∧ x.val < lo ust b.succ := by
    intro x hx h0 h25
    obtain ⟨c, hc, hc'⟩ := run_of_mem hs x.val h0 25 (by omega) h25
    have hb := hs.block c x hc hc'
    have : c = b := Fin.ext (by have := v.isLt; omega)
    subst this; exact ⟨hc, hc'⟩
  have h0 : lo ust 0 ≤ lo ust b.castSucc := by
    have h := lo_mono hs 0 (by omega) b.val (by omega)
    have e : (⟨0 + b.val, by omega⟩ : Fin 26) = b.castSucc := Fin.ext (by show 0 + b.val = b.val; omega)
    rw [e] at h; exact h
  have h25 : lo ust b.succ ≤ lo ust 25 := by
    have h := lo_mono hs (b.val + 1) (by omega) (24 - b.val) (by omega)
    have e : (⟨b.val + 1 + (24 - b.val), by omega⟩ : Fin 26) = 25 := Fin.ext (by show b.val + 1 + (24 - b.val) = 25; omega)
    rw [e] at h; exact h
  unfold embS
  by_cases hex : ∃ x : Fin 2176, idAt uid x = b.val * 1280 + v.val ∧ lo ust b.castSucc ≤ x.val ∧ x.val < lo ust b.succ
  · obtain ⟨x, hx, hxl, hxu⟩ := hex
    rw [Finset.sum_eq_single x]
    · refine Eq.trans ?_ ((cond_eq hs x ⟨b.val * 1280 + v.val, by omega⟩ _ _).trans (if_pos ⟨hx, by omega, by omega⟩)).symm
      have hrow : rowAt uid (b.val * 1280) (lo ust b.castSucc + (x.val - lo ust b.castSucc)) = ((ix2 v d : S1280x3584.Idx) 0).val := by
        unfold rowAt
        rw [dif_pos (show lo ust b.castSucc + (x.val - lo ust b.castSucc) < 2176 by omega)]
        have e : (⟨lo ust b.castSucc + (x.val - lo ust b.castSucc), by omega⟩ : Fin 2176) = x := Fin.ext (by simp only; omega)
        rw [e, hx]; show b.val * 1280 + v.val - b.val * 1280 = v.val; omega
      refine (embF_row hr S (ix2 v d) (x.val - lo ust b.castSucc) (by omega) hrow).trans ?_
      exact congrArg S (congrArg (fun a => ix2 a d) (Fin.ext (by simp only; omega)))
    · intro x' _ hne
      refine (cond_eq hs x' ⟨b.val * 1280 + v.val, by omega⟩ _ _).trans (if_neg ?_)
      rintro ⟨hx', h0', h25'⟩
      obtain ⟨hl, hu⟩ := hin x' hx' h0' h25'
      exact hs.ne b x' x hl hu hxl hxu hne (hx'.trans hx.symm)
    · intro h; exact absurd (Finset.mem_univ x) h
  · rw [Finset.sum_eq_zero]
    · refine (embF_rest S (ix2 v d) ?_).trans Ideal.ofBits_zero_f32
      intro t ht he
      refine hex ⟨⟨lo ust b.castSucc + t, by omega⟩, ?_, by simp only; omega, by simp only; omega⟩
      unfold rowAt at he
      rw [dif_pos (show lo ust b.castSucc + t < 2176 by omega)] at he
      have hb := hr.block ⟨lo ust b.castSucc + t, by omega⟩ (by simp only; omega) (by simp only; omega)
      have he' : v.val = idAt uid ⟨lo ust b.castSucc + t, by omega⟩ - b.val * 1280 := he
      omega
    · intro x _
      refine (cond_eq hs x ⟨b.val * 1280 + v.val, by omega⟩ _ _).trans (if_neg ?_)
      rintro ⟨hx, h0', h25'⟩
      exact hex ⟨x, hx, hin x hx h0' h25'⟩

end Cert.KernelIdeal.Hand

end
-- ==== Proof.KValue.lean ====
/-
  THE KERNEL'S RESULTS, element by element: what its run leaves in the two results is the code and the scale of `Spec`.
-/
module

public import proofs.«01_k».proof.Proof.KIFrame
public import proofs.«01_k».proof.Proof.KPay
public import proofs.«01_k».proof.Proof.KEmbed
public import Idealize.ShloMosaic.Lib.Pipeline.ValueKit

@[expose] public section

set_option maxRecDepth 8192

noncomputable section

namespace Cert.KernelIdeal.Hand

open Cert.KernelIdeal Cert.KernelIdeal.Gen Cert.Scale Cert.Tables
open Idealize.ShloMosaic Idealize.ShloMosaic.TcCoe Idealize.ShloMosaic.Tactic Idealize.SL.Sem
open Idealize.ShloMosaic.Pipeline (Dat Window)

variable (m : (ℓ : Loc nD τ sig) → Buf (Elt Ideal) ℓ) (ρ : Dev nD → PrngReg)

/-! ### The blocks at an index -/

theorem idx0 : ∀ t : Fin (cfgM m).N, ((cfgM m).win 0).index t = ![0, t.val] :=
  (by decide +kernel : ∀ t : Fin grid0.N, cc0_transform_0 (grid0.coords t) = ![0, t.val])
theorem idx1 : ∀ t : Fin (cfgM m).N, ((cfgM m).win 1).index t = ![0, 0] :=
  (by decide +kernel : ∀ t : Fin grid0.N, cc0_transform_1 (grid0.coords t) = ![0, 0])
theorem idx2 : ∀ t : Fin (cfgM m).N, ((cfgM m).win 2).index t = ![0, 0] :=
  (by decide +kernel : ∀ t : Fin grid0.N, cc0_transform_2 (grid0.coords t) = ![0, 0])
theorem idx3 : ∀ t : Fin (cfgM m).N, ((cfgM m).win 3).index t = ![t.val, 0] :=
  (by decide +kernel : ∀ t : Fin grid0.N, cc0_transform_4 (grid0.coords t) = ![t.val, 0])
theorem idx4 : ∀ t : Fin (cfgM m).N, ((cfgM m).win 4).index t = ![t.val, 0] :=
  (by decide +kernel : ∀ t : Fin grid0.N, cc0_transform_5 (grid0.coords t) = ![t.val, 0])

/-- Every step writes its two blocks back. -/
theorem flush3 : ∀ t : Fin (cfgM m).N, ((cfgM m).win 3).flush t = true :=
  (by decide +kernel : ∀ t : Fin grid0.N, Window.flushOf grid0 true cc0_transform_4 t = true)
theorem flush4 : ∀ t : Fin (cfgM m).N, ((cfgM m).win 4).flush t = true :=
  (by decide +kernel : ∀ t : Fin grid0.N, Window.flushOf grid0 true cc0_transform_5 t = true)

theorem rd0 (c : Dev nD) (t : Fin (cfgM m).N) (ht : t.val < 25) (k : Fin 2048) (v : Fin 1280) :
    iblk m c 0 t (ix2 k v) = V m c main_arg2 (ix2 k (⟨t.val * 1280 + v.val, by omega⟩ : Fin 32000)) := by
  show V m c main_arg2 ((((cfgM m).win 0).blk t).view.emb (ix2 k v)) = _
  refine congrArg (V m c main_arg2) (funext fun a => Fin.ext ?_)
  refine (Window.rect_emb_val ((cfgM m).win 0) t (ix2 k v) a).trans ?_
  rw [idx0]
  match a with
  | ⟨0, _⟩ => show 0 * 2048 + k.val = k.val; omega
  | ⟨1, _⟩ => rfl

theorem rd1 (c : Dev nD) (t : Fin (cfgM m).N) (k : Fin 2048) (l : Fin 25) :
    iblk m c 1 t (ix2 k l) = V m c main_arg3 (ix2 k l) := by
  show V m c main_arg3 ((((cfgM m).win 1).blk t).view.emb (ix2 k l)) = _
  refine congrArg (V m c main_arg3) (funext fun a => Fin.ext ?_)
  refine (Window.rect_emb_val ((cfgM m).win 1) t (ix2 k l) a).trans ?_
  rw [idx1]
  match a with
  | ⟨0, _⟩ => show 0 * 2048 + k.val = k.val; omega
  | ⟨1, _⟩ => show 0 * 25 + l.val = l.val; omega

theorem rd2 (c : Dev nD) (t : Fin (cfgM m).N) (d : Fin 3584) (k : Fin 2048) :
    iblk m c 2 t (ix2 d k) = V m c main_arg4 (ix2 d k) := by
  show V m c main_arg4 ((((cfgM m).win 2).blk t).view.emb (ix2 d k)) = _
  refine congrArg (V m c main_arg4) (funext fun a => Fin.ext ?_)
  refine (Window.rect_emb_val ((cfgM m).win 2) t (ix2 d k) a).trans ?_
  rw [idx2]
  match a with
  | ⟨0, _⟩ => show 0 * 3584 + d.val = d.val; omega
  | ⟨1, _⟩ => show 0 * 2048 + k.val = k.val; omega

/-! ### What a step leaves -/

/-- The specification over this program's arguments. -/
abbrev gradK (c : Dev nD) : Fin 32000 → Fin 3584 → EReal :=
  Spec.grad (ustM m) (uidM m) (V m c main_arg2) (V m c main_arg3) (V m c main_arg4) (V m c main_arg5)
abbrev codeK (c : Dev nD) : Fin 32000 → Fin 3584 → EReal :=
  Spec.codeAt (ustM m) (uidM m) (V m c main_arg2) (V m c main_arg3) (V m c main_arg4) (V m c main_arg5)
abbrev scaleK (c : Dev nD) : Fin 32000 → Fin 56 → EReal :=
  Spec.scaleAt (ustM m) (uidM m) (V m c main_arg2) (V m c main_arg3) (V m c main_arg4) (V m c main_arg5)

/-- Row `v` of step `t` is row `1280 t + v` of the gradient. -/
theorem dOf_step (hs : Sorted (ustM m) (uidM m)) (c : Dev nD) (t : Fin (cfgM m).N) (w : Fin 32000) (v : Fin 1280) (hw : w.val = t.val * 1280 + v.val) (d : Fin 3584) :
    dOf (iblk m c 2 t) (gOf (grid0.coords t) (iblk m c 0 t) (iblk m c 1 t)) (embAt m c (grid0.coords t)) v d = gradK m c w d := by
  have hb : (grid0.coords t 0).val < 25 := (grid0.coords t 0).isLt
  have hbt : (grid0.coords t 0).val = t.val := coords_val t
  have ht : t.val < 25 := hbt ▸ hb
  unfold dOf gradK Spec.grad
  refine congrArg₂ (fun x y : EReal => x + y) (Finset.sum_congr rfl fun k _ => ?_) ?_
  · refine (congrArg₂ (fun x y : EReal => x * y) (rd2 m c t d k) (gOf_eq (grid0.coords t) (iblk m c 0 t) (iblk m c 1 t) ⟨(grid0.coords t 0).val, hb⟩ rfl v k)).trans ?_
    refine (mul_comm _ _).trans (congrArg (fun x : EReal => x * _) ?_)
    refine congrArg₂ (fun x y : EReal => x * y) ((rd0 m c t ht k v).trans ?_) ((rd1 m c t k _).trans ?_)
    · exact congrArg (fun q => V m c main_arg2 (ix2 k q)) (Fin.ext hw.symm)
    · exact congrArg (fun q => V m c main_arg3 (ix2 k q)) (Fin.ext (by show (grid0.coords t 0).val = w.val / 1280; omega))
  · refine (emb_eq hs (rowsM m c) ⟨(grid0.coords t 0).val, hb⟩ v d).trans ?_
    exact congrArg (fun q => Spec.embS (ustM m) (uidM m) (rowsM m c) q d) (Fin.ext (by show (grid0.coords t 0).val * 1280 + v.val = w.val; omega))

theorem codes_step (hs : Sorted (ustM m) (uidM m)) (c : Dev nD) (t : Fin (cfgM m).N) (w : Fin 32000) (v : Fin 1280) (hw : w.val = t.val * 1280 + v.val) (d : Fin 3584) :
    codesAt m c t (ix2 v d) = codeK m c w d := by
  unfold codesAt codeK Spec.codeAt
  refine (codesOf_eq _ _ _ v d).trans ?_
  refine congrArg₂ code (dOf_step m hs c t w v hw d) ((inv_eq _).trans (congrArg (fun f => rInv (gy f)) (funext fun k => ?_)))
  exact dOf_step m hs c t w v hw _

theorem scale_step (hs : Sorted (ustM m) (uidM m)) (c : Dev nD) (t : Fin (cfgM m).N) (w : Fin 32000) (v : Fin 1280) (hw : w.val = t.val * 1280 + v.val) (d : Fin 56) :
    scaleAt m c t (ix2 v d) = scaleK m c w d := by
  unfold scaleAt scaleK Spec.scaleAt
  refine (scaleOf_eq _ _ _ v d).trans ?_
  refine (scale_eq _).trans (congrArg (fun f => rScale (gy f)) (funext fun k => ?_))
  exact dOf_step m hs c t w v hw _

/-! ### The two results after the run -/

theorem points (n : ℕ) (h : n < 32000) : n / 1280 < grid0.N := by
  have : grid0.N = 25 := by decide
  omega

theorem emb3 (t : Fin (cfgM m).N) (v : Fin 1280) (d : Fin 3584) (i : S32000x3584.Idx) (h0 : (i 0).val = t.val * 1280 + v.val) (h1 : (i 1).val = d.val) :
    (((cfgM m).win 3).blk t).view.emb (ix2 v d) = i := by
  refine funext fun a => Fin.ext ?_
  refine (Window.rect_emb_val ((cfgM m).win 3) t (ix2 v d) a).trans ?_
  rw [idx3]
  match a with
  | ⟨0, _⟩ => exact h0.symm
  | ⟨1, _⟩ => show 0 * 3584 + d.val = (i 1).val; omega

/-- An array whose block at step `t` holds `G`, at an index of that block. -/
theorem of_blk3 (c : Dev nD) (t : Fin (cfgM m).N) (A : S32000x3584.Idx → EReal) (G : S1280x3584.Idx → EReal)
    (h : (((cfgM m).win 3).blk t).view.read (Elt Ideal) A = G)
    (v : Fin 1280) (i : S32000x3584.Idx) (h0 : (i 0).val = t.val * 1280 + v.val) : A i = G (ix2 v (i 1)) := by
  have e := congrFun h (ix2 v (i 1))
  have e' : A ((((cfgM m).win 3).blk t).view.emb (ix2 v (i 1))) = G (ix2 v (i 1)) := e
  exact (congrArg A (emb3 m t v (i 1) i h0 rfl).symm).trans e'

theorem arr3_at (hs : Sorted (ustM m) (uidM m)) (c : Dev nD) (t : Fin (cfgM m).N) (v : Fin 1280) (i : S32000x3584.Idx) (h0 : (i 0).val = t.val * 1280 + v.val) :
    (dats m 0 c).arrAt 3 (cfgM m).N i = codeK m c (i 0) (i 1) := by
  have e1 := of_blk3 m c t _ _ (blocks3 m c t (flush3 m t)) v i h0
  have e2 := codes_step m hs c t (i 0) v h0 (i 1)
  exact e1.trans e2

theorem arr3 (hs : Sorted (ustM m) (uidM m)) (c : Dev nD) : (dats m 0 c).arrAt 3 (cfgM m).N = fun (i : S32000x3584.Idx) => codeK m c (i 0) (i 1) :=
  funext fun (i : S32000x3584.Idx) =>
    arr3_at m hs c ⟨(i 0).val / 1280, points _ (i 0).isLt⟩ ⟨(i 0).val % 1280, Nat.mod_lt _ (by omega)⟩ i (by simp only; omega)

theorem emb4 (t : Fin (cfgM m).N) (v : Fin 1280) (d : Fin 56) (i : S32000x56.Idx) (h0 : (i 0).val = t.val * 1280 + v.val) (h1 : (i 1).val = d.val) :
    (((cfgM m).win 4).blk t).view.emb (ix2 v d) = i := by
  refine funext fun a => Fin.ext ?_
  refine (Window.rect_emb_val ((cfgM m).win 4) t (ix2 v d) a).trans ?_
  rw [idx4]
  match a with
  | ⟨0, _⟩ => exact h0.symm
  | ⟨1, _⟩ => show 0 * 56 + d.val = (i 1).val; omega

/-- An array whose block at step `t` holds `G`, at an index of that block. -/
theorem of_blk4 (c : Dev nD) (t : Fin (cfgM m).N) (A : S32000x56.Idx → EReal) (G : S1280x56.Idx → EReal)
    (h : (((cfgM m).win 4).blk t).view.read (Elt Ideal) A = G)
    (v : Fin 1280) (i : S32000x56.Idx) (h0 : (i 0).val = t.val * 1280 + v.val) : A i = G (ix2 v (i 1)) := by
  have e := congrFun h (ix2 v (i 1))
  have e' : A ((((cfgM m).win 4).blk t).view.emb (ix2 v (i 1))) = G (ix2 v (i 1)) := e
  exact (congrArg A (emb4 m t v (i 1) i h0 rfl).symm).trans e'

theorem arr4_at (hs : Sorted (ustM m) (uidM m)) (c : Dev nD) (t : Fin (cfgM m).N) (v : Fin 1280) (i : S32000x56.Idx) (h0 : (i 0).val = t.val * 1280 + v.val) :
    (dats m 0 c).arrAt 4 (cfgM m).N i = scaleK m c (i 0) (i 1) := by
  have e1 := of_blk4 m c t _ _ (blocks4 m c t (flush4 m t)) v i h0
  have e2 := scale_step m hs c t (i 0) v h0 (i 1)
  exact e1.trans e2

theorem arr4 (hs : Sorted (ustM m) (uidM m)) (c : Dev nD) : (dats m 0 c).arrAt 4 (cfgM m).N = fun (i : S32000x56.Idx) => scaleK m c (i 0) (i 1) :=
  funext fun (i : S32000x56.Idx) =>
    arr4_at m hs c ⟨(i 0).val / 1280, points _ (i 0).isLt⟩ ⟨(i 0).val % 1280, Nat.mod_lt _ (by omega)⟩ i (by simp only; omega)

/-- The run: the two results hold the codes and the scales, the arguments are as launched. -/
theorem run_values (hs : Sorted (ustM m) (uidM m)) : θ_run defs (onTc (τ := τ) (main (F := Ideal))) ⟨m, fun _ => 0, ρ⟩ fun r => ∀ c : Dev nD,
      r.2.mem ((c.tc : Thread nD τ).loc main_v0_0) = (fun i => codeK m c (i 0) (i 1))
      ∧ r.2.mem ((c.tc : Thread nD τ).loc main_v0_1) = (fun i => scaleK m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 3).trans (arr3 m hs c), ((h.1 c).1 4).trans (arr4 m hs c), kept m r h.1 c⟩)
    (run_main m ρ hs)

end Cert.KernelIdeal.Hand

end
-- ==== Proof.RPay.lean ====
/-
  WHAT THE REFERENCE'S KERNEL BODY STORES, index by index over the extended reals: a group's code and its scale.
-/
module

public import proofs.«01_k».proof.Proof.Gen.ReferenceIdeal.Skeleton
public import proofs.«01_k».proof.Proof.Scale

@[expose] public section

set_option maxRecDepth 8192

noncomputable section

namespace Cert.ReferenceIdeal.Value

open Cert.ReferenceIdeal Cert.ReferenceIdeal.Gen Cert.Scale
open Idealize.ShloMosaic Idealize.ShloMosaic.TcCoe Idealize.ShloMosaic.Tactic

variable (x0 : Vec Ideal S2048x32000 .fp8e5m2) (x1 : Vec Ideal S2048x32000 .bf16) (x2 : Vec Ideal S3584x2048 .bf16) (x3 : Vec Ideal S32000x3584 .f32)

theorem pay3_eq (a : Fin 32000) (b : Fin 56) (d : Fin 64) :
    k0_pay3 x0 x1 x2 x3 (ix3 a b d) = (∑ t, x0 (ix2 t a) * x1 (ix2 t a) * x2 (ix2 ⟨b.val * 64 + d.val, by omega⟩ t)) + x3 (ix2 a ⟨b.val * 64 + d.val, by omega⟩) := by
  pointwise [k0_pay3]

theorem p4a (g : FVec Ideal S32000x56x64 .f32) (a : Fin 32000) (b : Fin 56) : shapeCast S32000x56x1 (multiReduction .maximumf [2] S32000x56 (absf g) 0xFF800000#32 reduces_S32000x56x64_S32000x56 (.inl rfl) rfl) shapeCasts_S32000x56_S32000x56x1 (ix3 a b 0) = amax fun d => g (ix3 a b d) := by
  generalize hz : (amax fun d => g (ix3 a b d)) = z
  pointwise []
  rw [← hz]
  rfl

theorem p4b (v : FVec Ideal S32000x56x1 .f32) (a : Fin 32000) (b : Fin 56) : mulf v (broadcast S32000x56x1 (Scalar.ofBits .f32 0x3B124925#32 : Ideal .f32)) (ix3 a b 0) = v (ix3 a b 0) * Ideal.ofBits .f32 991054117#32 := rfl

theorem pay4_eq (a : Fin 32000) (b : Fin 56) : k0_pay4 x0 x1 x2 x3 (ix3 a b 0) = gy fun d => k0_pay3 x0 x1 x2 x3 (ix3 a b d) := by
  have e : k0_pay4 x0 x1 x2 x3 (ix3 a b 0) = _ := p4b (shapeCast S32000x56x1 (multiReduction .maximumf [2] S32000x56 (absf (k0_pay3 x0 x1 x2 x3)) 0xFF800000#32 reduces_S32000x56x64_S32000x56 (.inl rfl) rfl) shapeCasts_S32000x56_S32000x56x1) a b
  rw [e, p4a]
  rfl

theorem p5 (y : FVec Ideal S32000x56x1 .f32) (a : Fin 32000) (b : Fin 56) (z : EReal) : rCnt (y (ix3 a b 0)) = z →
   (shapeCast S32000x56x1 (multiReduction .add [2] S32000x56 (select (cmpf .oge (broadcastTo S32000x56x253 y broadcasts_S32000x56x1_S32000x56x253)
      (exp2 (subf (sitofp .f32 (iota .tc S32000x56x253 32 [2] iota_S32000x56x253_d2_w32)) (broadcast S32000x56x253 (Scalar.ofBits .f32 0x42FC0000#32 : Ideal .f32)))))
      (broadcast S32000x56x253 (Scalar.ofBits .f32 0x3F800000#32 : Ideal .f32)) (broadcast S32000x56x253 (Scalar.ofBits .f32 0x00000000#32 : Ideal .f32))) 0x00000000#32 reduces_S32000x56x253_S32000x56 (.inl rfl) rfl) shapeCasts_S32000x56_S32000x56x1) (ix3 a b 0) = z := by
  pointwise []
  have e : ∀ x : Fin 253, (FloatOps.sitofp FTy.f32 (BitVec.ofNat 32 x.val) : Ideal .f32) = (((x.val : ℝ)) : EReal) := fun x => by
    show (((BitVec.ofNat 32 x.val).toInt : ℝ) : EReal) = _
    have : (BitVec.ofNat 32 x.val).toInt = (x.val : ℤ) := by
      rw [BitVec.toInt_eq_toNat_of_lt] <;> simp <;> omega
    rw [this]; simp
  simp only [e, show ∀ x : Ideal .f32, FloatOps.exp2 x = Ideal.exp2 x from fun _ => rfl]
  exact id
theorem pay5_eq (a : Fin 32000) (b : Fin 56) : k0_pay5 x0 x1 x2 x3 (ix3 a b 0) = rCnt (k0_pay4 x0 x1 x2 x3 (ix3 a b 0)) := p5 (k0_pay4 x0 x1 x2 x3) a b _ rfl

theorem p2 (y n : FVec Ideal S32000x56x1 .f32) (a : Fin 32000) (b : Fin 56) (z : EReal) :
(if (y (ix3 a b 0)) < Ideal.ofBits .f32 8388608#32 then 1
  else if (y (ix3 a b 0)) < Ideal.ofBits .f32 2130706432#32 then Ideal.exp2 ((n (ix3 a b 0)) - Ideal.ofBits .f32 1123811328#32)
  else if (y (ix3 a b 0)) < Ideal.ofBits .f32 2139095040#32 then Ideal.ofBits .f32 2139095040#32 else 0) = z →
    k0_pay2 (cmpf .olt y (broadcast S32000x56x1 (Scalar.ofBits .f32 0x00800000#32 : Ideal .f32))) (cmpf .olt y (broadcast S32000x56x1 (Scalar.ofBits .f32 0x7F000000#32 : Ideal .f32)))
     (exp2 (subf n (broadcast S32000x56x1 (Scalar.ofBits .f32 0x42FC0000#32 : Ideal .f32)))) (cmpf .olt y (broadcast S32000x56x1 (Scalar.ofBits .f32 0x7F800000#32 : Ideal .f32))) k0_pay10 k0_pay11 (ix2 a b) = z := by
  pointwise [k0_pay2, k0_pay10, k0_pay11]
  rw [show ∀ x : Ideal .f32, FloatOps.exp2 x = Ideal.exp2 x from fun _ => rfl]
  exact id

theorem pay2_eq (a : Fin 32000) (b : Fin 56) :
    k0_pay2 (k0_pay6 x0 x1 x2 x3) (k0_pay7 x0 x1 x2 x3) (k0_pay8 x0 x1 x2 x3) (k0_pay9 x0 x1 x2 x3) k0_pay10 k0_pay11 (ix2 a b)
      = rScale (k0_pay4 x0 x1 x2 x3 (ix3 a b 0)) := by
  refine p2 (k0_pay4 x0 x1 x2 x3) (k0_pay5 x0 x1 x2 x3) a b _ ?_
  rw [pay5_eq]
  unfold rScale
  rfl

theorem fexp2 (x : Ideal .f32) : FloatOps.exp2 x = Ideal.exp2 x := rfl
theorem p1 (x0 : FVec Ideal S32000x56x64 .f32) (x1 : FVec Ideal S32000x56x1 .f32) (x2 : FVec Ideal S32000x56x1 .f32) (a : Fin 32000) (b : Fin 3584) (z : EReal)
   : code (x0 (ix3 a ⟨b.val / 64, by omega⟩ ⟨b.val % 64, by omega⟩)) (
  if (x1 (ix3 a ⟨b.val / 64, by omega⟩ 0)) < Ideal.ofBits .f32 8388608#32 then 1
  else if (x1 (ix3 a ⟨b.val / 64, by omega⟩ 0)) < Ideal.ofBits .f32 2122317824#32 then Ideal.exp2 (Ideal.ofBits .f32 1123811328#32 - x2 (ix3 a ⟨b.val / 64, by omega⟩ 0))
  else if (x1 (ix3 a ⟨b.val / 64, by omega⟩ 0)) < Ideal.ofBits .f32 2130706432#32 then 0
  else if (x1 (ix3 a ⟨b.val / 64, by omega⟩ 0)) < Ideal.ofBits .f32 2139095040#32 then Ideal.ofBits .f32 4286578688#32 else Ideal.ofBits .f32 4278190080#32) = z → k0_pay1 x0 x1 x2 (ix2 a b) = z := by
  pointwise [k0_pay1]
  rw [fexp2]; unfold code
  exact id

theorem pay1_eq (a : Fin 32000) (b : Fin 3584) :
    k0_pay1 (k0_pay3 x0 x1 x2 x3) (k0_pay4 x0 x1 x2 x3) (k0_pay5 x0 x1 x2 x3) (ix2 a b)
      = code (k0_pay3 x0 x1 x2 x3 (ix3 a ⟨b.val / 64, by omega⟩ ⟨b.val % 64, by omega⟩)) (rInv (k0_pay4 x0 x1 x2 x3 (ix3 a ⟨b.val / 64, by omega⟩ 0))) := by
  refine p1 (k0_pay3 x0 x1 x2 x3) (k0_pay4 x0 x1 x2 x3) (k0_pay5 x0 x1 x2 x3) a b _ ?_
  rw [pay5_eq]
  unfold rInv
  rfl

end Cert.ReferenceIdeal.Value
-- ==== Proof.RefValue.lean ====
/-
  THE REFERENCE'S RESULTS, element by element: what its run leaves in the two results is the code and the scale of `Spec`.
-/
module

public import proofs.«01_k».proof.Proof.RPay
public import proofs.«01_k».proof.Proof.Spec
public import proofs.«01_k».proof.Proof.Gen.ReferenceIdeal.Frame
public import Idealize.ShloMosaic.Lib.StableHlo.ReadAt
public import Idealize.ShloMosaic.Lib.Pipeline.ValueKit

@[expose] public section

set_option maxRecDepth 8192

noncomputable section

namespace Cert.ReferenceIdeal.Value

open Cert.ReferenceIdeal Cert.ReferenceIdeal.Gen Cert.Scale Cert.Tables Cert.Spec
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-! ### The two arrays the host computes first -/

theorem V3 (c : Dev nD) (t : Fin 2048) (v : Fin 32000) : V m c main_v3 (ix2 t v) = m ((c : Thread nD τ).loc main_arg3) (ix2 t ⟨v.val / 1280, by omega⟩) := by
  show StableHlo.after (List.flatten [hostOps0, hostOps0_1, hostOps0_2]) (fun b => m (c, b)) (Proc.devRef .tc main_v3) (ix2 t v) = _
  after_reads_at

theorem V22z (c : Dev nD) (v : Fin 32000) (d : Fin 3584) (z : EReal)
    (hz : embS (m ((c : Thread nD τ).loc main_arg0)) (m ((c : Thread nD τ).loc main_arg1)) (m ((c : Thread nD τ).loc main_arg5)) v d = z) :
    (V m c main_v22 (ix2 v d) : EReal) = z := by
  show (StableHlo.after (List.flatten [hostOps0, hostOps0_1, hostOps0_2]) (fun b => m (c, b)) (Proc.devRef .tc main_v22) (ix2 v d) : EReal) = _
  after_reads_at
  rw [← hz]
  rfl

theorem V22 (c : Dev nD) (v : Fin 32000) (d : Fin 3584) :
    (V m c main_v22 (ix2 v d) : EReal) = embS (m ((c : Thread nD τ).loc main_arg0)) (m ((c : Thread nD τ).loc main_arg1)) (m ((c : Thread nD τ).loc main_arg5)) v d :=
  V22z m c v d _ rfl

/-! ### The blocks of the one step are the arrays -/

theorem zero_idx : ∀ (t : Fin cfg0.N), win0_0.index t = ![0, 0] ∧ win0_1.index t = ![0, 0] ∧ win0_2.index t = ![0, 0] ∧ win0_3.index t = ![0, 0] :=
  (by decide +kernel : ∀ t : Fin grid0.N, _)

theorem whole0 (c : Dev nD) (t : Fin cfg0.N) : iblk m c 0 t = V m c main_arg2 := by
  funext y; blk_ext [iblk, (zero_idx t).1]
theorem whole1 (c : Dev nD) (t : Fin cfg0.N) : iblk m c 1 t = V m c main_v3 := by
  funext y; blk_ext [iblk, (zero_idx t).2.1]
theorem whole2 (c : Dev nD) (t : Fin cfg0.N) : iblk m c 2 t = V m c main_arg4 := by
  funext y; blk_ext [iblk, (zero_idx t).2.2.1]
theorem whole3 (c : Dev nD) (t : Fin cfg0.N) : iblk m c 3 t = V m c main_v22 := by
  funext y; blk_ext [iblk, (zero_idx t).2.2.2]

/-! ### The payloads over the arrays -/

/-- The specification over this program's arguments. -/
abbrev gradR (c : Dev nD) : Fin 32000 → Fin 3584 → EReal :=
  grad (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev codeR (c : Dev nD) : Fin 32000 → Fin 3584 → EReal :=
  codeAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev scaleR (c : Dev nD) : Fin 32000 → Fin 56 → EReal :=
  Spec.scaleAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem pay3_V (c : Dev nD) (a : Fin 32000) (b : Fin 56) (d : Fin 64) :
    k0_pay3 (V m c main_arg2) (V m c main_v3) (V m c main_arg4) (V m c main_v22) (ix3 a b d) = gradR m c a ⟨b.val * 64 + d.val, by omega⟩ := by
  refine (pay3_eq _ _ _ _ a b d).trans ?_
  unfold gradR grad
  refine congrArg₂ (fun x y : EReal => x + y) (Finset.sum_congr rfl fun t _ => ?_) (V22 m c a _)
  refine congrArg₂ (fun x y : EReal => x * y) (congrArg₂ (fun x y : EReal => x * y) ?_ (V3 m c t a)) ?_
  · rw [V_main_arg2]
  · rw [V_main_arg4]

theorem pay4_V (c : Dev nD) (a : Fin 32000) (b : Fin 56) :
    k0_pay4 (V m c main_arg2) (V m c main_v3) (V m c main_arg4) (V m c main_v22) (ix3 a b 0) = gy fun d => gradR m c a ⟨b.val * 64 + d.val, by omega⟩ := by
  refine (pay4_eq _ _ _ _ a b).trans (congrArg gy (funext fun d => ?_))
  exact pay3_V m c a b d

theorem pay1_V (c : Dev nD) (a : Fin 32000) (b : Fin 3584) :
    k0_pay1 (k0_pay3 (V m c main_arg2) (V m c main_v3) (V m c main_arg4) (V m c main_v22)) (k0_pay4 (V m c main_arg2) (V m c main_v3) (V m c main_arg4) (V m c main_v22))
      (k0_pay5 (V m c main_arg2) (V m c main_v3) (V m c main_arg4) (V m c main_v22)) (ix2 a b) = codeR m c a b := by
  refine (pay1_eq _ _ _ _ a b).trans ?_
  unfold codeR codeAt
  refine congrArg₂ code ((pay3_V m c a _ _).trans ?_) (congrArg rInv (pay4_V m c a _))
  exact congrArg (gradR m c a) (Fin.ext (by simp only; omega))

theorem pay2_V (c : Dev nD) (a : Fin 32000) (b : Fin 56) :
    k0_pay2 (k0_pay6 (V m c main_arg2) (V m c main_v3) (V m c main_arg4) (V m c main_v22)) (k0_pay7 (V m c main_arg2) (V m c main_v3) (V m c main_arg4) (V m c main_v22))
      (k0_pay8 (V m c main_arg2) (V m c main_v3) (V m c main_arg4) (V m c main_v22)) (k0_pay9 (V m c main_arg2) (V m c main_v3) (V m c main_arg4) (V m c main_v22))
      k0_pay10 k0_pay11 (ix2 a b) = scaleR m c a b := by
  refine (pay2_eq _ _ _ _ a b).trans ?_
  unfold scaleR Spec.scaleAt
  exact congrArg rScale (pay4_V m c a b)

/-! ### What the step leaves -/

theorem out4_V (c : Dev nD) (t : Fin cfg0.N) (a : Fin 32000) (b : Fin 3584) : (dats m 0 c).after 4 t (ix2 a b) = codeR m c a b := by
  rw [after0_4, whole0, whole1, whole2, whole3]
  unfold out0_4
  rw [View.canon_unit_zero (by decide)]
  unfold r0_0 r0_1 r0_2
  rw [View.ld_unit_zero (by decide), View.ld_unit_zero (by decide), View.ld_unit_zero (by decide), View.ld_unit_zero (by decide)]
  exact pay1_V m c a b

theorem out5_V (c : Dev nD) (t : Fin cfg0.N) (a : Fin 32000) (b : Fin 56) : (dats m 0 c).after 5 t (ix2 a b) = scaleR m c a b := by
  rw [after0_5, whole0, whole1, whole2, whole3]
  unfold out0_5
  rw [View.canon_unit_zero (by decide)]
  unfold r0_0 r0_1 r0_2
  rw [View.ld_unit_zero (by decide), View.ld_unit_zero (by decide), View.ld_unit_zero (by decide), View.ld_unit_zero (by decide)]
  exact pay2_V m c a b

/-! ### The two results after the run -/

theorem arr4 (c : Dev nD) : (dats m 0 c).arrAt 4 cfg0.N = fun i => codeR m c (i 0) (i 1) := by
  refine (dats m 0 c).arrAt_eq_of_after_last 4 ⟨0, by decide⟩ (by decide +kernel) _ fun j => ?_
  refine Eq.trans ?_ (out4_V m c ⟨0, by decide⟩ (j 0) (j 1))
  refine congrArg ((dats m 0 c).after 4 ⟨0, by decide⟩) ?_
  exact funext fun a => by match a with | ⟨0, _⟩ => rfl | ⟨1, _⟩ => rfl

theorem arr5 (c : Dev nD) : (dats m 0 c).arrAt 5 cfg0.N = fun i => scaleR m c (i 0) (i 1) := by
  refine (dats m 0 c).arrAt_eq_of_after_last 5 ⟨0, by decide⟩ (by decide +kernel) _ fun j => ?_
  refine Eq.trans ?_ (out5_V m c ⟨0, by decide⟩ (j 0) (j 1))
  refine congrArg ((dats m 0 c).after 5 ⟨0, by decide⟩) ?_
  exact funext fun a => by match a with | ⟨0, _⟩ => rfl | ⟨1, _⟩ => rfl

/-- The run leaves `main_arg0` as launched. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The run leaves `main_arg1` as launched. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run leaves `main_arg2` as launched. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 0).trans (((dats m 0 c).arrAt_in 0 rfl _).trans ((A_eq m c 0).trans (V_main_arg2 m c)))

/-- The run leaves `main_arg3` as launched. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run leaves `main_arg4` as launched. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 2).trans (((dats m 0 c).arrAt_in 2 rfl _).trans ((A_eq m c 2).trans (V_main_arg4 m c)))

/-- The run leaves `main_arg5` as launched. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run: the two results hold the codes and the scales, the arguments are as launched. -/
theorem run_values : θ_run defs (onTc (τ := τ) (main (F := Ideal))) ⟨m, fun _ => 0, ρ⟩ fun r => ∀ c : Dev nD,
      r.2.mem ((c : Thread nD τ).loc main_v23_0) = (fun i => codeR m c (i 0) (i 1))
      ∧ r.2.mem ((c : Thread nD τ).loc main_v23_1) = (fun i => scaleR m c (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 4).trans (arr4 m c), ((h c).1 5).trans (arr5 m c),
      kept_main_arg0 m r h c, kept_main_arg1 m r h c, kept_main_arg2 m r h c, kept_main_arg3 m r h c,
      kept_main_arg4 m r h c, kept_main_arg5 m r h c⟩)
    (run_main m ρ)

end Cert.ReferenceIdeal.Value

end
-- ==== Proof.Algebraic.lean ====
/-
  THE KERNEL AND THE REFERENCE AGREE: over the same arguments both leave, element by element, the code and the scale of
  `Spec` in their results.
-/
module

public import proofs.«01_k».proof.Defs
public import proofs.«01_k».proof.Proof.Pre
public import proofs.«01_k».proof.Proof.KValue
public import proofs.«01_k».proof.Proof.RefValue

@[expose] public section

noncomputable section

namespace Cert.Proof

open Idealize.ShloMosaic Idealize.SL.Sem

theorem algebraic : Cert.algebraic_KernelIdeal_ReferenceIdeal (hKernelIdeal := Cert.KernelIdeal.Gen.facts)
    (hReferenceIdeal := Cert.ReferenceIdeal.Gen.facts) (hPre_tables_sorted := Cert.Pre_tables_sorted.Gen.facts) := by
  intro m g m' g' hp ha
  have hs := Cert.Tables.sorted_of_fn _ _ _ _ _ _ (hp 0)
  refine ⟨fun c i => Cert.KernelIdeal.Hand.codeK m c (i 0) (i 1), fun c i => Cert.KernelIdeal.Hand.scaleK m c (i 0) (i 1),
    Cert.KernelIdeal.Hand.run_values m g hs, ?_⟩
  refine (θ_run _ _ _).mono (fun r h c => ?_) (Cert.ReferenceIdeal.Value.run_values m' g')
  obtain ⟨h0, h1, hk⟩ := h c
  obtain rfl : c = 0 := Subsingleton.elim _ _
  obtain ⟨a0, a1, a2, a3, a4, a5⟩ := ha 0
  refine ⟨h0.trans (funext fun i => ?_), h1.trans (funext fun i => ?_), hk⟩
  · show Cert.Spec.codeAt _ _ _ _ _ _ (i 0) (i 1) = Cert.Spec.codeAt _ _ _ _ _ _ (i 0) (i 1)
    congr 1
  · show Cert.Spec.scaleAt _ _ _ _ _ _ (i 0) (i 1) = Cert.Spec.scaleAt _ _ _ _ _ _ (i 0) (i 1)
    congr 1

end Cert.Proof

end
-- ==== Proof.lean ====
/-
  THE CLAIM, put together: the frames of `Proof.Frames` and the agreement of `Proof.Algebraic`.
-/
module

public import proofs.«01_k».proof.Defs
public import proofs.«01_k».proof.Proof.Frames
public import proofs.«01_k».proof.Proof.Algebraic

@[expose] public section

noncomputable section

theorem Cert.Proof.claim : Cert.Claim :=
  ⟨Cert.Kernel.Gen.facts, Cert.KernelIdeal.Gen.facts, Cert.ReferenceIdeal.Gen.facts, Cert.Pre_tables_sorted.Gen.facts,
    Cert.Proof.quiescent_kernel, Cert.Proof.quiescent_kernelIdeal, Cert.Proof.quiescent_referenceIdeal,
    fun m g _ => Cert.ReferenceIdeal.Gen.frame m g, trivial, Cert.Proof.algebraic⟩

end
